-- ==== Defs.lean ====
def Pre_Kernel [hPre_cache_fits : Cert.Pre_cache_fits.Facts] (m : (ℓ : Loc Cert.Kernel.nD Cert.Kernel.τ Cert.Kernel.sig) → Buf (Elt Bits) ℓ) : Prop :=
  ∀ c : Dev Cert.Kernel.nD,
    (Cert.Pre_cache_fits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_cache_fits : Cert.Pre_cache_fits.Facts] (m : (ℓ : Loc Cert.KernelIdeal.nD Cert.KernelIdeal.τ Cert.KernelIdeal.sig) → Buf (Elt Ideal) ℓ) : Prop :=
  ∀ c : Dev Cert.KernelIdeal.nD,
    (Cert.Pre_cache_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cache_fits [hPre_cache_fits : Cert.Pre_cache_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cache_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_cache_fits : Cert.Pre_cache_fits.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_cache_fits : Cert.Pre_cache_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_cache_fits [hReferenceIdeal : Cert.ReferenceIdeal.Facts] [hPre_cache_fits : Cert.Pre_cache_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cache_fits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_cache_fits : Cert.Pre_cache_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_cache_fits : Cert.Pre_cache_fits.Facts),
    quiescent_Kernel (hKernel := hKernel) (hPre_cache_fits := hPre_cache_fits)
    ∧ quiescent_KernelIdeal (hKernelIdeal := hKernelIdeal) (hPre_cache_fits := hPre_cache_fits)
    ∧ quiescent_ReferenceIdeal (hReferenceIdeal := hReferenceIdeal)
    ∧ quiescent_ReferenceIdeal_pre_cache_fits (hReferenceIdeal := hReferenceIdeal) (hPre_cache_fits := hPre_cache_fits)
    ∧ preserves_Kernel_KernelIdeal
    ∧ algebraic_KernelIdeal_ReferenceIdeal (hKernelIdeal := hKernelIdeal) (hReferenceIdeal := hReferenceIdeal) (hPre_cache_fits := hPre_cache_fits)
-- ==== Pre_cache_fits.lean ====
abbrev S128x1x32x512 : Shape := ⟨4, ![128, 1, 32, 512]⟩
abbrev S128x1x32x64 : Shape := ⟨4, ![128, 1, 32, 64]⟩
abbrev S128x1x512 : Shape := ⟨3, ![128, 1, 512]⟩
abbrev S128x1x64 : Shape := ⟨3, ![128, 1, 64]⟩
abbrev S128x2048x512 : Shape := ⟨3, ![128, 2048, 512]⟩
abbrev S128x2048x4 : Shape := ⟨3, ![128, 2048, 4]⟩
abbrev S128x2048x64 : Shape := ⟨3, ![128, 2048, 64]⟩
abbrev S128 : Shape := ⟨1, ![128]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S128x1x32x512 .bf16) (main_arg1 : FVec F S128x1x32x64 .bf16) (main_arg2 : FVec F S128x1x512 .bf16) (main_arg3 : FVec F S128x1x64 .bf16) (main_arg4 : FVec F S128x2048x512 .fp8e4m3) (main_arg5 : FVec F S128x2048x4 .f32) (main_arg6 : FVec F S128x2048x64 .bf16) (main_arg7 : IVec S128 32) : IVec S128 1 :=
  let main_c : IVec S_ 32 := constantI S_ 32 2048#32
  let main_v0 : IVec S128 32 := broadcastInDim S128 ![] bcast_S_S128 main_c
  let main_v1 : IVec S128 1 := cmpi .sle main_arg7 main_v0
  main_v1
-- ==== Kernel.lean ====
abbrev S128x1x32x512 : Shape := ⟨4, ![128, 1, 32, 512]⟩
abbrev S128x1x32x64 : Shape := ⟨4, ![128, 1, 32, 64]⟩
abbrev S128x1x512 : Shape := ⟨3, ![128, 1, 512]⟩
abbrev S128x1x64 : Shape := ⟨3, ![128, 1, 64]⟩
abbrev S128x2048x512 : Shape := ⟨3, ![128, 2048, 512]⟩
abbrev S128x2048x4 : Shape := ⟨3, ![128, 2048, 4]⟩
abbrev S128x2048x64 : Shape := ⟨3, ![128, 2048, 64]⟩
abbrev S128 : Shape := ⟨1, ![128]⟩
abbrev S128x32x512 : Shape := ⟨3, ![128, 32, 512]⟩
abbrev S128x32x64 : Shape := ⟨3, ![128, 32, 64]⟩
abbrev S128x4x2048 : Shape := ⟨3, ![128, 4, 2048]⟩
abbrev S128x64x2048 : Shape := ⟨3, ![128, 64, 2048]⟩
abbrev S1x32x512 : Shape := ⟨3, ![1, 32, 512]⟩
abbrev S1x32x64 : Shape := ⟨3, ![1, 32, 64]⟩
abbrev S1x1x512 : Shape := ⟨3, ![1, 1, 512]⟩
abbrev S1x1x64 : Shape := ⟨3, ![1, 1, 64]⟩
abbrev S1x2048x512 : Shape := ⟨3, ![1, 2048, 512]⟩
abbrev S1x4x2048 : Shape := ⟨3, ![1, 4, 2048]⟩
abbrev S1x64x2048 : Shape := ⟨3, ![1, 64, 2048]⟩
abbrev S32x2048 : Shape := ⟨2, ![32, 2048]⟩
abbrev S32x512 : Shape := ⟨2, ![32, 512]⟩
abbrev S1 : Shape := ⟨1, ![1]⟩
abbrev S32x64 : Shape := ⟨2, ![32, 64]⟩
abbrev S1x512 : Shape := ⟨2, ![1, 512]⟩
abbrev S32 : Shape := ⟨1, ![32]⟩
abbrev S32x1 : Shape := ⟨2, ![32, 1]⟩
abbrev S1x64 : Shape := ⟨2, ![1, 64]⟩
abbrev S32x128 : Shape := ⟨2, ![32, 128]⟩
abbrev S1x256x128 : Shape := ⟨3, ![1, 256, 128]⟩
abbrev S256x128 : Shape := ⟨2, ![256, 128]⟩
abbrev S32x256 : Shape := ⟨2, ![32, 256]⟩
abbrev S1x1x256 : Shape := ⟨3, ![1, 1, 256]⟩
abbrev S1x256 : Shape := ⟨2, ![1, 256]⟩
abbrev S1x64x256 : Shape := ⟨3, ![1, 64, 256]⟩
abbrev S64x256 : Shape := ⟨2, ![64, 256]⟩

abbrev nBuf : Space → Nat
  | .hbm => 12
  | .vmem => 18
  | .smem => 1
  | _ => 0

abbrev bufTy : (tb : Table) → Fin (tcTables nBuf tb) → BufTy
  | .hbm, ⟨0, _⟩ => ⟨S128x1x32x512, .bf16⟩
  | .hbm, ⟨1, _⟩ => ⟨S128x1x32x64, .bf16⟩
  | .hbm, ⟨2, _⟩ => ⟨S128x1x512, .bf16⟩
  | .hbm, ⟨3, _⟩ => ⟨S128x1x64, .bf16⟩
  | .hbm, ⟨4, _⟩ => ⟨S128x2048x512, .fp8e4m3⟩
  | .hbm, ⟨5, _⟩ => ⟨S128x2048x4, .f32⟩
  | .hbm, ⟨6, _⟩ => ⟨S128x2048x64, .bf16⟩
  | .hbm, ⟨7, _⟩ => ⟨S128x32x512, .bf16⟩
  | .hbm, ⟨8, _⟩ => ⟨S128x32x64, .bf16⟩
  | .hbm, ⟨9, _⟩ => ⟨S128x4x2048, .f32⟩
  | .hbm, ⟨10, _⟩ => ⟨S128x64x2048, .bf16⟩
  | .hbm, ⟨11, _⟩ => ⟨S128x32x512, .bf16⟩
  | .local _ .vmem, ⟨0, _⟩ => ⟨S1x32x512, .bf16⟩
  | .local _ .vmem, ⟨1, _⟩ => ⟨S1x32x512, .bf16⟩
  | .local _ .vmem, ⟨2, _⟩ => ⟨S1x32x64, .bf16⟩
  | .local _ .vmem, ⟨3, _⟩ => ⟨S1x32x64, .bf16⟩
  | .local _ .vmem, ⟨4, _⟩ => ⟨S1x1x512, .bf16⟩
  | .local _ .vmem, ⟨5, _⟩ => ⟨S1x1x512, .bf16⟩
  | .local _ .vmem, ⟨6, _⟩ => ⟨S1x1x64, .bf16⟩
  | .local _ .vmem, ⟨7, _⟩ => ⟨S1x1x64, .bf16⟩
  | .local _ .vmem, ⟨8, _⟩ => ⟨S1x2048x512, .fp8e4m3⟩
  | .local _ .vmem, ⟨9, _⟩ => ⟨S1x2048x512, .fp8e4m3⟩
  | .local _ .vmem, ⟨10, _⟩ => ⟨S1x4x2048, .f32⟩
  | .local _ .vmem, ⟨11, _⟩ => ⟨S1x4x2048, .f32⟩
  | .local _ .vmem, ⟨12, _⟩ => ⟨S1x64x2048, .bf16⟩
  | .local _ .vmem, ⟨13, _⟩ => ⟨S1x64x2048, .bf16⟩
  | .local _ .vmem, ⟨14, _⟩ => ⟨S1x32x512, .bf16⟩
  | .local _ .vmem, ⟨15, _⟩ => ⟨S1x32x512, .bf16⟩
  | .local _ .vmem, ⟨16, _⟩ => ⟨S32x2048, .f32⟩
  | .local _ .vmem, ⟨17, _⟩ => ⟨S32x512, .f32⟩
  | .local _ .smem, ⟨0, _⟩ => ⟨S128, .i32⟩
  | _, _ => ⟨S128x1x32x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_19 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_21 : BitVec 32 := 1#32
  ⟨c0_i32_19, v48, c1_i32_21⟩

def k0_mult1 (v1 : BitVec 32) (k0_t1 : Fin (k0_t1_loop v1).trips) : BitVec 32 :=
  let c0_i32_19 : BitVec 32 := 0#32
  let c1_i32_21 : BitVec 32 := 1#32
  let arg12 : BitVec 32 := Scf.iv c0_i32_19 c1_i32_21 k0_t1
  let c256_i32_44 : BitVec 32 := 256#32
  let v88 : BitVec 32 := Scalar.muli arg12 c256_i32_44
  v88
def k0_off2 (v1 : BitVec 32) (k0_t1 : Fin (k0_t1_loop v1).trips) : Fin 3 → Nat :=
  let c0_45 : Index := 0#32
  let c0_i32_19 : BitVec 32 := 0#32
  let c1_i32_21 : BitVec 32 := 1#32
  let arg12 : BitVec 32 := Scf.iv c0_i32_19 c1_i32_21 k0_t1
  let c256_i32_44 : BitVec 32 := 256#32
  let v88 : BitVec 32 := Scalar.muli arg12 c256_i32_44
  let v89 : BitVec 32 := v88
  let v91 : Index := Scalar.indexCast v89
  let c0_46 : Index := 0#32
  ![0, v91.toNat, 0]
def k0_off3 (v1 : BitVec 32) (k0_t1 : Fin (k0_t1_loop v1).trips) : Fin 3 → Nat :=
  let c0_48 : Index := 0#32
  let c0_49 : Index := 0#32
  let c0_i32_19 : BitVec 32 := 0#32
  let c1_i32_21 : BitVec 32 := 1#32
  let arg12 : BitVec 32 := Scf.iv c0_i32_19 c1_i32_21 k0_t1
  let c256_i32_44 : BitVec 32 := 256#32
  let v88 : BitVec 32 := Scalar.muli arg12 c256_i32_44
  let v89 : BitVec 32 := v88
  let v95 : Index := Scalar.indexCast v89
  ![0, 0, v95.toNat]
def k0_off4 (v1 : BitVec 32) (k0_t1 : Fin (k0_t1_loop v1).trips) : Fin 3 → Nat :=
  let c0_50 : Index := 0#32
  let c0_i32_19 : BitVec 32 := 0#32
  let c1_i32_21 : BitVec 32 := 1#32
  let arg12 : BitVec 32 := Scf.iv c0_i32_19 c1_i32_21 k0_t1
  let c256_i32_44 : BitVec 32 := 256#32
  let v88 : BitVec 32 := Scalar.muli arg12 c256_i32_44
  let v89 : BitVec 32 := v88
  let v101 : Index := Scalar.indexCast v89
  let c128 : Index := 128#32
  ![0, v101.toNat, 128]
def k0_off5 (v1 : BitVec 32) (k0_t1 : Fin (k0_t1_loop v1).trips) : Fin 3 → Nat :=
  let c0_52 : Index := 0#32
  let c1 : Index := 1#32
  let c0_i32_19 : BitVec 32 := 0#32
  let c1_i32_21 : BitVec 32 := 1#32
  let arg12 : BitVec 32 := Scf.iv c0_i32_19 c1_i32_21 k0_t1
  let c256_i32_44 : BitVec 32 := 256#32
  let v88 : BitVec 32 := Scalar.muli arg12 c256_i32_44
  let v89 : BitVec 32 := v88
  let v105 : Index := Scalar.indexCast v89
  ![0, 1, v105.toNat]
def k0_off6 (v1 : BitVec 32) (k0_t1 : Fin (k0_t1_loop v1).trips) : Fin 3 → Nat :=
  let c0_53 : Index := 0#32
  let c0_i32_19 : BitVec 32 := 0#32
  let c1_i32_21 : BitVec 32 := 1#32
  let arg12 : BitVec 32 := Scf.iv c0_i32_19 c1_i32_21 k0_t1
  let c256_i32_44 : BitVec 32 := 256#32
  let v88 : BitVec 32 := Scalar.muli arg12 c256_i32_44
  let v89 : BitVec 32 := v88
  let v112 : Index := Scalar.indexCast v89
  let c256 : Index := 256#32
  ![0, v112.toNat, 256]
def k0_off7 (v1 : BitVec 32) (k0_t1 : Fin (k0_t1_loop v1).trips) : Fin 3 → Nat :=
  let c0_55 : Index := 0#32
  let c2 : Index := 2#32
  let c0_i32_19 : BitVec 32 := 0#32
  let c1_i32_21 : BitVec 32 := 1#32
  let arg12 : BitVec 32 := Scf.iv c0_i32_19 c1_i32_21 k0_t1
  let c256_i32_44 : BitVec 32 := 256#32
  let v88 : BitVec 32 := Scalar.muli arg12 c256_i32_44
  let v89 : BitVec 32 := v88
  let v116 : Index := Scalar.indexCast v89
  ![0, 2, v116.toNat]
def k0_off8 (v1 : BitVec 32) (k0_t1 : Fin (k0_t1_loop v1).trips) : Fin 3 → Nat :=
  let c0_56 : Index := 0#32
  let c0_i32_19 : BitVec 32 := 0#32
  let c1_i32_21 : BitVec 32 := 1#32
  let arg12 : BitVec 32 := Scf.iv c0_i32_19 c1_i32_21 k0_t1
  let c256_i32_44 : BitVec 32 := 256#32
  let v88 : BitVec 32 := Scalar.muli arg12 c256_i32_44
  let v89 : BitVec 32 := v88
  let v123 : Index := Scalar.indexCast v89
  let c384 : Index := 384#32
  ![0, v123.toNat, 384]
def k0_off9 (v1 : BitVec 32) (k0_t1 : Fin (k0_t1_loop v1).trips) : Fin 3 → Nat :=
  let c0_58 : Index := 0#32
  let c3 : Index := 3#32
  let c0_i32_19 : BitVec 32 := 0#32
  let c1_i32_21 : BitVec 32 := 1#32
  let arg12 : BitVec 32 := Scf.iv c0_i32_19 c1_i32_21 k0_t1
  let c256_i32_44 : BitVec 32 := 256#32
  let v88 : BitVec 32 := Scalar.muli arg12 c256_i32_44
  let v89 : BitVec 32 := v88
  let v127 : Index := Scalar.indexCast v89
  ![0, 3, v127.toNat]
def k0_off10 (v1 : BitVec 32) (k0_t1 : Fin (k0_t1_loop v1).trips) : Fin 3 → Nat :=
  let c0_59 : Index := 0#32
  let c0_60 : Index := 0#32
  let c0_i32_19 : BitVec 32 := 0#32
  let c1_i32_21 : BitVec 32 := 1#32
  let arg12 : BitVec 32 := Scf.iv c0_i32_19 c1_i32_21 k0_t1
  let c256_i32_44 : BitVec 32 := 256#32
  let v88 : BitVec 32 := Scalar.muli arg12 c256_i32_44
  let v89 : BitVec 32 := v88
  let v133 : Index := Scalar.indexCast v89
  ![0, 0, v133.toNat]
def k0_off11 (v1 : BitVec 32) (k0_t1 : Fin (k0_t1_loop v1).trips) : Fin 2 → Nat :=
  let c0_64 : Index := 0#32
  let c0_i32_19 : BitVec 32 := 0#32
  let c1_i32_21 : BitVec 32 := 1#32
  let arg12 : BitVec 32 := Scf.iv c0_i32_19 c1_i32_21 k0_t1
  let c256_i32_44 : BitVec 32 := 256#32
  let v88 : BitVec 32 := Scalar.muli arg12 c256_i32_44
  let v89 : BitVec 32 := v88
  let v147 : Index := Scalar.indexCast v89
  ![0, v147.toNat]
@[reducible] def k0_t2_loop (v1 : BitVec 32) : Scf.Loop 32 :=
  let c0_i32_19 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let v45 : BitVec 32 := Scalar.addi c0_i32_19 v44
  let c1_i32_22 : BitVec 32 := 1#32
  ⟨v48, v45, c1_i32_22⟩
def k0_mult2 (v1 : BitVec 32) (k0_t2 : Fin (k0_t2_loop v1).trips) : BitVec 32 :=
  let c0_i32_19 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let c256_i32_44 : BitVec 32 := 256#32
  let v88 : BitVec 32 := Scalar.muli arg12 c256_i32_44
  v88
def k0_off12 (v1 : BitVec 32) (k0_t2 : Fin (k0_t2_loop v1).trips) : Fin 3 → Nat :=
  let c0_45 : Index := 0#32
  let c0_i32_19 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let c256_i32_44 : BitVec 32 := 256#32
  let v88 : BitVec 32 := Scalar.muli arg12 c256_i32_44
  let v89 : BitVec 32 := v88
  let v91 : Index := Scalar.indexCast v89
  let c0_46 : Index := 0#32
  ![0, v91.toNat, 0]
def k0_off13 (v1 : BitVec 32) (k0_t2 : Fin (k0_t2_loop v1).trips) : Fin 3 → Nat :=
  let c0_48 : Index := 0#32
  let c0_49 : Index := 0#32
  let c0_i32_19 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let c256_i32_44 : BitVec 32 := 256#32
  let v88 : BitVec 32 := Scalar.muli arg12 c256_i32_44
  let v89 : BitVec 32 := v88
  let v95 : Index := Scalar.indexCast v89
  ![0, 0, v95.toNat]
def k0_off14 (v1 : BitVec 32) (k0_t2 : Fin (k0_t2_loop v1).trips) : Fin 3 → Nat :=
  let c0_50 : Index := 0#32
  let c0_i32_19 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let c256_i32_44 : BitVec 32 := 256#32
  let v88 : BitVec 32 := Scalar.muli arg12 c256_i32_44
  let v89 : BitVec 32 := v88
  let v101 : Index := Scalar.indexCast v89
  let c128 : Index := 128#32
  ![0, v101.toNat, 128]
def k0_off15 (v1 : BitVec 32) (k0_t2 : Fin (k0_t2_loop v1).trips) : Fin 3 → Nat :=
  let c0_52 : Index := 0#32
  let c1 : Index := 1#32
  let c0_i32_19 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let c256_i32_44 : BitVec 32 := 256#32
  let v88 : BitVec 32 := Scalar.muli arg12 c256_i32_44
  let v89 : BitVec 32 := v88
  let v105 : Index := Scalar.indexCast v89
  ![0, 1, v105.toNat]
def k0_off16 (v1 : BitVec 32) (k0_t2 : Fin (k0_t2_loop v1).trips) : Fin 3 → Nat :=
  let c0_53 : Index := 0#32
  let c0_i32_19 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let c256_i32_44 : BitVec 32 := 256#32
  let v88 : BitVec 32 := Scalar.muli arg12 c256_i32_44
  let v89 : BitVec 32 := v88
  let v112 : Index := Scalar.indexCast v89
  let c256 : Index := 256#32
  ![0, v112.toNat, 256]
def k0_off17 (v1 : BitVec 32) (k0_t2 : Fin (k0_t2_loop v1).trips) : Fin 3 → Nat :=
  let c0_55 : Index := 0#32
  let c2 : Index := 2#32
  let c0_i32_19 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let c256_i32_44 : BitVec 32 := 256#32
  let v88 : BitVec 32 := Scalar.muli arg12 c256_i32_44
  let v89 : BitVec 32 := v88
  let v116 : Index := Scalar.indexCast v89
  ![0, 2, v116.toNat]
def k0_off18 (v1 : BitVec 32) (k0_t2 : Fin (k0_t2_loop v1).trips) : Fin 3 → Nat :=
  let c0_56 : Index := 0#32
  let c0_i32_19 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let c256_i32_44 : BitVec 32 := 256#32
  let v88 : BitVec 32 := Scalar.muli arg12 c256_i32_44
  let v89 : BitVec 32 := v88
  let v123 : Index := Scalar.indexCast v89
  let c384 : Index := 384#32
  ![0, v123.toNat, 384]
def k0_off19 (v1 : BitVec 32) (k0_t2 : Fin (k0_t2_loop v1).trips) : Fin 3 → Nat :=
  let c0_58 : Index := 0#32
  let c3 : Index := 3#32
  let c0_i32_19 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let c256_i32_44 : BitVec 32 := 256#32
  let v88 : BitVec 32 := Scalar.muli arg12 c256_i32_44
  let v89 : BitVec 32 := v88
  let v127 : Index := Scalar.indexCast v89
  ![0, 3, v127.toNat]
def k0_off20 (v1 : BitVec 32) (k0_t2 : Fin (k0_t2_loop v1).trips) : Fin 3 → Nat :=
  let c0_59 : Index := 0#32
  let c0_60 : Index := 0#32
  let c0_i32_19 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let c256_i32_44 : BitVec 32 := 256#32
  let v88 : BitVec 32 := Scalar.muli arg12 c256_i32_44
  let v89 : BitVec 32 := v88
  let v133 : Index := Scalar.indexCast v89
  ![0, 0, v133.toNat]
def k0_off21 (v1 : BitVec 32) (k0_t2 : Fin (k0_t2_loop v1).trips) : Fin 2 → Nat :=
  let c0_64 : Index := 0#32
  let c0_i32_19 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let c256_i32_44 : BitVec 32 := 256#32
  let v88 : BitVec 32 := Scalar.muli arg12 c256_i32_44
  let v89 : BitVec 32 := v88
  let v147 : Index := Scalar.indexCast v89
  ![0, v147.toNat]
@[reducible] def k0_t3_loop (v1 : BitVec 32) : Scf.Loop 32 :=
  let c0_i32_24 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v54 : BitVec 32 := Scalar.subi v20 c0_i32_24
  let c1_i32_25 : BitVec 32 := 1#32
  let v56 : BitVec 32 := Scalar.divsi v54 c1_i32_25
  let v57 : BitVec 32 := Scalar.muli v56 c1_i32_25
  let v58 : BitVec 32 := Scalar.addi c0_i32_24 v57
  let c1_i32_26 : BitVec 32 := 1#32
  ⟨c0_i32_24, v58, c1_i32_26⟩
def k0_mult3 (v1 : BitVec 32) (k0_t3 : Fin (k0_t3_loop v1).trips) : BitVec 32 :=
  let c0_i32_24 : BitVec 32 := 0#32
  let c1_i32_26 : BitVec 32 := 1#32
  let arg12 : BitVec 32 := Scf.iv c0_i32_24 c1_i32_26 k0_t3
  let c256_i32_44 : BitVec 32 := 256#32
  let v88 : BitVec 32 := Scalar.muli arg12 c256_i32_44
  v88
def k0_off22 (v1 : BitVec 32) (k0_t3 : Fin (k0_t3_loop v1).trips) : Fin 2 → Nat :=
  let c0_45 : Index := 0#32
  let c0_i32_24 : BitVec 32 := 0#32
  let c1_i32_26 : BitVec 32 := 1#32
  let arg12 : BitVec 32 := Scf.iv c0_i32_24 c1_i32_26 k0_t3
  let c256_i32_44 : BitVec 32 := 256#32
  let v88 : BitVec 32 := Scalar.muli arg12 c256_i32_44
  let v89 : BitVec 32 := v88
  let v90 : Index := Scalar.indexCast v89
  ![0, v90.toNat]
@[reducible] def k0_t4_loop (v1 : BitVec 32) : Scf.Loop 32 :=
  let c0_i32_24 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v54 : BitVec 32 := Scalar.subi v20 c0_i32_24
  let c1_i32_25 : BitVec 32 := 1#32
  let v56 : BitVec 32 := Scalar.divsi v54 c1_i32_25
  let v57 : BitVec 32 := Scalar.muli v56 c1_i32_25
  let v58 : BitVec 32 := Scalar.addi c0_i32_24 v57
  let v55 : BitVec 32 := Scalar.addi c0_i32_24 v54
  let c1_i32_27 : BitVec 32 := 1#32
  ⟨v58, v55, c1_i32_27⟩
def k0_mult4 (v1 : BitVec 32) (k0_t4 : Fin (k0_t4_loop v1).trips) : BitVec 32 :=
  let c0_i32_24 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v54 : BitVec 32 := Scalar.subi v20 c0_i32_24
  let c1_i32_25 : BitVec 32 := 1#32
  let v56 : BitVec 32 := Scalar.divsi v54 c1_i32_25
  let v57 : BitVec 32 := Scalar.muli v56 c1_i32_25
  let v58 : BitVec 32 := Scalar.addi c0_i32_24 v57
  let c1_i32_27 : BitVec 32 := 1#32
  let arg12 : BitVec 32 := Scf.iv v58 c1_i32_27 k0_t4
  let c256_i32_44 : BitVec 32 := 256#32
  let v88 : BitVec 32 := Scalar.muli arg12 c256_i32_44
  v88
def k0_off23 (v1 : BitVec 32) (k0_t4 : Fin (k0_t4_loop v1).trips) : Fin 2 → Nat :=
  let c0_45 : Index := 0#32
  let c0_i32_24 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v54 : BitVec 32 := Scalar.subi v20 c0_i32_24
  let c1_i32_25 : BitVec 32 := 1#32
  let v56 : BitVec 32 := Scalar.divsi v54 c1_i32_25
  let v57 : BitVec 32 := Scalar.muli v56 c1_i32_25
  let v58 : BitVec 32 := Scalar.addi c0_i32_24 v57
  let c1_i32_27 : BitVec 32 := 1#32
  let arg12 : BitVec 32 := Scf.iv v58 c1_i32_27 k0_t4
  let c256_i32_44 : BitVec 32 := 256#32
  let v88 : BitVec 32 := Scalar.muli arg12 c256_i32_44
  let v89 : BitVec 32 := v88
  let v90 : Index := Scalar.indexCast v89
  ![0, v90.toNat]
@[reducible] def k0_t5_loop (v1 : BitVec 32) : Scf.Loop 32 :=
  let c0_i32_34 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v76 : BitVec 32 := Scalar.subi v20 c0_i32_34
  let c1_i32_36 : BitVec 32 := 1#32
  let v78 : BitVec 32 := Scalar.divsi v76 c1_i32_36
  let v79 : BitVec 32 := Scalar.muli v78 c1_i32_36
  let v80 : BitVec 32 := Scalar.addi c0_i32_34 v79
  let c1_i32_37 : BitVec 32 := 1#32
  ⟨c0_i32_34, v80, c1_i32_37⟩
def k0_mult5 (v1 : BitVec 32) (k0_t5 : Fin (k0_t5_loop v1).trips) : BitVec 32 :=
  let c0_i32_34 : BitVec 32 := 0#32
  let c1_i32_37 : BitVec 32 := 1#32
  let arg12 : BitVec 32 := Scf.iv c0_i32_34 c1_i32_37 k0_t5
  let c256_i32_44 : BitVec 32 := 256#32
  let v88 : BitVec 32 := Scalar.muli arg12 c256_i32_44
  v88
def k0_off24 (v1 : BitVec 32) (k0_t5 : Fin (k0_t5_loop v1).trips) : Fin 2 → Nat :=
  let c0_45 : Index := 0#32
  let c0_i32_34 : BitVec 32 := 0#32
  let c1_i32_37 : BitVec 32 := 1#32
  let arg12 : BitVec 32 := Scf.iv c0_i32_34 c1_i32_37 k0_t5
  let c256_i32_44 : BitVec 32 := 256#32
  let v88 : BitVec 32 := Scalar.muli arg12 c256_i32_44
  let v89 : BitVec 32 := v88
  let v90 : Index := Scalar.indexCast v89
  ![0, v90.toNat]
def k0_off25 (v1 : BitVec 32) (k0_t5 : Fin (k0_t5_loop v1).trips) : Fin 3 → Nat :=
  let c0_46 : Index := 0#32
  let c0_47 : Index := 0#32
  let c0_i32_34 : BitVec 32 := 0#32
  let c1_i32_37 : BitVec 32 := 1#32
  let arg12 : BitVec 32 := Scf.iv c0_i32_34 c1_i32_37 k0_t5
  let c256_i32_44 : BitVec 32 := 256#32
  let v88 : BitVec 32 := Scalar.muli arg12 c256_i32_44
  let v89 : BitVec 32 := v88
  let v95 : Index := Scalar.indexCast v89
  ![0, 0, v95.toNat]
def k0_off26 (v1 : BitVec 32) (k0_t5 : Fin (k0_t5_loop v1).trips) : Fin 3 → Nat :=
  let c0_50 : Index := 0#32
  let c0_i32_34 : BitVec 32 := 0#32
  let c1_i32_37 : BitVec 32 := 1#32
  let arg12 : BitVec 32 := Scf.iv c0_i32_34 c1_i32_37 k0_t5
  let c256_i32_44 : BitVec 32 := 256#32
  let v88 : BitVec 32 := Scalar.muli arg12 c256_i32_44
  let v89 : BitVec 32 := v88
  let v102 : Index := Scalar.indexCast v89
  let c0_51 : Index := 0#32
  ![0, v102.toNat, 0]
def k0_off27 (v1 : BitVec 32) (k0_t5 : Fin (k0_t5_loop v1).trips) : Fin 3 → Nat :=
  let c0_55 : Index := 0#32
  let c1 : Index := 1#32
  let c0_i32_34 : BitVec 32 := 0#32
  let c1_i32_37 : BitVec 32 := 1#32
  let arg12 : BitVec 32 := Scf.iv c0_i32_34 c1_i32_37 k0_t5
  let c256_i32_44 : BitVec 32 := 256#32
  let v88 : BitVec 32 := Scalar.muli arg12 c256_i32_44
  let v89 : BitVec 32 := v88
  let v110 : Index := Scalar.indexCast v89
  ![0, 1, v110.toNat]
def k0_off28 (v1 : BitVec 32) (k0_t5 : Fin (k0_t5_loop v1).trips) : Fin 3 → Nat :=
  let c0_57 : Index := 0#32
  let c0_i32_34 : BitVec 32 := 0#32
  let c1_i32_37 : BitVec 32 := 1#32
  let arg12 : BitVec 32 := Scf.iv c0_i32_34 c1_i32_37 k0_t5
  let c256_i32_44 : BitVec 32 := 256#32
  let v88 : BitVec 32 := Scalar.muli arg12 c256_i32_44
  let v89 : BitVec 32 := v88
  let v117 : Index := Scalar.indexCast v89
  let c128_58 : Index := 128#32
  ![0, v117.toNat, 128]
def k0_off29 (v1 : BitVec 32) (k0_t5 : Fin (k0_t5_loop v1).trips) : Fin 3 → Nat :=
  let c0_62 : Index := 0#32
  let c2 : Index := 2#32
  let c0_i32_34 : BitVec 32 := 0#32
  let c1_i32_37 : BitVec 32 := 1#32
  let arg12 : BitVec 32 := Scf.iv c0_i32_34 c1_i32_37 k0_t5
  let c256_i32_44 : BitVec 32 := 256#32
  let v88 : BitVec 32 := Scalar.muli arg12 c256_i32_44
  let v89 : BitVec 32 := v88
  let v125 : Index := Scalar.indexCast v89
  ![0, 2, v125.toNat]
def k0_off30 (v1 : BitVec 32) (k0_t5 : Fin (k0_t5_loop v1).trips) : Fin 3 → Nat :=
  let c0_64 : Index := 0#32
  let c0_i32_34 : BitVec 32 := 0#32
  let c1_i32_37 : BitVec 32 := 1#32
  let arg12 : BitVec 32 := Scf.iv c0_i32_34 c1_i32_37 k0_t5
  let c256_i32_44 : BitVec 32 := 256#32
  let v88 : BitVec 32 := Scalar.muli arg12 c256_i32_44
  let v89 : BitVec 32 := v88
  let v132 : Index := Scalar.indexCast v89
  let c256_65 : Index := 256#32
  ![0, v132.toNat, 256]
def k0_off31 (v1 : BitVec 32) (k0_t5 : Fin (k0_t5_loop v1).trips) : Fin 3 → Nat :=
  let c0_69 : Index := 0#32
  let c3 : Index := 3#32
  let c0_i32_34 : BitVec 32 := 0#32
  let c1_i32_37 : BitVec 32 := 1#32
  let arg12 : BitVec 32 := Scf.iv c0_i32_34 c1_i32_37 k0_t5
  let c256_i32_44 : BitVec 32 := 256#32
  let v88 : BitVec 32 := Scalar.muli arg12 c256_i32_44
  let v89 : BitVec 32 := v88
  let v140 : Index := Scalar.indexCast v89
  ![0, 3, v140.toNat]
def k0_off32 (v1 : BitVec 32) (k0_t5 : Fin (k0_t5_loop v1).trips) : Fin 3 → Nat :=
  let c0_71 : Index := 0#32
  let c0_i32_34 : BitVec 32 := 0#32
  let c1_i32_37 : BitVec 32 := 1#32
  let arg12 : BitVec 32 := Scf.iv c0_i32_34 c1_i32_37 k0_t5
  let c256_i32_44 : BitVec 32 := 256#32
  let v88 : BitVec 32 := Scalar.muli arg12 c256_i32_44
  let v89 : BitVec 32 := v88
  let v147 : Index := Scalar.indexCast v89
  let c384_72 : Index := 384#32
  ![0, v147.toNat, 384]
@[reducible] def k0_t6_loop (v1 : BitVec 32) : Scf.Loop 32 :=
  let c0_i32_34 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v76 : BitVec 32 := Scalar.subi v20 c0_i32_34
  let c1_i32_36 : BitVec 32 := 1#32
  let v78 : BitVec 32 := Scalar.divsi v76 c1_i32_36
  let v79 : BitVec 32 := Scalar.muli v78 c1_i32_36
  let v80 : BitVec 32 := Scalar.addi c0_i32_34 v79
  let v77 : BitVec 32 := Scalar.addi c0_i32_34 v76
  let c1_i32_38 : BitVec 32 := 1#32
  ⟨v80, v77, c1_i32_38⟩
def k0_mult6 (v1 : BitVec 32) (k0_t6 : Fin (k0_t6_loop v1).trips) : BitVec 32 :=
  let c0_i32_34 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v76 : BitVec 32 := Scalar.subi v20 c0_i32_34
  let c1_i32_36 : BitVec 32 := 1#32
  let v78 : BitVec 32 := Scalar.divsi v76 c1_i32_36
  let v79 : BitVec 32 := Scalar.muli v78 c1_i32_36
  let v80 : BitVec 32 := Scalar.addi c0_i32_34 v79
  let c1_i32_38 : BitVec 32 := 1#32
  let arg12 : BitVec 32 := Scf.iv v80 c1_i32_38 k0_t6
  let c256_i32_44 : BitVec 32 := 256#32
  let v88 : BitVec 32 := Scalar.muli arg12 c256_i32_44
  v88
def k0_off33 (v1 : BitVec 32) (k0_t6 : Fin (k0_t6_loop v1).trips) : Fin 2 → Nat :=
  let c0_45 : Index := 0#32
  let c0_i32_34 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v76 : BitVec 32 := Scalar.subi v20 c0_i32_34
  let c1_i32_36 : BitVec 32 := 1#32
  let v78 : BitVec 32 := Scalar.divsi v76 c1_i32_36
  let v79 : BitVec 32 := Scalar.muli v78 c1_i32_36
  let v80 : BitVec 32 := Scalar.addi c0_i32_34 v79
  let c1_i32_38 : BitVec 32 := 1#32
  let arg12 : BitVec 32 := Scf.iv v80 c1_i32_38 k0_t6
  let c256_i32_44 : BitVec 32 := 256#32
  let v88 : BitVec 32 := Scalar.muli arg12 c256_i32_44
  let v89 : BitVec 32 := v88
  let v90 : Index := Scalar.indexCast v89
  ![0, v90.toNat]
def k0_off34 (v1 : BitVec 32) (k0_t6 : Fin (k0_t6_loop v1).trips) : Fin 3 → Nat :=
  let c0_46 : Index := 0#32
  let c0_47 : Index := 0#32
  let c0_i32_34 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v76 : BitVec 32 := Scalar.subi v20 c0_i32_34
  let c1_i32_36 : BitVec 32 := 1#32
  let v78 : BitVec 32 := Scalar.divsi v76 c1_i32_36
  let v79 : BitVec 32 := Scalar.muli v78 c1_i32_36
  let v80 : BitVec 32 := Scalar.addi c0_i32_34 v79
  let c1_i32_38 : BitVec 32 := 1#32
  let arg12 : BitVec 32 := Scf.iv v80 c1_i32_38 k0_t6
  let c256_i32_44 : BitVec 32 := 256#32
  let v88 : BitVec 32 := Scalar.muli arg12 c256_i32_44
  let v89 : BitVec 32 := v88
  let v95 : Index := Scalar.indexCast v89
  ![0, 0, v95.toNat]
def k0_off35 (v1 : BitVec 32) (k0_t6 : Fin (k0_t6_loop v1).trips) : Fin 3 → Nat :=
  let c0_50 : Index := 0#32
  let c0_i32_34 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v76 : BitVec 32 := Scalar.subi v20 c0_i32_34
  let c1_i32_36 : BitVec 32 := 1#32
  let v78 : BitVec 32 := Scalar.divsi v76 c1_i32_36
  let v79 : BitVec 32 := Scalar.muli v78 c1_i32_36
  let v80 : BitVec 32 := Scalar.addi c0_i32_34 v79
  let c1_i32_38 : BitVec 32 := 1#32
  let arg12 : BitVec 32 := Scf.iv v80 c1_i32_38 k0_t6
  let c256_i32_44 : BitVec 32 := 256#32
  let v88 : BitVec 32 := Scalar.muli arg12 c256_i32_44
  let v89 : BitVec 32 := v88
  let v102 : Index := Scalar.indexCast v89
  let c0_51 : Index := 0#32
  ![0, v102.toNat, 0]
def k0_off36 (v1 : BitVec 32) (k0_t6 : Fin (k0_t6_loop v1).trips) : Fin 3 → Nat :=
  let c0_55 : Index := 0#32
  let c1 : Index := 1#32
  let c0_i32_34 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v76 : BitVec 32 := Scalar.subi v20 c0_i32_34
  let c1_i32_36 : BitVec 32 := 1#32
  let v78 : BitVec 32 := Scalar.divsi v76 c1_i32_36
  let v79 : BitVec 32 := Scalar.muli v78 c1_i32_36
  let v80 : BitVec 32 := Scalar.addi c0_i32_34 v79
  let c1_i32_38 : BitVec 32 := 1#32
  let arg12 : BitVec 32 := Scf.iv v80 c1_i32_38 k0_t6
  let c256_i32_44 : BitVec 32 := 256#32
  let v88 : BitVec 32 := Scalar.muli arg12 c256_i32_44
  let v89 : BitVec 32 := v88
  let v110 : Index := Scalar.indexCast v89
  ![0, 1, v110.toNat]
def k0_off37 (v1 : BitVec 32) (k0_t6 : Fin (k0_t6_loop v1).trips) : Fin 3 → Nat :=
  let c0_57 : Index := 0#32
  let c0_i32_34 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v76 : BitVec 32 := Scalar.subi v20 c0_i32_34
  let c1_i32_36 : BitVec 32 := 1#32
  let v78 : BitVec 32 := Scalar.divsi v76 c1_i32_36
  let v79 : BitVec 32 := Scalar.muli v78 c1_i32_36
  let v80 : BitVec 32 := Scalar.addi c0_i32_34 v79
  let c1_i32_38 : BitVec 32 := 1#32
  let arg12 : BitVec 32 := Scf.iv v80 c1_i32_38 k0_t6
  let c256_i32_44 : BitVec 32 := 256#32
  let v88 : BitVec 32 := Scalar.muli arg12 c256_i32_44
  let v89 : BitVec 32 := v88
  let v117 : Index := Scalar.indexCast v89
  let c128_58 : Index := 128#32
  ![0, v117.toNat, 128]
def k0_off38 (v1 : BitVec 32) (k0_t6 : Fin (k0_t6_loop v1).trips) : Fin 3 → Nat :=
  let c0_62 : Index := 0#32
  let c2 : Index := 2#32
  let c0_i32_34 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v76 : BitVec 32 := Scalar.subi v20 c0_i32_34
  let c1_i32_36 : BitVec 32 := 1#32
  let v78 : BitVec 32 := Scalar.divsi v76 c1_i32_36
  let v79 : BitVec 32 := Scalar.muli v78 c1_i32_36
  let v80 : BitVec 32 := Scalar.addi c0_i32_34 v79
  let c1_i32_38 : BitVec 32 := 1#32
  let arg12 : BitVec 32 := Scf.iv v80 c1_i32_38 k0_t6
  let c256_i32_44 : BitVec 32 := 256#32
  let v88 : BitVec 32 := Scalar.muli arg12 c256_i32_44
  let v89 : BitVec 32 := v88
  let v125 : Index := Scalar.indexCast v89
  ![0, 2, v125.toNat]
def k0_off39 (v1 : BitVec 32) (k0_t6 : Fin (k0_t6_loop v1).trips) : Fin 3 → Nat :=
  let c0_64 : Index := 0#32
  let c0_i32_34 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v76 : BitVec 32 := Scalar.subi v20 c0_i32_34
  let c1_i32_36 : BitVec 32 := 1#32
  let v78 : BitVec 32 := Scalar.divsi v76 c1_i32_36
  let v79 : BitVec 32 := Scalar.muli v78 c1_i32_36
  let v80 : BitVec 32 := Scalar.addi c0_i32_34 v79
  let c1_i32_38 : BitVec 32 := 1#32
  let arg12 : BitVec 32 := Scf.iv v80 c1_i32_38 k0_t6
  let c256_i32_44 : BitVec 32 := 256#32
  let v88 : BitVec 32 := Scalar.muli arg12 c256_i32_44
  let v89 : BitVec 32 := v88
  let v132 : Index := Scalar.indexCast v89
  let c256_65 : Index := 256#32
  ![0, v132.toNat, 256]
def k0_off40 (v1 : BitVec 32) (k0_t6 : Fin (k0_t6_loop v1).trips) : Fin 3 → Nat :=
  let c0_69 : Index := 0#32
  let c3 : Index := 3#32
  let c0_i32_34 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v76 : BitVec 32 := Scalar.subi v20 c0_i32_34
  let c1_i32_36 : BitVec 32 := 1#32
  let v78 : BitVec 32 := Scalar.divsi v76 c1_i32_36
  let v79 : BitVec 32 := Scalar.muli v78 c1_i32_36
  let v80 : BitVec 32 := Scalar.addi c0_i32_34 v79
  let c1_i32_38 : BitVec 32 := 1#32
  let arg12 : BitVec 32 := Scf.iv v80 c1_i32_38 k0_t6
  let c256_i32_44 : BitVec 32 := 256#32
  let v88 : BitVec 32 := Scalar.muli arg12 c256_i32_44
  let v89 : BitVec 32 := v88
  let v140 : Index := Scalar.indexCast v89
  ![0, 3, v140.toNat]
def k0_off41 (v1 : BitVec 32) (k0_t6 : Fin (k0_t6_loop v1).trips) : Fin 3 → Nat :=
  let c0_71 : Index := 0#32
  let c0_i32_34 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v76 : BitVec 32 := Scalar.subi v20 c0_i32_34
  let c1_i32_36 : BitVec 32 := 1#32
  let v78 : BitVec 32 := Scalar.divsi v76 c1_i32_36
  let v79 : BitVec 32 := Scalar.muli v78 c1_i32_36
  let v80 : BitVec 32 := Scalar.addi c0_i32_34 v79
  let c1_i32_38 : BitVec 32 := 1#32
  let arg12 : BitVec 32 := Scf.iv v80 c1_i32_38 k0_t6
  let c256_i32_44 : BitVec 32 := 256#32
  let v88 : BitVec 32 := Scalar.muli arg12 c256_i32_44
  let v89 : BitVec 32 := v88
  let v147 : Index := Scalar.indexCast v89
  let c384_72 : Index := 384#32
  ![0, v147.toNat, 384]

def k0_chk1_0 (v1 : BitVec 32) : Prop :=
  ((k0_t1_loop v1).OK) ∧
  (∀ k0_t1 : Fin (k0_t1_loop v1).trips, 256 ∣ (k0_mult1 v1 k0_t1).toNat) ∧
  (∀ k0_t1 : Fin (k0_t1_loop v1).trips, ∀ a, (k0_off2 v1 k0_t1) a + S1x256x128.size a ≤ S1x2048x512.size a) ∧
  (∀ k0_t1 : Fin (k0_t1_loop v1).trips, ∀ a, (k0_off3 v1 k0_t1) a + S1x1x256.size a ≤ S1x4x2048.size a) ∧
  (∀ k0_t1 : Fin (k0_t1_loop v1).trips, ∀ a, (k0_off4 v1 k0_t1) a + S1x256x128.size a ≤ S1x2048x512.size a) ∧
  (∀ k0_t1 : Fin (k0_t1_loop v1).trips, ∀ a, (k0_off5 v1 k0_t1) a + S1x1x256.size a ≤ S1x4x2048.size a) ∧
  (∀ k0_t1 : Fin (k0_t1_loop v1).trips, ∀ a, (k0_off6 v1 k0_t1) a + S1x256x128.size a ≤ S1x2048x512.size a) ∧
  (∀ k0_t1 : Fin (k0_t1_loop v1).trips, ∀ a, (k0_off7 v1 k0_t1) a + S1x1x256.size a ≤ S1x4x2048.size a) ∧
  (∀ k0_t1 : Fin (k0_t1_loop v1).trips, ∀ a, (k0_off8 v1 k0_t1) a + S1x256x128.size a ≤ S1x2048x512.size a) ∧
  (∀ k0_t1 : Fin (k0_t1_loop v1).trips, ∀ a, (k0_off9 v1 k0_t1) a + S1x1x256.size a ≤ S1x4x2048.size a) ∧
  (∀ k0_t1 : Fin (k0_t1_loop v1).trips, ∀ a, (k0_off10 v1 k0_t1) a + S1x64x256.size a ≤ S1x64x2048.size a) ∧
  (∀ k0_t1 : Fin (k0_t1_loop v1).trips, ∀ a, (k0_off11 v1 k0_t1) a + S32x256.size a ≤ S32x2048.size a) ∧
  ((k0_t2_loop v1).OK) ∧
  (∀ k0_t2 : Fin (k0_t2_loop v1).trips, 256 ∣ (k0_mult2 v1 k0_t2).toNat) ∧
  (∀ k0_t2 : Fin (k0_t2_loop v1).trips, ∀ a, (k0_off12 v1 k0_t2) a + S1x256x128.size a ≤ S1x2048x512.size a) ∧
  (∀ k0_t2 : Fin (k0_t2_loop v1).trips, ∀ a, (k0_off13 v1 k0_t2) a + S1x1x256.size a ≤ S1x4x2048.size a) ∧
  (∀ k0_t2 : Fin (k0_t2_loop v1).trips, ∀ a, (k0_off14 v1 k0_t2) a + S1x256x128.size a ≤ S1x2048x512.size a) ∧
  (∀ k0_t2 : Fin (k0_t2_loop v1).trips, ∀ a, (k0_off15 v1 k0_t2) a + S1x1x256.size a ≤ S1x4x2048.size a) ∧
  (∀ k0_t2 : Fin (k0_t2_loop v1).trips, ∀ a, (k0_off16 v1 k0_t2) a + S1x256x128.size a ≤ S1x2048x512.size a) ∧
  (∀ k0_t2 : Fin (k0_t2_loop v1).trips, ∀ a, (k0_off17 v1 k0_t2) a + S1x1x256.size a ≤ S1x4x2048.size a) ∧
  (∀ k0_t2 : Fin (k0_t2_loop v1).trips, ∀ a, (k0_off18 v1 k0_t2) a + S1x256x128.size a ≤ S1x2048x512.size a) ∧
  (∀ k0_t2 : Fin (k0_t2_loop v1).trips, ∀ a, (k0_off19 v1 k0_t2) a + S1x1x256.size a ≤ S1x4x2048.size a) ∧
  (∀ k0_t2 : Fin (k0_t2_loop v1).trips, ∀ a, (k0_off20 v1 k0_t2) a + S1x64x256.size a ≤ S1x64x2048.size a) ∧
  (∀ k0_t2 : Fin (k0_t2_loop v1).trips, ∀ a, (k0_off21 v1 k0_t2) a + S32x256.size a ≤ S32x2048.size a) ∧
  ((k0_t3_loop v1).OK) ∧
  (∀ k0_t3 : Fin (k0_t3_loop v1).trips, 256 ∣ (k0_mult3 v1 k0_t3).toNat) ∧
  (∀ k0_t3 : Fin (k0_t3_loop v1).trips, ∀ a, (k0_off22 v1 k0_t3) a + S32x256.size a ≤ S32x2048.size a) ∧
  ((k0_t4_loop v1).OK) ∧
  (∀ k0_t4 : Fin (k0_t4_loop v1).trips, 256 ∣ (k0_mult4 v1 k0_t4).toNat) ∧
  (∀ k0_t4 : Fin (k0_t4_loop v1).trips, ∀ a, (k0_off23 v1 k0_t4) a + S32x256.size a ≤ S32x2048.size a) ∧
  ((k0_t5_loop v1).OK) ∧
  (∀ k0_t5 : Fin (k0_t5_loop v1).trips, 256 ∣ (k0_mult5 v1 k0_t5).toNat)
def k0_chk1_1 (v1 : BitVec 32) : Prop :=
  (∀ k0_t5 : Fin (k0_t5_loop v1).trips, ∀ a, (k0_off24 v1 k0_t5) a + S32x256.size a ≤ S32x2048.size a) ∧
  (∀ k0_t5 : Fin (k0_t5_loop v1).trips, ∀ a, (k0_off25 v1 k0_t5) a + S1x1x256.size a ≤ S1x4x2048.size a) ∧
  (∀ k0_t5 : Fin (k0_t5_loop v1).trips, ∀ a, (k0_off26 v1 k0_t5) a + S1x256x128.size a ≤ S1x2048x512.size a) ∧
  (∀ k0_t5 : Fin (k0_t5_loop v1).trips, ∀ a, (k0_off27 v1 k0_t5) a + S1x1x256.size a ≤ S1x4x2048.size a) ∧
  (∀ k0_t5 : Fin (k0_t5_loop v1).trips, ∀ a, (k0_off28 v1 k0_t5) a + S1x256x128.size a ≤ S1x2048x512.size a) ∧
  (∀ k0_t5 : Fin (k0_t5_loop v1).trips, ∀ a, (k0_off29 v1 k0_t5) a + S1x1x256.size a ≤ S1x4x2048.size a) ∧
  (∀ k0_t5 : Fin (k0_t5_loop v1).trips, ∀ a, (k0_off30 v1 k0_t5) a + S1x256x128.size a ≤ S1x2048x512.size a) ∧
  (∀ k0_t5 : Fin (k0_t5_loop v1).trips, ∀ a, (k0_off31 v1 k0_t5) a + S1x1x256.size a ≤ S1x4x2048.size a) ∧
  (∀ k0_t5 : Fin (k0_t5_loop v1).trips, ∀ a, (k0_off32 v1 k0_t5) a + S1x256x128.size a ≤ S1x2048x512.size a) ∧
  ((k0_t6_loop v1).OK) ∧
  (∀ k0_t6 : Fin (k0_t6_loop v1).trips, 256 ∣ (k0_mult6 v1 k0_t6).toNat) ∧
  (∀ k0_t6 : Fin (k0_t6_loop v1).trips, ∀ a, (k0_off33 v1 k0_t6) a + S32x256.size a ≤ S32x2048.size a) ∧
  (∀ k0_t6 : Fin (k0_t6_loop v1).trips, ∀ a, (k0_off34 v1 k0_t6) a + S1x1x256.size a ≤ S1x4x2048.size a) ∧
  (∀ k0_t6 : Fin (k0_t6_loop v1).trips, ∀ a, (k0_off35 v1 k0_t6) a + S1x256x128.size a ≤ S1x2048x512.size a) ∧
  (∀ k0_t6 : Fin (k0_t6_loop v1).trips, ∀ a, (k0_off36 v1 k0_t6) a + S1x1x256.size a ≤ S1x4x2048.size a) ∧
  (∀ k0_t6 : Fin (k0_t6_loop v1).trips, ∀ a, (k0_off37 v1 k0_t6) a + S1x256x128.size a ≤ S1x2048x512.size a) ∧
  (∀ k0_t6 : Fin (k0_t6_loop v1).trips, ∀ a, (k0_off38 v1 k0_t6) a + S1x1x256.size a ≤ S1x4x2048.size a) ∧
  (∀ k0_t6 : Fin (k0_t6_loop v1).trips, ∀ a, (k0_off39 v1 k0_t6) a + S1x256x128.size a ≤ S1x2048x512.size a) ∧
  (∀ k0_t6 : Fin (k0_t6_loop v1).trips, ∀ a, (k0_off40 v1 k0_t6) a + S1x1x256.size a ≤ S1x4x2048.size a) ∧
  (∀ k0_t6 : Fin (k0_t6_loop v1).trips, ∀ a, (k0_off41 v1 k0_t6) a + S1x256x128.size a ≤ S1x2048x512.size a)
def k0_chk1 (v1 : BitVec 32) : Prop :=
  k0_chk1_0 v1 ∧
  k0_chk1_1 v1
theorem k0_t1_ok : ∀ (v1 : BitVec 32) (k0_hw1 : k0_chk1 v1), (k0_t1_loop v1).OK := fun v1 k0_hw1 => k0_hw1.1.1
theorem k0_mult1_dvd : ∀ (v1 : BitVec 32) (k0_hw1 : k0_chk1 v1) (k0_t1 : Fin (k0_t1_loop v1).trips), 256 ∣ (k0_mult1 v1 k0_t1).toNat := fun v1 k0_hw1 k0_t1 => k0_hw1.1.2.1 k0_t1
theorem k0_off2_inb : ∀ (v1 : BitVec 32) (k0_hw1 : k0_chk1 v1) (k0_t1 : Fin (k0_t1_loop v1).trips), ∀ a, (k0_off2 v1 k0_t1) a + S1x256x128.size a ≤ S1x2048x512.size a := fun v1 k0_hw1 k0_t1 => k0_hw1.1.2.2.1 k0_t1
theorem k0_off3_inb : ∀ (v1 : BitVec 32) (k0_hw1 : k0_chk1 v1) (k0_t1 : Fin (k0_t1_loop v1).trips), ∀ a, (k0_off3 v1 k0_t1) a + S1x1x256.size a ≤ S1x4x2048.size a := fun v1 k0_hw1 k0_t1 => k0_hw1.1.2.2.2.1 k0_t1
theorem k0_off4_inb : ∀ (v1 : BitVec 32) (k0_hw1 : k0_chk1 v1) (k0_t1 : Fin (k0_t1_loop v1).trips), ∀ a, (k0_off4 v1 k0_t1) a + S1x256x128.size a ≤ S1x2048x512.size a := fun v1 k0_hw1 k0_t1 => k0_hw1.1.2.2.2.2.1 k0_t1
theorem k0_off5_inb : ∀ (v1 : BitVec 32) (k0_hw1 : k0_chk1 v1) (k0_t1 : Fin (k0_t1_loop v1).trips), ∀ a, (k0_off5 v1 k0_t1) a + S1x1x256.size a ≤ S1x4x2048.size a := fun v1 k0_hw1 k0_t1 => k0_hw1.1.2.2.2.2.2.1 k0_t1
theorem k0_off6_inb : ∀ (v1 : BitVec 32) (k0_hw1 : k0_chk1 v1) (k0_t1 : Fin (k0_t1_loop v1).trips), ∀ a, (k0_off6 v1 k0_t1) a + S1x256x128.size a ≤ S1x2048x512.size a := fun v1 k0_hw1 k0_t1 => k0_hw1.1.2.2.2.2.2.2.1 k0_t1
theorem k0_off7_inb : ∀ (v1 : BitVec 32) (k0_hw1 : k0_chk1 v1) (k0_t1 : Fin (k0_t1_loop v1).trips), ∀ a, (k0_off7 v1 k0_t1) a + S1x1x256.size a ≤ S1x4x2048.size a := fun v1 k0_hw1 k0_t1 => k0_hw1.1.2.2.2.2.2.2.2.1 k0_t1
theorem k0_off8_inb : ∀ (v1 : BitVec 32) (k0_hw1 : k0_chk1 v1) (k0_t1 : Fin (k0_t1_loop v1).trips), ∀ a, (k0_off8 v1 k0_t1) a + S1x256x128.size a ≤ S1x2048x512.size a := fun v1 k0_hw1 k0_t1 => k0_hw1.1.2.2.2.2.2.2.2.2.1 k0_t1
theorem k0_off9_inb : ∀ (v1 : BitVec 32) (k0_hw1 : k0_chk1 v1) (k0_t1 : Fin (k0_t1_loop v1).trips), ∀ a, (k0_off9 v1 k0_t1) a + S1x1x256.size a ≤ S1x4x2048.size a := fun v1 k0_hw1 k0_t1 => k0_hw1.1.2.2.2.2.2.2.2.2.2.1 k0_t1
theorem k0_off10_inb : ∀ (v1 : BitVec 32) (k0_hw1 : k0_chk1 v1) (k0_t1 : Fin (k0_t1_loop v1).trips), ∀ a, (k0_off10 v1 k0_t1) a + S1x64x256.size a ≤ S1x64x2048.size a := fun v1 k0_hw1 k0_t1 => k0_hw1.1.2.2.2.2.2.2.2.2.2.2.1 k0_t1
theorem k0_off11_inb : ∀ (v1 : BitVec 32) (k0_hw1 : k0_chk1 v1) (k0_t1 : Fin (k0_t1_loop v1).trips), ∀ a, (k0_off11 v1 k0_t1) a + S32x256.size a ≤ S32x2048.size a := fun v1 k0_hw1 k0_t1 => k0_hw1.1.2.2.2.2.2.2.2.2.2.2.2.1 k0_t1
theorem k0_t2_ok : ∀ (v1 : BitVec 32) (k0_hw1 : k0_chk1 v1), (k0_t2_loop v1).OK := fun v1 k0_hw1 => k0_hw1.1.2.2.2.2.2.2.2.2.2.2.2.2.1
theorem k0_mult2_dvd : ∀ (v1 : BitVec 32) (k0_hw1 : k0_chk1 v1) (k0_t2 : Fin (k0_t2_loop v1).trips), 256 ∣ (k0_mult2 v1 k0_t2).toNat := fun v1 k0_hw1 k0_t2 => k0_hw1.1.2.2.2.2.2.2.2.2.2.2.2.2.2.1 k0_t2
theorem k0_off12_inb : ∀ (v1 : BitVec 32) (k0_hw1 : k0_chk1 v1) (k0_t2 : Fin (k0_t2_loop v1).trips), ∀ a, (k0_off12 v1 k0_t2) a + S1x256x128.size a ≤ S1x2048x512.size a := fun v1 k0_hw1 k0_t2 => k0_hw1.1.2.2.2.2.2.2.2.2.2.2.2.2.2.2.1 k0_t2
theorem k0_off13_inb : ∀ (v1 : BitVec 32) (k0_hw1 : k0_chk1 v1) (k0_t2 : Fin (k0_t2_loop v1).trips), ∀ a, (k0_off13 v1 k0_t2) a + S1x1x256.size a ≤ S1x4x2048.size a := fun v1 k0_hw1 k0_t2 => k0_hw1.1.2.2.2.2.2.2.2.2.2.2.2.2.2.2.2.1 k0_t2
theorem k0_off14_inb : ∀ (v1 : BitVec 32) (k0_hw1 : k0_chk1 v1) (k0_t2 : Fin (k0_t2_loop v1).trips), ∀ a, (k0_off14 v1 k0_t2) a + S1x256x128.size a ≤ S1x2048x512.size a := fun v1 k0_hw1 k0_t2 => k0_hw1.1.2.2.2.2.2.2.2.2.2.2.2.2.2.2.2.2.1 k0_t2
theorem k0_off15_inb : ∀ (v1 : BitVec 32) (k0_hw1 : k0_chk1 v1) (k0_t2 : Fin (k0_t2_loop v1).trips), ∀ a, (k0_off15 v1 k0_t2) a + S1x1x256.size a ≤ S1x4x2048.size a := fun v1 k0_hw1 k0_t2 => k0_hw1.1.2.2.2.2.2.2.2.2.2.2.2.2.2.2.2.2.2.1 k0_t2
theorem k0_off16_inb : ∀ (v1 : BitVec 32) (k0_hw1 : k0_chk1 v1) (k0_t2 : Fin (k0_t2_loop v1).trips), ∀ a, (k0_off16 v1 k0_t2) a + S1x256x128.size a ≤ S1x2048x512.size a := fun v1 k0_hw1 k0_t2 => k0_hw1.1.2.2.2.2.2.2.2.2.2.2.2.2.2.2.2.2.2.2.1 k0_t2
theorem k0_off17_inb : ∀ (v1 : BitVec 32) (k0_hw1 : k0_chk1 v1) (k0_t2 : Fin (k0_t2_loop v1).trips), ∀ a, (k0_off17 v1 k0_t2) a + S1x1x256.size a ≤ S1x4x2048.size a := fun v1 k0_hw1 k0_t2 => k0_hw1.1.2.2.2.2.2.2.2.2.2.2.2.2.2.2.2.2.2.2.2.1 k0_t2
theorem k0_off18_inb : ∀ (v1 : BitVec 32) (k0_hw1 : k0_chk1 v1) (k0_t2 : Fin (k0_t2_loop v1).trips), ∀ a, (k0_off18 v1 k0_t2) a + S1x256x128.size a ≤ S1x2048x512.size a := fun v1 k0_hw1 k0_t2 => k0_hw1.1.2.2.2.2.2.2.2.2.2.2.2.2.2.2.2.2.2.2.2.2.1 k0_t2
theorem k0_off19_inb : ∀ (v1 : BitVec 32) (k0_hw1 : k0_chk1 v1) (k0_t2 : Fin (k0_t2_loop v1).trips), ∀ a, (k0_off19 v1 k0_t2) a + S1x1x256.size a ≤ S1x4x2048.size a := fun v1 k0_hw1 k0_t2 => k0_hw1.1.2.2.2.2.2.2.2.2.2.2.2.2.2.2.2.2.2.2.2.2.2.1 k0_t2
theorem k0_off20_inb : ∀ (v1 : BitVec 32) (k0_hw1 : k0_chk1 v1) (k0_t2 : Fin (k0_t2_loop v1).trips), ∀ a, (k0_off20 v1 k0_t2) a + S1x64x256.size a ≤ S1x64x2048.size a := fun v1 k0_hw1 k0_t2 => k0_hw1.1.2.2.2.2.2.2.2.2.2.2.2.2.2.2.2.2.2.2.2.2.2.2.1 k0_t2
theorem k0_off21_inb : ∀ (v1 : BitVec 32) (k0_hw1 : k0_chk1 v1) (k0_t2 : Fin (k0_t2_loop v1).trips), ∀ a, (k0_off21 v1 k0_t2) a + S32x256.size a ≤ S32x2048.size a := fun v1 k0_hw1 k0_t2 => k0_hw1.1.2.2.2.2.2.2.2.2.2.2.2.2.2.2.2.2.2.2.2.2.2.2.2.1 k0_t2
theorem k0_t3_ok : ∀ (v1 : BitVec 32) (k0_hw1 : k0_chk1 v1), (k0_t3_loop v1).OK := fun v1 k0_hw1 => k0_hw1.1.2.2.2.2.2.2.2.2.2.2.2.2.2.2.2.2.2.2.2.2.2.2.2.2.1
theorem k0_mult3_dvd : ∀ (v1 : BitVec 32) (k0_hw1 : k0_chk1 v1) (k0_t3 : Fin (k0_t3_loop v1).trips), 256 ∣ (k0_mult3 v1 k0_t3).toNat := fun v1 k0_hw1 k0_t3 => k0_hw1.1.2.2.2.2.2.2.2.2.2.2.2.2.2.2.2.2.2.2.2.2.2.2.2.2.2.1 k0_t3
theorem k0_off22_inb : ∀ (v1 : BitVec 32) (k0_hw1 : k0_chk1 v1) (k0_t3 : Fin (k0_t3_loop v1).trips), ∀ a, (k0_off22 v1 k0_t3) a + S32x256.size a ≤ S32x2048.size a := fun v1 k0_hw1 k0_t3 => k0_hw1.1.2.2.2.2.2.2.2.2.2.2.2.2.2.2.2.2.2.2.2.2.2.2.2.2.2.2.1 k0_t3
theorem k0_t4_ok : ∀ (v1 : BitVec 32) (k0_hw1 : k0_chk1 v1), (k0_t4_loop v1).OK := fun v1 k0_hw1 => k0_hw1.1.2.2.2.2.2.2.2.2.2.2.2.2.2.2.2.2.2.2.2.2.2.2.2.2.2.2.2.1
theorem k0_mult4_dvd : ∀ (v1 : BitVec 32) (k0_hw1 : k0_chk1 v1) (k0_t4 : Fin (k0_t4_loop v1).trips), 256 ∣ (k0_mult4 v1 k0_t4).toNat := fun v1 k0_hw1 k0_t4 => k0_hw1.1.2.2.2.2.2.2.2.2.2.2.2.2.2.2.2.2.2.2.2.2.2.2.2.2.2.2.2.2.1 k0_t4
theorem k0_off23_inb : ∀ (v1 : BitVec 32) (k0_hw1 : k0_chk1 v1) (k0_t4 : Fin (k0_t4_loop v1).trips), ∀ a, (k0_off23 v1 k0_t4) a + S32x256.size a ≤ S32x2048.size a := fun v1 k0_hw1 k0_t4 => k0_hw1.1.2.2.2.2.2.2.2.2.2.2.2.2.2.2.2.2.2.2.2.2.2.2.2.2.2.2.2.2.2.1 k0_t4
theorem k0_t5_ok : ∀ (v1 : BitVec 32) (k0_hw1 : k0_chk1 v1), (k0_t5_loop v1).OK := fun v1 k0_hw1 => k0_hw1.1.2.2.2.2.2.2.2.2.2.2.2.2.2.2.2.2.2.2.2.2.2.2.2.2.2.2.2.2.2.2.1
theorem k0_mult5_dvd : ∀ (v1 : BitVec 32) (k0_hw1 : k0_chk1 v1) (k0_t5 : Fin (k0_t5_loop v1).trips), 256 ∣ (k0_mult5 v1 k0_t5).toNat := fun v1 k0_hw1 k0_t5 => k0_hw1.1.2.2.2.2.2.2.2.2.2.2.2.2.2.2.2.2.2.2.2.2.2.2.2.2.2.2.2.2.2.2.2 k0_t5
theorem k0_off24_inb : ∀ (v1 : BitVec 32) (k0_hw1 : k0_chk1 v1) (k0_t5 : Fin (k0_t5_loop v1).trips), ∀ a, (k0_off24 v1 k0_t5) a + S32x256.size a ≤ S32x2048.size a := fun v1 k0_hw1 k0_t5 => k0_hw1.2.1 k0_t5
theorem k0_off25_inb : ∀ (v1 : BitVec 32) (k0_hw1 : k0_chk1 v1) (k0_t5 : Fin (k0_t5_loop v1).trips), ∀ a, (k0_off25 v1 k0_t5) a + S1x1x256.size a ≤ S1x4x2048.size a := fun v1 k0_hw1 k0_t5 => k0_hw1.2.2.1 k0_t5
theorem k0_off26_inb : ∀ (v1 : BitVec 32) (k0_hw1 : k0_chk1 v1) (k0_t5 : Fin (k0_t5_loop v1).trips), ∀ a, (k0_off26 v1 k0_t5) a + S1x256x128.size a ≤ S1x2048x512.size a := fun v1 k0_hw1 k0_t5 => k0_hw1.2.2.2.1 k0_t5
theorem k0_off27_inb : ∀ (v1 : BitVec 32) (k0_hw1 : k0_chk1 v1) (k0_t5 : Fin (k0_t5_loop v1).trips), ∀ a, (k0_off27 v1 k0_t5) a + S1x1x256.size a ≤ S1x4x2048.size a := fun v1 k0_hw1 k0_t5 => k0_hw1.2.2.2.2.1 k0_t5
theorem k0_off28_inb : ∀ (v1 : BitVec 32) (k0_hw1 : k0_chk1 v1) (k0_t5 : Fin (k0_t5_loop v1).trips), ∀ a, (k0_off28 v1 k0_t5) a + S1x256x128.size a ≤ S1x2048x512.size a := fun v1 k0_hw1 k0_t5 => k0_hw1.2.2.2.2.2.1 k0_t5
theorem k0_off29_inb : ∀ (v1 : BitVec 32) (k0_hw1 : k0_chk1 v1) (k0_t5 : Fin (k0_t5_loop v1).trips), ∀ a, (k0_off29 v1 k0_t5) a + S1x1x256.size a ≤ S1x4x2048.size a := fun v1 k0_hw1 k0_t5 => k0_hw1.2.2.2.2.2.2.1 k0_t5
theorem k0_off30_inb : ∀ (v1 : BitVec 32) (k0_hw1 : k0_chk1 v1) (k0_t5 : Fin (k0_t5_loop v1).trips), ∀ a, (k0_off30 v1 k0_t5) a + S1x256x128.size a ≤ S1x2048x512.size a := fun v1 k0_hw1 k0_t5 => k0_hw1.2.2.2.2.2.2.2.1 k0_t5
theorem k0_off31_inb : ∀ (v1 : BitVec 32) (k0_hw1 : k0_chk1 v1) (k0_t5 : Fin (k0_t5_loop v1).trips), ∀ a, (k0_off31 v1 k0_t5) a + S1x1x256.size a ≤ S1x4x2048.size a := fun v1 k0_hw1 k0_t5 => k0_hw1.2.2.2.2.2.2.2.2.1 k0_t5
theorem k0_off32_inb : ∀ (v1 : BitVec 32) (k0_hw1 : k0_chk1 v1) (k0_t5 : Fin (k0_t5_loop v1).trips), ∀ a, (k0_off32 v1 k0_t5) a + S1x256x128.size a ≤ S1x2048x512.size a := fun v1 k0_hw1 k0_t5 => k0_hw1.2.2.2.2.2.2.2.2.2.1 k0_t5
theorem k0_t6_ok : ∀ (v1 : BitVec 32) (k0_hw1 : k0_chk1 v1), (k0_t6_loop v1).OK := fun v1 k0_hw1 => k0_hw1.2.2.2.2.2.2.2.2.2.2.1
theorem k0_mult6_dvd : ∀ (v1 : BitVec 32) (k0_hw1 : k0_chk1 v1) (k0_t6 : Fin (k0_t6_loop v1).trips), 256 ∣ (k0_mult6 v1 k0_t6).toNat := fun v1 k0_hw1 k0_t6 => k0_hw1.2.2.2.2.2.2.2.2.2.2.2.1 k0_t6
theorem k0_off33_inb : ∀ (v1 : BitVec 32) (k0_hw1 : k0_chk1 v1) (k0_t6 : Fin (k0_t6_loop v1).trips), ∀ a, (k0_off33 v1 k0_t6) a + S32x256.size a ≤ S32x2048.size a := fun v1 k0_hw1 k0_t6 => k0_hw1.2.2.2.2.2.2.2.2.2.2.2.2.1 k0_t6
theorem k0_off34_inb : ∀ (v1 : BitVec 32) (k0_hw1 : k0_chk1 v1) (k0_t6 : Fin (k0_t6_loop v1).trips), ∀ a, (k0_off34 v1 k0_t6) a + S1x1x256.size a ≤ S1x4x2048.size a := fun v1 k0_hw1 k0_t6 => k0_hw1.2.2.2.2.2.2.2.2.2.2.2.2.2.1 k0_t6
theorem k0_off35_inb : ∀ (v1 : BitVec 32) (k0_hw1 : k0_chk1 v1) (k0_t6 : Fin (k0_t6_loop v1).trips), ∀ a, (k0_off35 v1 k0_t6) a + S1x256x128.size a ≤ S1x2048x512.size a := fun v1 k0_hw1 k0_t6 => k0_hw1.2.2.2.2.2.2.2.2.2.2.2.2.2.2.1 k0_t6
theorem k0_off36_inb : ∀ (v1 : BitVec 32) (k0_hw1 : k0_chk1 v1) (k0_t6 : Fin (k0_t6_loop v1).trips), ∀ a, (k0_off36 v1 k0_t6) a + S1x1x256.size a ≤ S1x4x2048.size a := fun v1 k0_hw1 k0_t6 => k0_hw1.2.2.2.2.2.2.2.2.2.2.2.2.2.2.2.1 k0_t6
theorem k0_off37_inb : ∀ (v1 : BitVec 32) (k0_hw1 : k0_chk1 v1) (k0_t6 : Fin (k0_t6_loop v1).trips), ∀ a, (k0_off37 v1 k0_t6) a + S1x256x128.size a ≤ S1x2048x512.size a := fun v1 k0_hw1 k0_t6 => k0_hw1.2.2.2.2.2.2.2.2.2.2.2.2.2.2.2.2.1 k0_t6
theorem k0_off38_inb : ∀ (v1 : BitVec 32) (k0_hw1 : k0_chk1 v1) (k0_t6 : Fin (k0_t6_loop v1).trips), ∀ a, (k0_off38 v1 k0_t6) a + S1x1x256.size a ≤ S1x4x2048.size a := fun v1 k0_hw1 k0_t6 => k0_hw1.2.2.2.2.2.2.2.2.2.2.2.2.2.2.2.2.2.1 k0_t6
theorem k0_off39_inb : ∀ (v1 : BitVec 32) (k0_hw1 : k0_chk1 v1) (k0_t6 : Fin (k0_t6_loop v1).trips), ∀ a, (k0_off39 v1 k0_t6) a + S1x256x128.size a ≤ S1x2048x512.size a := fun v1 k0_hw1 k0_t6 => k0_hw1.2.2.2.2.2.2.2.2.2.2.2.2.2.2.2.2.2.2.1 k0_t6
theorem k0_off40_inb : ∀ (v1 : BitVec 32) (k0_hw1 : k0_chk1 v1) (k0_t6 : Fin (k0_t6_loop v1).trips), ∀ a, (k0_off40 v1 k0_t6) a + S1x1x256.size a ≤ S1x4x2048.size a := fun v1 k0_hw1 k0_t6 => k0_hw1.2.2.2.2.2.2.2.2.2.2.2.2.2.2.2.2.2.2.2.1 k0_t6
theorem k0_off41_inb : ∀ (v1 : BitVec 32) (k0_hw1 : k0_chk1 v1) (k0_t6 : Fin (k0_t6_loop v1).trips), ∀ a, (k0_off41 v1 k0_t6) a + S1x256x128.size a ≤ S1x2048x512.size a := fun v1 k0_hw1 k0_t6 => k0_hw1.2.2.2.2.2.2.2.2.2.2.2.2.2.2.2.2.2.2.2.2 k0_t6

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S128x1x32x512 : Shape := ⟨4, ![128, 1, 32, 512]⟩
abbrev S128x1x32x64 : Shape := ⟨4, ![128, 1, 32, 64]⟩
abbrev S128x1x512 : Shape := ⟨3, ![128, 1, 512]⟩
abbrev S128x1x64 : Shape := ⟨3, ![128, 1, 64]⟩
abbrev S128x2048x512 : Shape := ⟨3, ![128, 2048, 512]⟩
abbrev S128x2048x4 : Shape := ⟨3, ![128, 2048, 4]⟩
abbrev S128x2048x64 : Shape := ⟨3, ![128, 2048, 64]⟩
abbrev S128 : Shape := ⟨1, ![128]⟩
abbrev S128x4x2048 : Shape := ⟨3, ![128, 4, 2048]⟩
abbrev S512 : Shape := ⟨1, ![512]⟩
abbrev S_ : Shape := ⟨0, ![]⟩
abbrev S1x512 : Shape := ⟨2, ![1, 512]⟩
abbrev S4 : Shape := ⟨1, ![4]⟩
abbrev S4x1 : Shape := ⟨2, ![4, 1]⟩
abbrev S4x512 : Shape := ⟨2, ![4, 512]⟩
abbrev S1x1x4x1x512 : Shape := ⟨5, ![1, 1, 4, 1, 512]⟩
abbrev S128x1x1x32x512 : Shape := ⟨5, ![128, 1, 1, 32, 512]⟩
abbrev S128x1x4x32x512 : Shape := ⟨5, ![128, 1, 4, 32, 512]⟩
abbrev S128x1x4x32x2048 : Shape := ⟨5, ![128, 1, 4, 32, 2048]⟩
abbrev S128x1x1x32x2048 : Shape := ⟨5, ![128, 1, 1, 32, 2048]⟩
abbrev S128x1x32x2048 : Shape := ⟨4, ![128, 1, 32, 2048]⟩
abbrev S128x1x2048 : Shape := ⟨3, ![128, 1, 2048]⟩
abbrev S128x2048 : Shape := ⟨2, ![128, 2048]⟩
abbrev S128x1x1x2048 : Shape := ⟨4, ![128, 1, 1, 2048]⟩
abbrev S128x1x32x1 : Shape := ⟨4, ![128, 1, 32, 1]⟩
abbrev S2048 : Shape := ⟨1, ![2048]⟩
abbrev S1x2048 : Shape := ⟨2, ![1, 2048]⟩
abbrev S128x1 : Shape := ⟨2, ![128, 1]⟩
abbrev S1 : Shape := ⟨1, ![1]⟩
abbrev S1x1 : Shape := ⟨2, ![1, 1]⟩
abbrev S1x1x1x1 : Shape := ⟨4, ![1, 1, 1, 1]⟩
abbrev S128x1x32 : Shape := ⟨3, ![128, 1, 32]⟩
abbrev S128x1x4x1x2048 : Shape := ⟨5, ![128, 1, 4, 1, 2048]⟩
abbrev S1x1x1x512 : Shape := ⟨4, ![1, 1, 1, 512]⟩
abbrev S128x32x512 : Shape := ⟨3, ![128, 32, 512]⟩

abbrev nBuf : Space → Nat
  | .hbm => 188
  | .vmem => 2
  | .smem => 0
  | _ => 0

abbrev hbmTy0_0 (i : Nat) : BufTy := match i % 128 with
  | 0 => ⟨S128x1x32x512, .bf16⟩
  | 1 => ⟨S128x1x32x64, .bf16⟩
  | 2 => ⟨S128x1x512, .bf16⟩
  | 3 => ⟨S128x1x64, .bf16⟩
  | 4 => ⟨S128x2048x512, .fp8e4m3⟩
  | 5 => ⟨S128x2048x4, .f32⟩
  | 6 => ⟨S128x2048x64, .bf16⟩
  | 7 => ⟨S128, .i32⟩
  | 8 => ⟨S128x2048x512, .bf16⟩
  | 9 => ⟨S128x4x2048, .f32⟩
  | 10 => ⟨S512, .i32⟩
  | 11 => ⟨S_, .i32⟩
  | 12 => ⟨S_, .i32⟩
  | 13 => ⟨S512, .i32⟩
  | 14 => ⟨S512, .i32⟩
  | 15 => ⟨S512, .i32⟩
  | 16 => ⟨S_, .i32⟩
  | 17 => ⟨S512, .i32⟩
  | 18 => ⟨S512, .i1⟩
  | 19 => ⟨S512, .i32⟩
  | 20 => ⟨S512, .i32⟩
  | 21 => ⟨S_, .i32⟩
  | 22 => ⟨S512, .i32⟩
  | 23 => ⟨S512, .i1⟩
  | 24 => ⟨S512, .i1⟩
  | 25 => ⟨S_, .i32⟩
  | 26 => ⟨S512, .i32⟩
  | 27 => ⟨S512, .i32⟩
  | 28 => ⟨S512, .i32⟩
  | 29 => ⟨S1x512, .i32⟩
  | 30 => ⟨S4, .i32⟩
  | 31 => ⟨S4x1, .i32⟩
  | 32 => ⟨S4x512, .i32⟩
  | 33 => ⟨S4x512, .i32⟩
  | 34 => ⟨S4x512, .i1⟩
  | 35 => ⟨S1x1x4x1x512, .i1⟩
  | 36 => ⟨S128x1x1x32x512, .bf16⟩
  | 37 => ⟨S_, .bf16⟩
  | 38 => ⟨S128x1x4x32x512, .i1⟩
  | 39 => ⟨S128x1x4x32x512, .bf16⟩
  | 40 => ⟨S128x1x4x32x512, .bf16⟩
  | 41 => ⟨S128x1x4x32x512, .bf16⟩
  | 42 => ⟨S128x1x4x32x2048, .f32⟩
  | 43 => ⟨S128x1x1x32x2048, .f32⟩
  | 44 => ⟨S128x1x32x2048, .f32⟩
  | 45 => ⟨S128x1x2048, .f32⟩
  | 46 => ⟨S128x2048, .f32⟩
  | 47 => ⟨S128x1x1x2048, .f32⟩
  | 48 => ⟨S128x1x32x2048, .f32⟩
  | 49 => ⟨S128x1x32x2048, .f32⟩
  | 50 => ⟨S128x1x1x32x2048, .f32⟩
  | 51 => ⟨S128x1x32x2048, .f32⟩
  | 52 => ⟨S128x1x2048, .f32⟩
  | 53 => ⟨S128x2048, .f32⟩
  | 54 => ⟨S128x1x1x2048, .f32⟩
  | 55 => ⟨S128x1x32x2048, .f32⟩
  | 56 => ⟨S128x1x32x2048, .f32⟩
  | 57 => ⟨S128x1x32x2048, .f32⟩
  | 58 => ⟨S128x1x1x32x2048, .f32⟩
  | 59 => ⟨S128x1x32x2048, .f32⟩
  | 60 => ⟨S128x1x2048, .f32⟩
  | 61 => ⟨S128x2048, .f32⟩
  | 62 => ⟨S128x1x1x2048, .f32⟩
  | 63 => ⟨S128x1x32x2048, .f32⟩
  | 64 => ⟨S128x1x32x2048, .f32⟩
  | 65 => ⟨S128x1x32x2048, .f32⟩
  | 66 => ⟨S128x1x1x32x2048, .f32⟩
  | 67 => ⟨S128x1x32x2048, .f32⟩
  | 68 => ⟨S128x1x2048, .f32⟩
  | 69 => ⟨S128x2048, .f32⟩
  | 70 => ⟨S128x1x1x2048, .f32⟩
  | 71 => ⟨S128x1x32x2048, .f32⟩
  | 72 => ⟨S128x1x32x2048, .f32⟩
  | 73 => ⟨S128x1x32x2048, .f32⟩
  | 74 => ⟨S128x1x32x2048, .f32⟩
  | 75 => ⟨S128x1x32x2048, .f32⟩
  | 76 => ⟨S_, .f32⟩
  | 77 => ⟨S128x1x32x2048, .f32⟩
  | 78 => ⟨S128x1x32x2048, .f32⟩
  | 79 => ⟨S128x1x32x1, .f32⟩
  | 80 => ⟨S128x1x32x1, .f32⟩
  | 81 => ⟨S128x1x32x1, .f32⟩
  | 82 => ⟨S_, .f32⟩
  | 83 => ⟨S128x1x32x1, .f32⟩
  | 84 => ⟨S128x1x32x1, .f32⟩
  | 85 => ⟨S2048, .i32⟩
  | 86 => ⟨S1x2048, .i32⟩
  | 87 => ⟨S128x1, .i32⟩
  | 88 => ⟨S128x2048, .i32⟩
  | 89 => ⟨S128x2048, .i32⟩
  | 90 => ⟨S128x2048, .i1⟩
  | 91 => ⟨S128x1x1x2048, .i1⟩
  | 92 => ⟨S1, .i32⟩
  | 93 => ⟨S1x1, .i32⟩
  | 94 => ⟨S1, .i32⟩
  | 95 => ⟨S1x1, .i32⟩
  | 96 => ⟨S1x1, .i1⟩
  | 97 => ⟨S1x1x1x1, .i1⟩
  | 98 => ⟨S_, .f32⟩
  | 99 => ⟨S_, .f32⟩
  | 100 => ⟨S128x1x32x2048, .i1⟩
  | 101 => ⟨S128x1x32x2048, .f32⟩
  | 102 => ⟨S128x1x32x2048, .f32⟩
  | 103 => ⟨S_, .f32⟩
  | 104 => ⟨S_, .f32⟩
  | 105 => ⟨S128x1x32x1, .i1⟩
  | 106 => ⟨S128x1x32x1, .f32⟩
  | 107 => ⟨S128x1x32x1, .f32⟩
  | 108 => ⟨S_, .f32⟩
  | 109 => ⟨S128x1x32, .f32⟩
  | 110 => ⟨S_, .f32⟩
  | 111 => ⟨S128x1x32, .f32⟩
  | 112 => ⟨S128x1x32, .f32⟩
  | 113 => ⟨S128x1x32x1, .f32⟩
  | 114 => ⟨S128x1x32x2048, .f32⟩
  | 115 => ⟨S128x1x32x2048, .f32⟩
  | 116 => ⟨S128x1x32x2048, .f32⟩
  | 117 => ⟨S128x1x32x1, .f32⟩
  | 118 => ⟨S128x1x32x1, .f32⟩
  | 119 => ⟨S_, .f32⟩
  | 120 => ⟨S128x1x32, .f32⟩
  | 121 => ⟨S128x1x32x1, .f32⟩
  | 122 => ⟨S_, .f32⟩
  | 123 => ⟨S128x1x32, .f32⟩
  | 124 => ⟨S128x1x32x1, .f32⟩
  | 125 => ⟨S128x1x32x1, .f32⟩
  | 126 => ⟨S_, .f32⟩
  | 127 => ⟨S128x1x32x1, .f32⟩
  | _ => ⟨S128x1x32x512, .bf16⟩

abbrev hbmTy0_1 (i : Nat) : BufTy := match i % 128 with
  | 0 => ⟨S128x1x32x1, .f32⟩
  | 1 => ⟨S128x1x32x2048, .f32⟩
  | 2 => ⟨S128x1x32x2048, .f32⟩
  | 3 => ⟨S128x1x32x2048, .bf16⟩
  | 4 => ⟨S128x1x32x1, .f32⟩
  | 5 => ⟨S128x1x32x1, .bf16⟩
  | 6 => ⟨S128x1x1x32x2048, .bf16⟩
  | 7 => ⟨S128x4x2048, .bf16⟩
  | 8 => ⟨S128x1x4x1x2048, .bf16⟩
  | 9 => ⟨S128x1x4x32x2048, .bf16⟩
  | 10 => ⟨S128x1x4x32x2048, .bf16⟩
  | 11 => ⟨S128x1x4x32x2048, .bf16⟩
  | 12 => ⟨S128x1x4x32x512, .f32⟩
  | 13 => ⟨S1x512, .i1⟩
  | 14 => ⟨S512, .i1⟩
  | 15 => ⟨S1x1x1x512, .i1⟩
  | 16 => ⟨S128x1x1x32x512, .f32⟩
  | 17 => ⟨S128x1x32x512, .f32⟩
  | 18 => ⟨S_, .f32⟩
  | 19 => ⟨S_, .f32⟩
  | 20 => ⟨S128x1x32x512, .i1⟩
  | 21 => ⟨S128x1x32x512, .f32⟩
  | 22 => ⟨S128x1x32x512, .f32⟩
  | 23 => ⟨S1x512, .i1⟩
  | 24 => ⟨S512, .i1⟩
  | 25 => ⟨S1x1x1x512, .i1⟩
  | 26 => ⟨S128x1x1x32x512, .f32⟩
  | 27 => ⟨S128x1x32x512, .f32⟩
  | 28 => ⟨S_, .f32⟩
  | 29 => ⟨S_, .f32⟩
  | 30 => ⟨S128x1x32x512, .i1⟩
  | 31 => ⟨S128x1x32x512, .f32⟩
  | 32 => ⟨S128x1x32x512, .f32⟩
  | 33 => ⟨S128x1x32x512, .f32⟩
  | 34 => ⟨S1x512, .i1⟩
  | 35 => ⟨S512, .i1⟩
  | 36 => ⟨S1x1x1x512, .i1⟩
  | 37 => ⟨S128x1x1x32x512, .f32⟩
  | 38 => ⟨S128x1x32x512, .f32⟩
  | 39 => ⟨S_, .f32⟩
  | 40 => ⟨S_, .f32⟩
  | 41 => ⟨S128x1x32x512, .i1⟩
  | 42 => ⟨S128x1x32x512, .f32⟩
  | 43 => ⟨S128x1x32x512, .f32⟩
  | 44 => ⟨S128x1x32x512, .f32⟩
  | 45 => ⟨S1x512, .i1⟩
  | 46 => ⟨S512, .i1⟩
  | 47 => ⟨S1x1x1x512, .i1⟩
  | 48 => ⟨S128x1x1x32x512, .f32⟩
  | 49 => ⟨S128x1x32x512, .f32⟩
  | 50 => ⟨S_, .f32⟩
  | 51 => ⟨S_, .f32⟩
  | 52 => ⟨S128x1x32x512, .i1⟩
  | 53 => ⟨S128x1x32x512, .f32⟩
  | 54 => ⟨S128x1x32x512, .f32⟩
  | 55 => ⟨S128x1x32x512, .f32⟩
  | 56 => ⟨S128x1x32x512, .f32⟩
  | 57 => ⟨S128x1x32x512, .f32⟩
  | 58 => ⟨S128x1x32x512, .bf16⟩
  | 59 => ⟨S128x32x512, .bf16⟩
  | _ => ⟨S128x1x32x512, .bf16⟩

abbrev hbmTy (i : Nat) : BufTy := match i / 128 with
  | 0 => hbmTy0_0 i
  | 1 => hbmTy0_1 i
  | _ => ⟨S128x1x32x512, .bf16⟩

abbrev bufTy : (tb : Table) → Fin (tcTables nBuf tb) → BufTy
  | .hbm, ⟨i, _⟩ => hbmTy i
  | .local _ .vmem, ⟨0, _⟩ => ⟨S128x2048x512, .fp8e4m3⟩
  | .local _ .vmem, ⟨1, _⟩ => ⟨S128x2048x512, .bf16⟩
  | _, _ => ⟨S128x1x32x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_0 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_1 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_2 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_v67 : Ref sig .tc := ⟨.hbm, 102, rfl⟩
abbrev main_cst_3 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_v68 : Ref sig .tc := ⟨.hbm, 107, rfl⟩
abbrev main_cst_4 : Ref sig .tc := ⟨.hbm, 108, rfl⟩
abbrev main_v69 : Ref sig .tc := ⟨.hbm, 109, rfl⟩
abbrev main_cst_5 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_6 : Ref sig .tc := ⟨.hbm, 119, rfl⟩
abbrev main_v78 : Ref sig .tc := ⟨.hbm, 120, rfl⟩
abbrev main_v79 : Ref sig .tc := ⟨.hbm, 121, rfl⟩
abbrev main_cst_7 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_8 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_9 : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_10 : Ref sig .tc := ⟨.hbm, 156, rfl⟩
abbrev main_call5_v0 : Ref sig .tc := ⟨.hbm, 157, rfl⟩
abbrev main_call5_v1 : Ref sig .tc := ⟨.hbm, 158, rfl⟩
abbrev main_call5_v2 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_cst_11 : Ref sig .tc := ⟨.hbm, 167, rfl⟩
abbrev main_call6_v0 : Ref sig .tc := ⟨.hbm, 168, rfl⟩
abbrev main_call6_v1 : Ref sig .tc := ⟨.hbm, 169, rfl⟩
abbrev main_call6_v2 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_cst_12 : Ref sig .tc := ⟨.hbm, 178, rfl⟩
abbrev main_call7_v0 : Ref sig .tc := ⟨.hbm, 179, rfl⟩
abbrev main_call7_v1 : Ref sig .tc := ⟨.hbm, 180, rfl⟩
abbrev main_call7_v2 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x2048x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Words.lean ====
/-
  The word arithmetic of the kernel's loop bounds. The kernel covers the first `n` cached positions in chunks of 256:
  it runs `⌈n / 256⌉` trips, computed on 32-bit words as jax's rounded-down division of `n + 256 - 1`.
-/
module

public import Idealize.ShloMosaic.Lib.Tactic
public import Idealize.ShloMosaic.Lib.WordArith
public import Idealize.ShloMosaic.Lib.Affine
public import Idealize.ShloMosaic.Lib.LoopRemainder
public import Idealize.ShloMosaic.Lib.WordCmp

@[expose] public section

namespace Cert.Words

open Idealize.ShloMosaic

theorem isInt_iff {x : BitVec 32} {e : Int} : Affine.IsInt x e ↔ x.toInt = e := by unfold Affine.IsInt; exact Iff.rfl

/-- The number of chunks as the kernel computes it from the word `v1`. -/
def blocks (v1 : BitVec 32) : BitVec 32 :=
  let v3 := Scalar.subi (Scalar.addi v1 256#32) 1#32
  let v9 := Scalar.subi (Scalar.extui (Scalar.cmpi .sgt v3 0#32)) (Scalar.extui (Scalar.cmpi .slt v3 0#32))
  let v14 := Scalar.subi (Scalar.extui (Scalar.cmpi .sgt 256#32 0#32)) (Scalar.extui (Scalar.cmpi .slt 256#32 0#32))
  let v18 := Scalar.andi (Scalar.cmpi .ne v9 v14) (Scalar.cmpi .ne (Scalar.remsi v3 256#32) 0#32)
  Scalar.select v18 (Scalar.subi (Scalar.divsi v3 256#32) 1#32) (Scalar.divsi v3 256#32)

/-- The number of chunks, as a natural number: none when there is no cached position. -/
def nblk (n : Int) : ℕ := ((n + 255) / 256).toNat

theorem nblk_le {n : Int} (h : n ≤ 2048) : nblk n ≤ 8 := by unfold nblk; omega

theorem toInt_v3 {v1 : BitVec 32} (h : v1.toInt ≤ 2048) :
    (Scalar.subi (Scalar.addi v1 256#32) 1#32).toInt = v1.toInt + 255 := by
  have h0 := Affine.word v1
  have hr := Affine.word_range v1
  exact isInt_iff.1 (Affine.subi (Affine.addi h0 (Affine.ofNat 256 ⟨rfl, by decide⟩) ⟨rfl, by omega, by omega⟩)
    (Affine.ofNat 1 ⟨rfl, by decide⟩) ⟨by omega, by omega, by omega⟩)

/-- The chunk count reads, signed, as `⌈n / 256⌉` when that is not negative, and as no positive number otherwise. -/
theorem toInt_blocks {v1 : BitVec 32} (h : v1.toInt ≤ 2048) :
    ((0 ≤ v1.toInt + 255 ∧ (blocks v1).toInt = (v1.toInt + 255) / 256) ∨
      (v1.toInt + 255 < 0 ∧ (blocks v1).toInt ≤ 0 ∧ -2 ^ 24 ≤ (blocks v1).toInt)) := by
  have h3 := toInt_v3 h
  have hr := Affine.word_range v1
  generalize hv3 : Scalar.subi (Scalar.addi v1 256#32) 1#32 = v3 at h3
  have hb : blocks v1 = Scalar.select (Scalar.andi (Scalar.cmpi .ne (Scalar.subi (Scalar.extui (Scalar.cmpi .sgt v3 0#32)) (Scalar.extui (Scalar.cmpi .slt v3 0#32))) 1#32)
      (Scalar.cmpi .ne (Scalar.remsi v3 256#32) 0#32)) (Scalar.subi (Scalar.divsi v3 256#32) 1#32) (Scalar.divsi v3 256#32) := by
    unfold blocks; simp only [hv3]; rfl
  rw [hb]
  by_cases hn : 0 ≤ v1.toInt + 255
  · left
    refine ⟨hn, ?_⟩
    have hd : (Scalar.divsi v3 256#32).toInt = (v1.toInt + 255) / 256 :=
      isInt_iff.1 (Affine.divsi (isInt_iff.2 h3) (Affine.ofNat 256 ⟨rfl, by decide⟩) ⟨rfl, hn, by decide⟩)
    by_cases hz : v1.toInt + 255 = 0
    · have : v3 = 0#32 := by apply BitVec.eq_of_toInt_eq; rw [h3, hz]; decide
      subst this
      rw [← hd]; decide
    · have hpos : (0 : Int) < v3.toInt := by omega
      have e1 : Scalar.cmpi .sgt v3 0#32 = 1#1 := by
        simp only [Scalar.cmpi, IntOp.cmpi, BitVec.slt]
        simp [hpos]
      have e2 : Scalar.cmpi .slt v3 0#32 = 0#1 := by
        simp only [Scalar.cmpi, IntOp.cmpi, BitVec.slt]
        simp only [BitVec.toInt_zero, WordCmp.ofBool_eq_zero_iff, decide_eq_false_iff_not]; omega
      rw [e1, e2, ← hd]
      have e3 : Scalar.cmpi .ne (Scalar.subi (Scalar.extui (1#1)) (Scalar.extui 0#1)) 1#32 = 0#1 := by decide
      rw [e3]
      have e4 : ∀ x : BitVec 1, Scalar.andi 0#1 x = 0#1 := by decide
      rw [e4]; rfl
  · right
    have hd : (Scalar.divsi v3 256#32).toInt = v3.toInt.tdiv 256 := by
      have hc : ¬ IntOp.SDivCorner v3 256#32 := by rintro (h | ⟨-, h⟩) <;> revert h <;> decide
      rw [Scalar.divsi, IntOp.divsi, if_neg hc, BitVec.toInt_sdiv_of_ne_or_ne]
      · rfl
      · right; decide
    have hd0 : v3.toInt.tdiv 256 ≤ 0 ∧ -2 ^ 24 < v3.toInt.tdiv 256 := by
      have : v3.toInt.tdiv 256 = - ((-v3.toInt) / 256) := by
        rw [← Int.neg_neg v3.toInt, Int.neg_tdiv, Int.tdiv_eq_ediv_of_nonneg (by omega)]; simp
      rw [this]; omega
    have hs : (Scalar.subi (Scalar.divsi v3 256#32) 1#32).toInt = v3.toInt.tdiv 256 - 1 :=
      isInt_iff.1 (Affine.subi (isInt_iff.2 hd) (Affine.ofNat 1 ⟨rfl, by decide⟩) ⟨by omega, by omega, by omega⟩)
    refine ⟨by omega, ?_⟩
    unfold Scalar.select
    split
    · rw [hs]; omega
    · rw [hd]; omega

/-- The upper bound of a main loop, as the kernel computes it: the chunk count. -/
theorem ub_eq (x : BitVec 32) :
    Scalar.addi 0#32 (Scalar.muli (Scalar.divsi (Scalar.subi x 0#32) 1#32) 1#32) = x := by
  rw [Scalar.muli_divsi_one]; simp [Scalar.addi, Scalar.subi, IntOp.addi, IntOp.subi]

theorem main_trips {v1 : BitVec 32} (h : v1.toInt ≤ 2048) :
    Scf.trips 0#32 (Scalar.addi 0#32 (Scalar.muli (Scalar.divsi (Scalar.subi (blocks v1) 0#32) 1#32) 1#32)) 1#32 = nblk v1.toInt := by
  rw [ub_eq]
  have h0 : (0#32 : BitVec 32).toInt = 0 := by decide
  have h1 : (1#32 : BitVec 32).toInt = 1 := by decide
  unfold Scf.trips nblk; rw [h0, h1]
  rcases toInt_blocks h with ⟨a, b⟩ | ⟨a, b, c⟩ <;> omega

theorem main_ok {v1 : BitVec 32} (h : v1.toInt ≤ 2048) :
    Scf.OK 0#32 (Scalar.addi 0#32 (Scalar.muli (Scalar.divsi (Scalar.subi (blocks v1) 0#32) 1#32) 1#32)) 1#32 := by
  have h0 : (0#32 : BitVec 32).toInt = 0 := by decide
  have h1 : (1#32 : BitVec 32).toInt = 1 := by decide
  refine ⟨by decide, ?_⟩
  rw [main_trips h, h0, h1]
  have := nblk_le h
  show (0 : Int) + _ * 1 < 2 ^ 31
  omega

/-- The first position of chunk `k`. -/
theorem off_toNat {k : ℕ} (hk : k < 8) :
    (Scalar.indexCast (Scalar.muli (Scf.iv 0#32 1#32 k) 256#32)).toNat = 256 * k := by
  revert k; decide

theorem mult_toNat {k : ℕ} (hk : k < 8) : (Scalar.muli (Scf.iv 0#32 1#32 k) 256#32).toNat = 256 * k :=
  off_toNat hk

end Cert.Words
-- ==== Proof.Kernel.Bounds.lean ====
/-
  The kernel's stated bounds hold at every sequence length that fits in the cache: every chunk a loop reads or writes lies
  in its buffer, and the loops have a meaning.
-/
module

public import proofs.«01_k».proof.Kernel
public import proofs.«01_k».proof.Proof.Words

@[expose] public section

namespace Cert.Kernel.Own

open Idealize.ShloMosaic Cert.Kernel

variable {v1 : BitVec 32}

theorem t1_trips (h : v1.toInt ≤ 2048) : (k0_t1_loop v1).trips = Words.nblk v1.toInt := Words.main_trips h

theorem t1_lt (h : v1.toInt ≤ 2048) (k : Fin (k0_t1_loop v1).trips) : k.val < 8 :=
  lt_of_lt_of_le k.isLt (by rw [t1_trips h]; exact Words.nblk_le h)

theorem t3_trips (h : v1.toInt ≤ 2048) : (k0_t3_loop v1).trips = Words.nblk v1.toInt := Words.main_trips h

theorem t3_lt (h : v1.toInt ≤ 2048) (k : Fin (k0_t3_loop v1).trips) : k.val < 8 :=
  lt_of_lt_of_le k.isLt (by rw [t3_trips h]; exact Words.nblk_le h)

theorem t5_trips (h : v1.toInt ≤ 2048) : (k0_t5_loop v1).trips = Words.nblk v1.toInt := Words.main_trips h

theorem t5_lt (h : v1.toInt ≤ 2048) (k : Fin (k0_t5_loop v1).trips) : k.val < 8 :=
  lt_of_lt_of_le k.isLt (by rw [t5_trips h]; exact Words.nblk_le h)

theorem t2_trips : (k0_t2_loop v1).trips = 0 := Scf.rem_trips 0#32 _

theorem t2_none (k : Fin (k0_t2_loop v1).trips) : False := Scf.rem_no_trip 0#32 _ k

theorem t4_trips : (k0_t4_loop v1).trips = 0 := Scf.rem_trips 0#32 _

theorem t4_none (k : Fin (k0_t4_loop v1).trips) : False := Scf.rem_no_trip 0#32 _ k

theorem t6_trips : (k0_t6_loop v1).trips = 0 := Scf.rem_trips 0#32 _

theorem t6_none (k : Fin (k0_t6_loop v1).trips) : False := Scf.rem_no_trip 0#32 _ k

theorem off2_at (h : v1.toInt ≤ 2048) (k : Fin (k0_t1_loop v1).trips) : k0_off2 v1 k = ![0, 256 * k.val, 0] := by
  rw [← Words.off_toNat (t1_lt h k)]; rfl

theorem off4_at (h : v1.toInt ≤ 2048) (k : Fin (k0_t1_loop v1).trips) : k0_off4 v1 k = ![0, 256 * k.val, 128] := by
  rw [← Words.off_toNat (t1_lt h k)]; rfl

theorem off6_at (h : v1.toInt ≤ 2048) (k : Fin (k0_t1_loop v1).trips) : k0_off6 v1 k = ![0, 256 * k.val, 256] := by
  rw [← Words.off_toNat (t1_lt h k)]; rfl

theorem off8_at (h : v1.toInt ≤ 2048) (k : Fin (k0_t1_loop v1).trips) : k0_off8 v1 k = ![0, 256 * k.val, 384] := by
  rw [← Words.off_toNat (t1_lt h k)]; rfl

theorem off3_at (h : v1.toInt ≤ 2048) (k : Fin (k0_t1_loop v1).trips) : k0_off3 v1 k = ![0, 0, 256 * k.val] := by
  rw [← Words.off_toNat (t1_lt h k)]; rfl

theorem off5_at (h : v1.toInt ≤ 2048) (k : Fin (k0_t1_loop v1).trips) : k0_off5 v1 k = ![0, 1, 256 * k.val] := by
  rw [← Words.off_toNat (t1_lt h k)]; rfl

theorem off7_at (h : v1.toInt ≤ 2048) (k : Fin (k0_t1_loop v1).trips) : k0_off7 v1 k = ![0, 2, 256 * k.val] := by
  rw [← Words.off_toNat (t1_lt h k)]; rfl

theorem off9_at (h : v1.toInt ≤ 2048) (k : Fin (k0_t1_loop v1).trips) : k0_off9 v1 k = ![0, 3, 256 * k.val] := by
  rw [← Words.off_toNat (t1_lt h k)]; rfl

theorem off10_at (h : v1.toInt ≤ 2048) (k : Fin (k0_t1_loop v1).trips) : k0_off10 v1 k = ![0, 0, 256 * k.val] := by
  rw [← Words.off_toNat (t1_lt h k)]; rfl

theorem off11_at (h : v1.toInt ≤ 2048) (k : Fin (k0_t1_loop v1).trips) : k0_off11 v1 k = ![0, 256 * k.val] := by
  rw [← Words.off_toNat (t1_lt h k)]; rfl

theorem off22_at (h : v1.toInt ≤ 2048) (k : Fin (k0_t3_loop v1).trips) : k0_off22 v1 k = ![0, 256 * k.val] := by
  rw [← Words.off_toNat (t3_lt h k)]; rfl

theorem off24_at (h : v1.toInt ≤ 2048) (k : Fin (k0_t5_loop v1).trips) : k0_off24 v1 k = ![0, 256 * k.val] := by
  rw [← Words.off_toNat (t5_lt h k)]; rfl

theorem off25_at (h : v1.toInt ≤ 2048) (k : Fin (k0_t5_loop v1).trips) : k0_off25 v1 k = ![0, 0, 256 * k.val] := by
  rw [← Words.off_toNat (t5_lt h k)]; rfl

theorem off26_at (h : v1.toInt ≤ 2048) (k : Fin (k0_t5_loop v1).trips) : k0_off26 v1 k = ![0, 256 * k.val, 0] := by
  rw [← Words.off_toNat (t5_lt h k)]; rfl

theorem off27_at (h : v1.toInt ≤ 2048) (k : Fin (k0_t5_loop v1).trips) : k0_off27 v1 k = ![0, 1, 256 * k.val] := by
  rw [← Words.off_toNat (t5_lt h k)]; rfl

theorem off28_at (h : v1.toInt ≤ 2048) (k : Fin (k0_t5_loop v1).trips) : k0_off28 v1 k = ![0, 256 * k.val, 128] := by
  rw [← Words.off_toNat (t5_lt h k)]; rfl

theorem off29_at (h : v1.toInt ≤ 2048) (k : Fin (k0_t5_loop v1).trips) : k0_off29 v1 k = ![0, 2, 256 * k.val] := by
  rw [← Words.off_toNat (t5_lt h k)]; rfl

theorem off30_at (h : v1.toInt ≤ 2048) (k : Fin (k0_t5_loop v1).trips) : k0_off30 v1 k = ![0, 256 * k.val, 256] := by
  rw [← Words.off_toNat (t5_lt h k)]; rfl

theorem off31_at (h : v1.toInt ≤ 2048) (k : Fin (k0_t5_loop v1).trips) : k0_off31 v1 k = ![0, 3, 256 * k.val] := by
  rw [← Words.off_toNat (t5_lt h k)]; rfl

theorem off32_at (h : v1.toInt ≤ 2048) (k : Fin (k0_t5_loop v1).trips) : k0_off32 v1 k = ![0, 256 * k.val, 384] := by
  rw [← Words.off_toNat (t5_lt h k)]; rfl

theorem k0_chk1_0_of (h : v1.toInt ≤ 2048) : k0_chk1_0 v1 :=
  ⟨Words.main_ok h,
   fun k => ⟨k.val, Words.mult_toNat (t1_lt h k)⟩,
   fun k a => by rw [off2_at h k]; have := t1_lt h k; revert a; rw [Fin.forall_fin_succ] <;> simp [Fin.forall_fin_succ] <;> omega,
   fun k a => by rw [off3_at h k]; have := t1_lt h k; revert a; rw [Fin.forall_fin_succ] <;> simp [Fin.forall_fin_succ] <;> omega,
   fun k a => by rw [off4_at h k]; have := t1_lt h k; revert a; rw [Fin.forall_fin_succ] <;> simp [Fin.forall_fin_succ] <;> omega,
   fun k a => by rw [off5_at h k]; have := t1_lt h k; revert a; rw [Fin.forall_fin_succ] <;> simp [Fin.forall_fin_succ] <;> omega,
   fun k a => by rw [off6_at h k]; have := t1_lt h k; revert a; rw [Fin.forall_fin_succ] <;> simp [Fin.forall_fin_succ] <;> omega,
   fun k a => by rw [off7_at h k]; have := t1_lt h k; revert a; rw [Fin.forall_fin_succ] <;> simp [Fin.forall_fin_succ] <;> omega,
   fun k a => by rw [off8_at h k]; have := t1_lt h k; revert a; rw [Fin.forall_fin_succ] <;> simp [Fin.forall_fin_succ] <;> omega,
   fun k a => by rw [off9_at h k]; have := t1_lt h k; revert a; rw [Fin.forall_fin_succ] <;> simp [Fin.forall_fin_succ] <;> omega,
   fun k a => by rw [off10_at h k]; have := t1_lt h k; revert a; rw [Fin.forall_fin_succ] <;> simp [Fin.forall_fin_succ] <;> omega,
   fun k a => by rw [off11_at h k]; have := t1_lt h k; revert a; rw [Fin.forall_fin_succ] <;> simp [Fin.forall_fin_succ] <;> omega,
   Scf.rem_ok 0#32 _,
   fun k => (t2_none k).elim,
   fun k => (t2_none k).elim,
   fun k => (t2_none k).elim,
   fun k => (t2_none k).elim,
   fun k => (t2_none k).elim,
   fun k => (t2_none k).elim,
   fun k => (t2_none k).elim,
   fun k => (t2_none k).elim,
   fun k => (t2_none k).elim,
   fun k => (t2_none k).elim,
   fun k => (t2_none k).elim,
   Words.main_ok h,
   fun k => ⟨k.val, Words.mult_toNat (t3_lt h k)⟩,
   fun k a => by rw [off22_at h k]; have := t3_lt h k; revert a; rw [Fin.forall_fin_succ] <;> simp [Fin.forall_fin_succ] <;> omega,
   Scf.rem_ok 0#32 _,
   fun k => (t4_none k).elim,
   fun k => (t4_none k).elim,
   Words.main_ok h,
   fun k => ⟨k.val, Words.mult_toNat (t5_lt h k)⟩⟩

theorem k0_chk1_1_of (h : v1.toInt ≤ 2048) : k0_chk1_1 v1 :=
  ⟨fun k a => by rw [off24_at h k]; have := t5_lt h k; revert a; rw [Fin.forall_fin_succ] <;> simp [Fin.forall_fin_succ] <;> omega,
   fun k a => by rw [off25_at h k]; have := t5_lt h k; revert a; rw [Fin.forall_fin_succ] <;> simp [Fin.forall_fin_succ] <;> omega,
   fun k a => by rw [off26_at h k]; have := t5_lt h k; revert a; rw [Fin.forall_fin_succ] <;> simp [Fin.forall_fin_succ] <;> omega,
   fun k a => by rw [off27_at h k]; have := t5_lt h k; revert a; rw [Fin.forall_fin_succ] <;> simp [Fin.forall_fin_succ] <;> omega,
   fun k a => by rw [off28_at h k]; have := t5_lt h k; revert a; rw [Fin.forall_fin_succ] <;> simp [Fin.forall_fin_succ] <;> omega,
   fun k a => by rw [off29_at h k]; have := t5_lt h k; revert a; rw [Fin.forall_fin_succ] <;> simp [Fin.forall_fin_succ] <;> omega,
   fun k a => by rw [off30_at h k]; have := t5_lt h k; revert a; rw [Fin.forall_fin_succ] <;> simp [Fin.forall_fin_succ] <;> omega,
   fun k a => by rw [off31_at h k]; have := t5_lt h k; revert a; rw [Fin.forall_fin_succ] <;> simp [Fin.forall_fin_succ] <;> omega,
   fun k a => by rw [off32_at h k]; have := t5_lt h k; revert a; rw [Fin.forall_fin_succ] <;> simp [Fin.forall_fin_succ] <;> omega,
   Scf.rem_ok 0#32 _,
   fun k => (t6_none k).elim,
   fun k => (t6_none k).elim,
   fun k => (t6_none k).elim,
   fun k => (t6_none k).elim,
   fun k => (t6_none k).elim,
   fun k => (t6_none k).elim,
   fun k => (t6_none k).elim,
   fun k => (t6_none k).elim,
   fun k => (t6_none k).elim,
   fun k => (t6_none k).elim⟩

/-- The kernel's own check of its bounds, from the sequence length fitting in the cache. -/
theorem k0_chk1_of (h : v1.toInt ≤ 2048) : k0_chk1 v1 := ⟨k0_chk1_0_of h, k0_chk1_1_of h⟩

end Cert.Kernel.Own
-- ==== Proof.Kernel.Spec.lean ====
/-
  What the kernel computes for one sequence, as a function of its blocks: the masked scores of each chunk of 256 cached
  positions, their running maximum, the running sum of the exponentials, and the accumulated output columns.
-/
module

public import proofs.«01_k».proof.Proof.Kernel.Bounds
public import proofs.«01_k».proof.Proof.Gen.Kernel.Skeleton
public import Idealize.ShloMosaic.Lib.Pipeline.FrameBody

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The word of the first position of chunk `k`. -/
def base (k : ℕ) : BitVec 32 := Scalar.muli (Scf.iv 0#32 1#32 k) 256#32

/-- Column group `g` of chunk `k` of the codes. -/
def r6 (g : Fin 4) (k : Fin 8) : Rect S1x2048x512 :=
  Rect.unit (s := S1x2048x512) ![0, 256 * k.val, 128 * g.val] S1x256x128.size (by
    have := k.isLt; have := g.isLt
    intro a; fin_cases a
    · exact Nat.le_of_eq rfl
    · show 256 * k.val + 256 ≤ 2048; omega
    · show 128 * g.val + 128 ≤ 512; omega)

/-- Row `g` of chunk `k` of the scales. -/
def r7 (g : Fin 4) (k : Fin 8) : Rect S1x4x2048 :=
  Rect.unit (s := S1x4x2048) ![0, g.val, 256 * k.val] S1x1x256.size (by
    have := k.isLt; have := g.isLt
    intro a; fin_cases a
    · exact Nat.le_of_eq rfl
    · show g.val + 1 ≤ 4; omega
    · show 256 * k.val + 256 ≤ 2048; omega)

/-- Chunk `k` of the rotary keys. -/
def r8 (k : Fin 8) : Rect S1x64x2048 :=
  Rect.unit (s := S1x64x2048) ![0, 0, 256 * k.val] S1x64x256.size (by
    have := k.isLt
    intro a; fin_cases a
    · exact Nat.le_of_eq rfl
    · exact Nat.le_of_eq rfl
    · show 256 * k.val + 256 ≤ 2048; omega)

/-- Chunk `k` of the scores. -/
def r10 (k : Fin 8) : Rect S32x2048 :=
  Rect.unit (s := S32x2048) ![0, 256 * k.val] S32x256.size (by
    have := k.isLt
    intro a; fin_cases a
    · exact Nat.le_of_eq rfl
    · show 256 * k.val + 256 ≤ 2048; omega)

/-- Column group `g` of the output. -/
def r11 (g : Fin 4) : Rect S32x512 :=
  Rect.unit (s := S32x512) ![0, 128 * g.val] S32x128.size (by
    have := g.isLt
    intro a; fin_cases a
    · exact Nat.le_of_eq rfl
    · show 128 * g.val + 128 ≤ 512; omega)

def codes (x6 : Vec F S1x2048x512 .fp8e4m3) (g : Fin 4) (k : Fin 8) : Vec F S1x256x128 .fp8e4m3 := View.ld (Val := Elt F) (e' := .fp8e4m3) x6 (r6 g k)
def scales (x7 : Vec F S1x4x2048 .f32) (g : Fin 4) (k : Fin 8) : Vec F S1x1x256 .f32 := View.ld (Val := Elt F) (e' := .f32) x7 (r7 g k)
def rope (x8 : Vec F S1x64x2048 .bf16) (k : Fin 8) : Vec F S1x64x256 .bf16 := View.ld (Val := Elt F) (e' := .bf16) x8 (r8 k)
def scoreBlk (x10 : Vec F S32x2048 .f32) (k : Fin 8) : Vec F S32x256 .f32 := View.ld (Val := Elt F) (e' := .f32) x10 (r10 k)
def outCols (x11 : Vec F S32x512 .f32) (g : Fin 4) : Vec F S32x128 .f32 := View.ld (Val := Elt F) (e' := .f32) x11 (r11 g)

/-! ## Scores -/

section Scores

variable (v1 : Elt F .i32) (v22 : FVec F S32x512 .bf16) (v24 : FVec F S32x64 .bf16) (x6 : Vec F S1x2048x512 .fp8e4m3)
  (x7 : Vec F S1x4x2048 .f32) (x8 : Vec F S1x64x2048 .bf16) (init : FVec F S32x1 .f32)

/-- The masked scores of chunk `k`. -/
def score (k : Fin 8) : FVec F S32x256 .f32 :=
  k0_pay23 v1 v24 (base k.val) (k0_pay6 v22 (codes x6 0 k) (scales x7 0 k) (codes x6 1 k) (scales x7 1 k) (codes x6 2 k) (scales x7 2 k))
    (k0_pay7 v22 (codes x6 3 k)) (scales x7 3 k) (rope x8 k)

/-- The running maximum after chunk `k`. -/
def maxStep (acc : FVec F S32x1 .f32) (k : Fin 8) : FVec F S32x1 .f32 :=
  k0_pay24 v1 v24 acc (base k.val) (k0_pay6 v22 (codes x6 0 k) (scales x7 0 k) (codes x6 1 k) (scales x7 1 k) (codes x6 2 k) (scales x7 2 k))
    (k0_pay7 v22 (codes x6 3 k)) (scales x7 3 k) (rope x8 k)

/-- The running maximum before chunk `k`. -/
def runMax : ℕ → FVec F S32x1 .f32
  | 0 => init
  | k + 1 => if h : k < 8 then maxStep v1 v22 v24 x6 x7 x8 (runMax k) ⟨k, h⟩ else runMax k

theorem runMax_succ {k : ℕ} (h : k < 8) : runMax v1 v22 v24 x6 x7 x8 init (k + 1)
    = maxStep v1 v22 v24 x6 x7 x8 (runMax v1 v22 v24 x6 x7 x8 init k) ⟨k, h⟩ := dif_pos h

end Scores

/-! ## Exponentials and their sum -/

section Exps

variable (v50 : FVec F S32x1 .f32) (S : Fin 8 → FVec F S32x256 .f32) (init : FVec F S32x1 .f32)

/-- The running sum before chunk `k`. -/
def runSum : ℕ → FVec F S32x1 .f32
  | 0 => init
  | k + 1 => if h : k < 8 then k0_pay32 v50 (runSum k) (S ⟨k, h⟩) else runSum k

theorem runSum_succ {k : ℕ} (h : k < 8) : runSum v50 S init (k + 1) = k0_pay32 v50 (runSum v50 S init k) (S ⟨k, h⟩) := dif_pos h

end Exps

/-! ## Output columns -/

section Outs

variable (v63 : FVec F S32x1 .f32) (E : Fin 8 → FVec F S32x256 .f32) (x6 : Vec F S1x2048x512 .fp8e4m3)
  (x7 : Vec F S1x4x2048 .f32) (init : Vec F S32x512 .f32)

/-- Column group `g` of the output after chunk `k`. -/
def colsStep (g : Fin 4) (acc : Vec F S32x128 .f32) (k : Fin 8) : Vec F S32x128 .f32 :=
  match g with
  | 0 => k0_pay11 v63 (E k) (scales x7 0 k) acc (codes x6 0 k)
  | 1 => k0_pay12 v63 (E k) (scales x7 1 k) acc (codes x6 1 k)
  | 2 => k0_pay1 (k0_pay10 v63 (E k)) (scales x7 2 k) acc (codes x6 2 k)
  | 3 => k0_pay2 (k0_pay10 v63 (E k)) (scales x7 3 k) acc (codes x6 3 k)

/-- Column group `g` of the output before chunk `k`. -/
def runCols (g : Fin 4) : ℕ → Vec F S32x128 .f32
  | 0 => outCols init g
  | k + 1 => if h : k < 8 then colsStep v63 E x6 x7 g (runCols g k) ⟨k, h⟩ else runCols g k

theorem runCols_succ (g : Fin 4) {k : ℕ} (h : k < 8) : runCols v63 E x6 x7 init g (k + 1)
    = colsStep v63 E x6 x7 g (runCols v63 E x6 x7 init g k) ⟨k, h⟩ := dif_pos h

/-- The whole output before chunk `k`. -/
def wholeCols (k : ℕ) : Vec F S32x512 .f32 := fun i =>
  runCols v63 E x6 x7 init ⟨(i 1).val / 128, by have : (i 1).val < 512 := (i 1).isLt; omega⟩ k
    (fun a => match a with
      | 0 => ⟨(i 0).val, (i 0).isLt⟩
      | 1 => ⟨(i 1).val % 128, Nat.mod_lt _ (by decide)⟩)

end Outs

/-! ## The block -/

section Block

variable (v1 : Elt F .i32) (x2 : Vec F S1x32x512 .bf16) (x3 : Vec F S1x32x64 .bf16) (x4 : Vec F S1x1x512 .bf16) (x5 : Vec F S1x1x64 .bf16)
  (x6 : Vec F S1x2048x512 .fp8e4m3) (x7 : Vec F S1x4x2048 .f32) (x8 : Vec F S1x64x2048 .bf16)

/-- The maximum over the new token and every chunk. -/
def topOf : FVec F S32x1 .f32 :=
  runMax v1 (k0_pay16 x2) (k0_pay17 x3) x6 x7 x8 (k0_pay21 (k0_pay18 x2 x4) (k0_pay19 x3) (k0_pay20 x5)) (Words.nblk (BitVec.toInt v1))

/-- The scores. -/
def scoresOf (k : Fin 8) : FVec F S32x256 .f32 := score v1 (k0_pay16 x2) (k0_pay17 x3) x6 x7 x8 k

/-- The sum of the exponentials over the chunks. -/
def sumOf : FVec F S32x1 .f32 :=
  runSum (topOf v1 x2 x3 x4 x5 x6 x7 x8) (scoresOf v1 x2 x3 x6 x7 x8) (k0_pay29 (F := F)) (Words.nblk (BitVec.toInt v1))

/-- One over the whole sum. -/
def invOf : FVec F S32x1 .f32 :=
  k0_pay36 (k0_pay18 x2 x4) (k0_pay19 x3) (k0_pay20 x5) (topOf v1 x2 x3 x4 x5 x6 x7 x8) (sumOf v1 x2 x3 x4 x5 x6 x7 x8)

/-- The new token's part of the output. -/
def newOf : Vec F S32x512 .f32 :=
  k0_pay37 (k0_pay18 x2 x4) (k0_pay19 x3) (k0_pay20 x5) (topOf v1 x2 x3 x4 x5 x6 x7 x8) (sumOf v1 x2 x3 x4 x5 x6 x7 x8) x4

/-- The exponentials of chunk `k`. -/
def expsOf (k : Fin 8) : FVec F S32x256 .f32 := k0_pay31 (topOf v1 x2 x3 x4 x5 x6 x7 x8) (scoresOf v1 x2 x3 x6 x7 x8 k)

/-- The block the kernel leaves for one sequence. -/
def blockOf : Vec F S1x32x512 .bf16 :=
  k0_pay5 (wholeCols (invOf v1 x2 x3 x4 x5 x6 x7 x8) (expsOf v1 x2 x3 x4 x5 x6 x7 x8) x6 x7 (newOf v1 x2 x3 x4 x5 x6 x7 x8)
    (Words.nblk (BitVec.toInt v1)))

end Block

end Cert.Kernel.Own

end
-- ==== Proof.Kernel.Trips.lean ====
/-
  One trip of each of the kernel's loops, and each loop, as a step of what the scratch buffers hold.
-/
module

public import proofs.«01_k».proof.Proof.Kernel.Spec
public import Idealize.ShloMosaic.Lib.Pipeline.Kit
public import Idealize.ShloMosaic.Lib.WritesUnit
public import Idealize.ShloMosaic.Lib.VecWindow
public import Idealize.ShloMosaic.Lib.Exec
public import Idealize.ShloMosaic.Lib.Tactic

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem readAt_unit_eq {sp : Space} {s : Shape} {e : EltTy} (v : View sig .tc sp s e) (f : v.ty.Contents (Elt F)) {off off' size : Fin s.rank → ℕ}
    (inb : ∀ a, off a + size a ≤ s.size a) (h : off = off') (inb' : ∀ a, off' a + size a ≤ s.size a) :
    v.readAt (Elt F) (Rect.unit off size inb).toLoadRect f = View.ld (v.read (Elt F) f) (Rect.unit off' size inb') := by
  subst h; rfl

theorem codes_read (v : View sig .tc .vmem S1x2048x512 .fp8e4m3) (f : v.ty.Contents (Elt F)) (g : Fin 4) (k : Fin 8) {off : Fin S1x2048x512.rank → ℕ}
    (inb : ∀ a, off a + S1x256x128.size a ≤ S1x2048x512.size a) (h : off = ![0, 256 * k.val, 128 * g.val]) :
    v.readAt (Elt F) (Rect.unit (s := S1x2048x512) off S1x256x128.size inb).toLoadRect f = codes (v.read (Elt F) f) g k := by
  subst h; rfl

theorem scales_read (v : View sig .tc .vmem S1x4x2048 .f32) (f : v.ty.Contents (Elt F)) (g : Fin 4) (k : Fin 8) {off : Fin S1x4x2048.rank → ℕ}
    (inb : ∀ a, off a + S1x1x256.size a ≤ S1x4x2048.size a) (h : off = ![0, g.val, 256 * k.val]) :
    v.readAt (Elt F) (Rect.unit (s := S1x4x2048) off S1x1x256.size inb).toLoadRect f = scales (v.read (Elt F) f) g k := by
  subst h; rfl

theorem rope_read (v : View sig .tc .vmem S1x64x2048 .bf16) (f : v.ty.Contents (Elt F)) (k : Fin 8) {off : Fin S1x64x2048.rank → ℕ}
    (inb : ∀ a, off a + S1x64x256.size a ≤ S1x64x2048.size a) (h : off = ![0, 0, 256 * k.val]) :
    v.readAt (Elt F) (Rect.unit (s := S1x64x2048) off S1x64x256.size inb).toLoadRect f = rope (v.read (Elt F) f) k := by
  subst h; rfl

theorem scoreBlk_read (v : View sig .tc .vmem S32x2048 .f32) (f : v.ty.Contents (Elt F)) (k : Fin 8) {off : Fin S32x2048.rank → ℕ}
    (inb : ∀ a, off a + S32x256.size a ≤ S32x2048.size a) (h : off = ![0, 256 * k.val]) :
    v.readAt (Elt F) (Rect.unit (s := S32x2048) off S32x256.size inb).toLoadRect f = scoreBlk (v.read (Elt F) f) k := by
  subst h; rfl

theorem outCols_write (v : View sig .tc .vmem S32x512 .f32) (f : v.ty.Contents (Elt F)) (w0 w1 w2 w3 : Vec F S32x128 .f32) (g : Fin 4) :
    outCols (v.read (Elt F) (v.writes (Elt F) f
      [⟨Rect.unit (s := S32x512) ![0, 384] S32x128.size inb_S32x512_S32x128_0_384, w3⟩, ⟨Rect.unit (s := S32x512) ![0, 256] S32x128.size inb_S32x512_S32x128_0_256, w2⟩,
       ⟨Rect.unit (s := S32x512) ![0, 128] S32x128.size inb_S32x512_S32x128_0_128, w1⟩, ⟨Rect.unit (s := S32x512) ![0, 0] S32x128.size inb_S32x512_S32x128_0_0, w0⟩])) g
      = (match g with | 0 => w0 | 1 => w1 | 2 => w2 | 3 => w3) := by
  funext x
  have hx0 : (x 0).val < 32 := (x 0).isLt
  have hx1 : (x 1).val < 128 := (x 1).isLt
  have hit : ∀ (o : ℕ) (inb : ∀ a, (![0, o] : Fin 2 → ℕ) a + S32x128.size a ≤ S32x512.size a) (w : Vec F S32x128 .f32) (L : List (View.Piece (Elt F) S32x512 .f32)) (g : Fin 4),
      o = 128 * g.val → v.read (Elt F) (v.writes (Elt F) f (⟨Rect.unit (s := S32x512) ![0, o] S32x128.size inb, w⟩ :: L)) ((r11 g).idx x) = w x := by
    intro o inb w L g ho
    refine View.read_writes_cons_unit_of_mem v f inb w L _ x rfl ?_
    intro a; fin_cases a
    · show 0 + 1 * (x 0).val = 0 + (x 0).val; omega
    · show 128 * g.val + 1 * (x 1).val = o + (x 1).val; omega
  have miss : ∀ (o : ℕ) (inb : ∀ a, (![0, o] : Fin 2 → ℕ) a + S32x128.size a ≤ S32x512.size a) (w : Vec F S32x128 .f32) (L : List (View.Piece (Elt F) S32x512 .f32)) (g : Fin 4),
      128 * g.val + 128 ≤ o ∨ o + 128 ≤ 128 * g.val → v.read (Elt F) (v.writes (Elt F) f (⟨Rect.unit (s := S32x512) ![0, o] S32x128.size inb, w⟩ :: L)) ((r11 g).idx x)
        = v.read (Elt F) (v.writes (Elt F) f L) ((r11 g).idx x) := by
    intro o inb w L g ho
    refine View.read_writes_cons_unit_of_not_mem v f inb w L _ rfl (1 : Fin 2) ?_
    show 128 * g.val + 1 * (x 1).val < o ∨ o + 128 ≤ 128 * g.val + 1 * (x 1).val
    omega
  show v.read (Elt F) _ ((r11 g).idx x) = _
  match g with
  | 0 => rw [miss 384 _ _ _ 0 (.inl (by decide)), miss 256 _ _ _ 0 (.inl (by decide)), miss 128 _ _ _ 0 (.inl (by decide)), hit 0 _ _ _ 0 rfl]
  | 1 => rw [miss 384 _ _ _ 1 (.inl (by decide)), miss 256 _ _ _ 1 (.inl (by decide)), hit 128 _ _ _ 1 rfl]
  | 2 => rw [miss 384 _ _ _ 2 (.inl (by decide)), hit 256 _ _ _ 2 rfl]
  | 3 => rw [hit 384 _ _ _ 3 rfl]

/-- Blocks of the scores after one more chunk is written. -/
theorem scoreBlk_write (v : View sig .tc .vmem S32x2048 .f32) (f : v.ty.Contents (Elt F)) (k : Fin 8) {off : Fin 2 → ℕ}
    (inb : ∀ a, off a + S32x256.size a ≤ S32x2048.size a) (h : off = ![0, 256 * k.val]) (w : Vec F S32x256 .f32) (j : Fin 8) :
    scoreBlk (v.read (Elt F) (v.writes (Elt F) f [⟨Rect.unit (s := S32x2048) off S32x256.size inb, w⟩])) j
      = if j = k then w else scoreBlk (v.read (Elt F) f) j := by
  funext x
  have hx0 : (x 0).val < 32 := (x 0).isLt
  have hx1 : (x 1).val < 256 := (x 1).isLt
  by_cases hj : j = k
  · rw [if_pos hj]; subst hj
    refine View.read_writes_cons_unit_of_mem v f inb w [] _ x h ?_
    intro a; fin_cases a
    · show 0 + 1 * (x 0).val = 0 + (x 0).val; omega
    · show 256 * j.val + 1 * (x 1).val = 256 * j.val + (x 1).val; omega
  · rw [if_neg hj]
    refine View.read_writes_cons_unit_of_not_mem v f inb w [] _ h (1 : Fin 2) ?_
    have hne : j.val ≠ k.val := fun e => hj (Fin.ext e)
    show 256 * j.val + 1 * (x 1).val < 256 * k.val ∨ 256 * k.val + 256 ≤ 256 * j.val + 1 * (x 1).val
    omega

variable (i : grid0.Coords)
variable (arg1 : Memref sig .tc .smem S128 .i32) (harg1 : arg1.IsWhole)
  (arg2 : Memref sig .tc .vmem S1x32x512 .bf16) (harg2 : arg2.IsWhole)
  (arg3 : Memref sig .tc .vmem S1x32x64 .bf16) (harg3 : arg3.IsWhole)
  (arg4 : Memref sig .tc .vmem S1x1x512 .bf16) (harg4 : arg4.IsWhole)
  (arg5 : Memref sig .tc .vmem S1x1x64 .bf16) (harg5 : arg5.IsWhole)
  (arg6 : Memref sig .tc .vmem S1x2048x512 .fp8e4m3) (harg6 : arg6.IsWhole)
  (arg7 : Memref sig .tc .vmem S1x4x2048 .f32) (harg7 : arg7.IsWhole)
  (arg8 : Memref sig .tc .vmem S1x64x2048 .bf16) (harg8 : arg8.IsWhole)
  (arg9 : Memref sig .tc .vmem S1x32x512 .bf16) (harg9 : arg9.IsWhole)
  (arg10 : Memref sig .tc .vmem S32x2048 .f32) (harg10 : arg10.IsWhole)
  (arg11 : Memref sig .tc .vmem S32x512 .f32) (harg11 : arg11.IsWhole)
  (v1 : Elt F .i32) (hv : BitVec.toInt v1 ≤ 2048) (hw : k0_chk1 v1) (v20 : BitVec 32) (v22 : FVec F S32x512 .bf16) (v24 : FVec F S32x64 .bf16)
  (v32 : FVec F S32x1 .f32) (v33 : FVec F S32x64 .f32) (v35 : FVec F S1x64 .bf16)
  (X6 : arg6.view.ty.Contents (Elt F)) (X7 : arg7.view.ty.Contents (Elt F)) (X8 : arg8.view.ty.Contents (Elt F)) (init : FVec F S32x1 .f32)

/-- Before chunk `k` of the score loop. -/
def inv1 (c : Dev nD) (k : ℕ) (acc : FVec F S32x1 .f32) : sProp 𝕄 :=
  iprop((arg6.view.loc (c : Thread nD τ) ↦[arg6.view.set]{fullShare} X6) ∗ (arg7.view.loc (c : Thread nD τ) ↦[arg7.view.set]{fullShare} X7)
    ∗ (arg8.view.loc (c : Thread nD τ) ↦[arg8.view.set]{fullShare} X8)
    ∗ (∃ f, (arg10.view.loc (c : Thread nD τ) ↦[arg10.view.set]{fullShare} f)
        ∗ ⌜acc = runMax v1 v22 v24 (arg6.view.read (Elt F) X6) (arg7.view.read (Elt F) X7) (arg8.view.read (Elt F) X8) init k
            ∧ ∀ j : Fin 8, j.val < k → scoreBlk (arg10.view.read (Elt F) f) j
                = score v1 v22 v24 (arg6.view.read (Elt F) X6) (arg7.view.read (Elt F) X7) (arg8.view.read (Elt F) X8) j⌝))

include hv in
set_option maxHeartbeats 2000000 in
theorem trip1 (c : Dev nD) (E : Set ℕ) (k : Fin (k0_t1_loop v1).trips) (acc : FVec F S32x1 .f32) :
    inv1 arg6 arg7 arg8 arg10 v1 v22 v24 X6 X7 X8 init c k.val acc
      ⊢ wp frame (wpE (defs₀ (F := F)) Variants.none (c : Thread nD τ) none) E
          (k0_t1_body i arg1 harg1 arg2 harg2 arg3 harg3 arg4 harg4 arg5 harg5 arg6 harg6 arg7 harg7 arg8 harg8 arg9 harg9 arg10 harg10 arg11 harg11 v1 hw v20 v22 v24 v32 v33 v35 k acc)
          (fun y => inv1 arg6 arg7 arg8 arg10 v1 v22 v24 X6 X7 X8 init c (k.val + 1) y) := by
  unfold inv1 k0_t1_body
  iintro ⟨H6, H7, H8, ⟨%f, H10, %hf⟩⟩
  obtain ⟨hacc, hblk⟩ := hf
  sl_exec
  sl_step
  have hk8 := t1_lt hv k
  have c0 := codes_read arg6.view X6 0 ⟨k.val, hk8⟩ (k0_off2_inb v1 hw k) (off2_at hv k)
  have c1 := codes_read arg6.view X6 1 ⟨k.val, hk8⟩ (k0_off4_inb v1 hw k) (off4_at hv k)
  have c2 := codes_read arg6.view X6 2 ⟨k.val, hk8⟩ (k0_off6_inb v1 hw k) (off6_at hv k)
  have c3 := codes_read arg6.view X6 3 ⟨k.val, hk8⟩ (k0_off8_inb v1 hw k) (off8_at hv k)
  have s0 := scales_read arg7.view X7 0 ⟨k.val, hk8⟩ (k0_off3_inb v1 hw k) (off3_at hv k)
  have s1 := scales_read arg7.view X7 1 ⟨k.val, hk8⟩ (k0_off5_inb v1 hw k) (off5_at hv k)
  have s2 := scales_read arg7.view X7 2 ⟨k.val, hk8⟩ (k0_off7_inb v1 hw k) (off7_at hv k)
  have s3 := scales_read arg7.view X7 3 ⟨k.val, hk8⟩ (k0_off9_inb v1 hw k) (off9_at hv k)
  have q0 := rope_read arg8.view X8  ⟨k.val, hk8⟩ (k0_off10_inb v1 hw k) (off10_at hv k)
  isplitl [H6]; · iexact H6
  isplitl [H7]; · iexact H7
  isplitl [H8]; · iexact H8
  iexists _; isplitl [H10]; · iexact H10
  ipureintro
  refine ⟨?_, ?_⟩
  · rw [runMax_succ _ _ _ _ _ _ _ hk8, ← hacc]
    unfold trip1.sl.v88 trip1.sl.r trip1.sl.r_1
    rw [c0, c1, c2, c3, s0, s1, s2, s3, q0]; rfl
  · intro j hj
    refine (scoreBlk_write arg10.view f ⟨k.val, hk8⟩ (k0_off11_inb v1 hw k) (off11_at hv k) _ j).trans ?_
    by_cases h : j = ⟨k.val, hk8⟩
    · rw [if_pos h]
      subst h
      unfold trip1.sl.v88 trip1.sl.r trip1.sl.r_1
      rw [c0, c1, c2, c3, s0, s1, s2, s3, q0]; rfl
    · rw [if_neg h]
      exact hblk j (by have : j.val ≠ k.val := fun e => h (Fin.ext e); omega)

variable (v50 : FVec F S32x1 .f32) (S : Fin 8 → FVec F S32x256 .f32)

/-- Before chunk `k` of the loop of exponentials: the chunks before it hold exponentials, the others scores. -/
def inv3 (c : Dev nD) (n k : ℕ) (acc : FVec F S32x1 .f32) : sProp 𝕄 :=
  iprop(∃ f, (arg10.view.loc (c : Thread nD τ) ↦[arg10.view.set]{fullShare} f)
        ∗ ⌜acc = runSum v50 S init k
            ∧ (∀ j : Fin 8, j.val < k → scoreBlk (arg10.view.read (Elt F) f) j = k0_pay31 v50 (S j))
            ∧ ∀ j : Fin 8, k ≤ j.val → j.val < n → scoreBlk (arg10.view.read (Elt F) f) j = S j⌝)

include hv in
set_option maxHeartbeats 2000000 in
theorem trip3 (c : Dev nD) (E : Set ℕ) (k : Fin (k0_t3_loop v1).trips) (acc : FVec F S32x1 .f32) :
    inv3 arg10 init v50 S c (Words.nblk (BitVec.toInt v1)) k.val acc
      ⊢ wp frame (wpE (defs₀ (F := F)) Variants.none (c : Thread nD τ) none) E
          (k0_t3_body i arg1 harg1 arg2 harg2 arg3 harg3 arg4 harg4 arg5 harg5 arg6 harg6 arg7 harg7 arg8 harg8 arg9 harg9 arg10 harg10 arg11 harg11 v1 hw v20 v22 v24 v32 v33 v35 v50 k acc)
          (fun y => inv3 arg10 init v50 S c (Words.nblk (BitVec.toInt v1)) (k.val + 1) y) := by
  unfold inv3 k0_t3_body
  iintro ⟨%f, H10, %hf⟩
  obtain ⟨hacc, hlo, hhi⟩ := hf
  sl_exec
  sl_step
  have hk8 := t3_lt hv k
  have hkn : k.val < Words.nblk (BitVec.toInt v1) := lt_of_lt_of_eq k.isLt (t3_trips hv)
  have b := scoreBlk_read arg10.view f ⟨k.val, hk8⟩ (k0_off22_inb v1 hw k) (off22_at hv k)
  rw [hhi ⟨k.val, hk8⟩ (le_refl _) hkn] at b
  iexists _; isplitl [H10]; · iexact H10
  ipureintro
  refine ⟨?_, ?_, ?_⟩
  · rw [runSum_succ _ _ _ hk8, ← hacc, b]
  · intro j hj
    refine (scoreBlk_write arg10.view f ⟨k.val, hk8⟩ (k0_off22_inb v1 hw k) (off22_at hv k) _ j).trans ?_
    by_cases h : j = ⟨k.val, hk8⟩
    · rw [if_pos h, h, b]
    · rw [if_neg h]
      exact hlo j (by have : j.val ≠ k.val := fun e => h (Fin.ext e); omega)
  · intro j hj hjn
    refine (scoreBlk_write arg10.view f ⟨k.val, hk8⟩ (k0_off22_inb v1 hw k) (off22_at hv k) _ j).trans ?_
    rw [if_neg (fun e => by rw [e] at hj; exact absurd hj (by show ¬ (k.val + 1 ≤ k.val); omega))]
    exact hhi j (by omega) hjn

variable (v63 : FVec F S32x1 .f32) (Ex : Fin 8 → FVec F S32x256 .f32) (X10 : arg10.view.ty.Contents (Elt F)) (out : Vec F S32x512 .f32)
  (c0 : BitVec 32)

/-- Before chunk `k` of the output loop. -/
def inv5 (c : Dev nD) (k : ℕ) (acc : BitVec 32) : sProp 𝕄 :=
  iprop((arg6.view.loc (c : Thread nD τ) ↦[arg6.view.set]{fullShare} X6) ∗ (arg7.view.loc (c : Thread nD τ) ↦[arg7.view.set]{fullShare} X7)
    ∗ (arg10.view.loc (c : Thread nD τ) ↦[arg10.view.set]{fullShare} X10)
    ∗ (∃ f, (arg11.view.loc (c : Thread nD τ) ↦[arg11.view.set]{fullShare} f)
        ∗ ⌜∀ g : Fin 4, outCols (arg11.view.read (Elt F) f) g
            = runCols v63 Ex (arg6.view.read (Elt F) X6) (arg7.view.read (Elt F) X7) out g k⌝))

include hv in
set_option maxHeartbeats 2000000 in
theorem trip5 (c : Dev nD) (E : Set ℕ)
    (hE : ∀ j : Fin 8, j.val < Words.nblk (BitVec.toInt v1) → scoreBlk (arg10.view.read (Elt F) X10) j = Ex j)
    (k : Fin (k0_t5_loop v1).trips) (acc : BitVec 32) :
    inv5 arg6 arg7 arg10 arg11 X6 X7 v63 Ex X10 out c k.val acc
      ⊢ wp frame (wpE (defs₀ (F := F)) Variants.none (c : Thread nD τ) none) E
          (k0_t5_body i arg1 harg1 arg2 harg2 arg3 harg3 arg4 harg4 arg5 harg5 arg6 harg6 arg7 harg7 arg8 harg8 arg9 harg9 arg10 harg10 arg11 harg11 v1 hw v63 c0 k acc)
          (fun y => inv5 arg6 arg7 arg10 arg11 X6 X7 v63 Ex X10 out c (k.val + 1) y) := by
  unfold inv5 k0_t5_body
  iintro ⟨H6, H7, H10, ⟨%f, H11, %hf⟩⟩
  sl_exec
  sl_step
  have hk8 := t5_lt hv k
  have hkn : k.val < Words.nblk (BitVec.toInt v1) := lt_of_lt_of_eq k.isLt (t5_trips hv)
  isplitl [H6]; · iexact H6
  isplitl [H7]; · iexact H7
  isplitl [H10]; · iexact H10
  iexists _; isplitl [H11]; · iexact H11
  ipureintro
  have e0 := codes_read arg6.view X6 0 ⟨k.val, hk8⟩ (k0_off26_inb v1 hw k) (off26_at hv k)
  have e1 := codes_read arg6.view X6 1 ⟨k.val, hk8⟩ (k0_off28_inb v1 hw k) (off28_at hv k)
  have e2 := codes_read arg6.view X6 2 ⟨k.val, hk8⟩ (k0_off30_inb v1 hw k) (off30_at hv k)
  have e3 := codes_read arg6.view X6 3 ⟨k.val, hk8⟩ (k0_off32_inb v1 hw k) (off32_at hv k)
  have s0 := scales_read arg7.view X7 0 ⟨k.val, hk8⟩ (k0_off25_inb v1 hw k) (off25_at hv k)
  have s1 := scales_read arg7.view X7 1 ⟨k.val, hk8⟩ (k0_off27_inb v1 hw k) (off27_at hv k)
  have s2 := scales_read arg7.view X7 2 ⟨k.val, hk8⟩ (k0_off29_inb v1 hw k) (off29_at hv k)
  have s3 := scales_read arg7.view X7 3 ⟨k.val, hk8⟩ (k0_off31_inb v1 hw k) (off31_at hv k)
  have b := scoreBlk_read arg10.view X10 ⟨k.val, hk8⟩ (k0_off24_inb v1 hw k) (off24_at hv k)
  rw [hE ⟨k.val, hk8⟩ hkn] at b
  intro g
  refine (outCols_write arg11.view f _ _ _ _ g).trans ?_
  rw [runCols_succ _ _ _ _ _ g hk8, ← hf g]
  unfold trip5.sl.r
  rw [e0, e1, e2, e3, s0, s1, s2, s3, b]
  match g with
  | 0 => rfl
  | 1 => rfl
  | 2 => rfl
  | 3 => rfl

end Cert.Kernel.Own

end
-- ==== Proof.Kernel.Body.lean ====
/-
  The kernel body at one grid point, on whole buffers: from a table whose words are at most 2048 it runs to the end, leaves
  its inputs as they were and some contents in its output and in its two scratch buffers.
-/
module

public import proofs.«01_k».proof.Proof.Kernel.Trips
public import Idealize.ShloMosaic.Lib.LoopRemainder
public import Idealize.ShloMosaic.Lib.Pipeline.FrameBody
public import Idealize.ShloMosaic.Lib.Ring
public import Idealize.ShloMosaic.Lib.Tactic

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The four column groups together are the whole output. -/
theorem wholeCols_of (v63 : FVec F S32x1 .f32) (E : Fin 8 → FVec F S32x256 .f32) (x6 : Vec F S1x2048x512 .fp8e4m3)
    (x7 : Vec F S1x4x2048 .f32) (init X : Vec F S32x512 .f32) (n : ℕ) (h : ∀ g, outCols X g = runCols v63 E x6 x7 init g n) :
    X = wholeCols v63 E x6 x7 init n := by
  funext i
  unfold wholeCols
  rw [← h]
  unfold outCols
  refine congrArg X ?_
  funext a
  have hi : (i 1).val < 512 := (i 1).isLt
  fin_cases a
  · apply Fin.ext; show (i 0).val = 0 + 1 * (i 0).val; omega
  · apply Fin.ext; show (i 1).val = 128 * ((i 1).val / 128) + 1 * ((i 1).val % 128); omega

set_option maxHeartbeats 4000000 in
theorem sound_kernel (c : Dev nD) (E : Set ℕ) (i : grid0.Coords) (arg1 : Memref sig .tc .smem S128 .i32) (harg1 : arg1.IsWhole) (arg2 : Memref sig .tc .vmem S1x32x512 .bf16) (harg2 : arg2.IsWhole) (arg3 : Memref sig .tc .vmem S1x32x64 .bf16) (harg3 : arg3.IsWhole) (arg4 : Memref sig .tc .vmem S1x1x512 .bf16) (harg4 : arg4.IsWhole) (arg5 : Memref sig .tc .vmem S1x1x64 .bf16) (harg5 : arg5.IsWhole) (arg6 : Memref sig .tc .vmem S1x2048x512 .fp8e4m3) (harg6 : arg6.IsWhole) (arg7 : Memref sig .tc .vmem S1x4x2048 .f32) (harg7 : arg7.IsWhole) (arg8 : Memref sig .tc .vmem S1x64x2048 .bf16) (harg8 : arg8.IsWhole) (arg9 : Memref sig .tc .vmem S1x32x512 .bf16) (harg9 : arg9.IsWhole) (arg10 : Memref sig .tc .vmem S32x2048 .f32) (harg10 : arg10.IsWhole) (arg11 : Memref sig .tc .vmem S32x512 .f32) (harg11 : arg11.IsWhole)
    (q : PosShare TreeShare) (T : BufTy.Contents (Elt F) arg1.view.ty)
    (w : BitVec 32) (hw2 : w.toInt ≤ 2048)
    (hT : ∀ x, View.readAt (Elt F) arg1.view (Rect.unit (s := S128) (k0_off1 i) S1.size (k0_off1_inb i)).toLoadRect T x = w)
    (x2 : Vec F S1x32x512 .bf16) (x3 : Vec F S1x32x64 .bf16) (x4 : Vec F S1x1x512 .bf16) (x5 : Vec F S1x1x64 .bf16)
    (x6 : Vec F S1x2048x512 .fp8e4m3) (x7 : Vec F S1x4x2048 .f32) (x8 : Vec F S1x64x2048 .bf16) (K : PUnit → sProp 𝕄) :
    iprop((arg1.view.loc (c : Thread nD τ) ↦[arg1.view.set]{q} T)
        ∗ owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8
        ∗ (∃ d, owns (c : Thread nD τ) arg9 fullShare d) ∗ (∃ d, owns (c : Thread nD τ) arg10 fullShare d) ∗ (∃ d, owns (c : Thread nD τ) arg11 fullShare d)
        ∗ (iprop((arg1.view.loc (c : Thread nD τ) ↦[arg1.view.set]{q} T)
            ∗ owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare x8
            ∗ owns (c : Thread nD τ) arg9 fullShare (blockOf w x2 x3 x4 x5 x6 x7 x8) ∗ (∃ d, owns (c : Thread nD τ) arg10 fullShare d) ∗ (∃ d, owns (c : Thread nD τ) arg11 fullShare d)) -∗ K ⟨⟩))
      ⊢ wp frame (wpE (defs₀ (F := F)) Variants.none c none) E (cc0_mla_decode i arg1 harg1 arg2 harg2 arg3 harg3 arg4 harg4 arg5 harg5 arg6 harg6 arg7 harg7 arg8 harg8 arg9 harg9 arg10 harg10 arg11 harg11) K := by
  simp only [cc0_mla_decode_eq_skeleton]; unfold cc0_mla_decode_skel
  unfold owns
  iintro ⟨H1, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf2 hf3 hf4 hf5 hf6 hf7 hf8
  have hT2 : ∀ x, (View.readAt (Elt F) arg1.view (Rect.unit (s := S128) (k0_off1 i) S1.size (k0_off1_inb i)).toLoadRect T x).toInt ≤ 2048 :=
    fun x => by rw [hT x]; exact hw2
  sl_exec (disch := exact k0_chk1_of (hT2 _))
  have hr : sound_kernel.sl.r i arg1 T = w := hT _
  have hv : (sound_kernel.sl.r i arg1 T).toInt ≤ 2048 := by rw [hr]; exact hw2
  sl_for (inv1 arg6 arg7 arg8 arg10 (sound_kernel.sl.r i arg1 T) (sound_kernel.sl.r_1 c arg2 f2) (sound_kernel.sl.r_2 c arg3 f3) f6 f7 f8
    (k0_pay21 (sound_kernel.sl.r_3 c arg2 arg4 f2 f4) (sound_kernel.sl.r_4 c arg3 f3) (sound_kernel.sl.r_5 c arg5 f5)) c) $$ [H6 H7 H8 H10]
  · intro k acc
    exact trip1 (i := i) (arg1 := arg1) (harg1 := harg1) (arg2 := arg2) (harg2 := harg2) (arg3 := arg3) (harg3 := harg3)
      (arg4 := arg4) (harg4 := harg4) (arg5 := arg5) (harg5 := harg5) (arg6 := arg6) (harg6 := harg6) (arg7 := arg7) (harg7 := harg7)
      (arg8 := arg8) (harg8 := harg8) (arg9 := arg9) (harg9 := harg9) (arg10 := arg10) (harg10 := harg10) (arg11 := arg11) (harg11 := harg11)
      (v1 := sound_kernel.sl.r i arg1 T) (hv := hv) (hw := k0_chk1_of (hT2 _)) (v20 := _) (v22 := sound_kernel.sl.r_1 c arg2 f2)
      (v24 := sound_kernel.sl.r_2 c arg3 f3) (v32 := sound_kernel.sl.r_3 c arg2 arg4 f2 f4) (v33 := sound_kernel.sl.r_4 c arg3 f3)
      (v35 := sound_kernel.sl.r_5 c arg5 f5) (c := c) (E := E) (k := k) (acc := acc) (X6 := f6) (X7 := f7) (X8 := f8)
      (init := k0_pay21 (sound_kernel.sl.r_3 c arg2 arg4 f2 f4) (sound_kernel.sl.r_4 c arg3 f3) (sound_kernel.sl.r_5 c arg5 f5))
  · unfold inv1
    isplitl [H6]; · iexact H6
    isplitl [H7]; · iexact H7
    isplitl [H8]; · iexact H8
    iexists f10; isplitl [H10]; · iexact H10
    ipureintro
    exact ⟨rfl, fun j hj => absurd hj (Nat.not_lt_zero _)⟩
  iintro %v50
  unfold inv1
  iintro ⟨H6, H7, H8, ⟨%g10, H10, %h10⟩⟩
  obtain ⟨h50, hS⟩ := h10
  sl_exec
  have ht1 : Scf.trips _ _ _ = Words.nblk (BitVec.toInt (sound_kernel.sl.r i arg1 T)) := t1_trips hv
  have ht3 : Scf.trips _ _ _ = Words.nblk (BitVec.toInt (sound_kernel.sl.r i arg1 T)) := t3_trips hv
  have ht5 : Scf.trips _ _ _ = Words.nblk (BitVec.toInt (sound_kernel.sl.r i arg1 T)) := t5_trips hv
  rw [ht1] at h50 hS
  sl_for (inv3 arg10 (k0_pay29 (F := F)) v50 (fun j => score (sound_kernel.sl.r i arg1 T) (sound_kernel.sl.r_1 c arg2 f2) (sound_kernel.sl.r_2 c arg3 f3)
    (arg6.view.read (Elt F) f6) (arg7.view.read (Elt F) f7) (arg8.view.read (Elt F) f8) j) c (Words.nblk (BitVec.toInt (sound_kernel.sl.r i arg1 T)))) $$ [H10]
  · intro k acc
    exact trip3 (i := i) (arg1 := arg1) (harg1 := harg1) (arg2 := arg2) (harg2 := harg2) (arg3 := arg3) (harg3 := harg3)
      (arg4 := arg4) (harg4 := harg4) (arg5 := arg5) (harg5 := harg5) (arg6 := arg6) (harg6 := harg6) (arg7 := arg7) (harg7 := harg7)
      (arg8 := arg8) (harg8 := harg8) (arg9 := arg9) (harg9 := harg9) (arg10 := arg10) (harg10 := harg10) (arg11 := arg11) (harg11 := harg11)
      (v1 := sound_kernel.sl.r i arg1 T) (hv := hv) (hw := k0_chk1_of (hT2 _)) (v20 := _) (v22 := sound_kernel.sl.r_1 c arg2 f2)
      (v24 := sound_kernel.sl.r_2 c arg3 f3) (v32 := sound_kernel.sl.r_3 c arg2 arg4 f2 f4) (v33 := sound_kernel.sl.r_4 c arg3 f3)
      (v35 := sound_kernel.sl.r_5 c arg5 f5) (c := c) (E := E) (k := k) (acc := acc) (v50 := v50)
      (init := k0_pay29) (S := fun j => score (sound_kernel.sl.r i arg1 T) (sound_kernel.sl.r_1 c arg2 f2) (sound_kernel.sl.r_2 c arg3 f3)
    (arg6.view.read (Elt F) f6) (arg7.view.read (Elt F) f7) (arg8.view.read (Elt F) f8) j)
  · unfold inv3
    iexists g10; isplitl [H10]; · iexact H10
    ipureintro
    exact ⟨rfl, fun j hj => absurd hj (Nat.not_lt_zero _), fun j _ hj => hS j hj⟩
  iintro %v60
  unfold inv3
  iintro ⟨%e10, H10, %h60⟩
  obtain ⟨h60, hE, -⟩ := h60
  rw [ht3] at h60 hE
  sl_exec
  sl_for (inv5 arg6 arg7 arg10 arg11 f6 f7 (sound_kernel.sl.r_6 c arg2 arg3 arg4 arg5 f2 f3 f4 f5 v50 v60)
    (fun j => k0_pay31 v50 (score (sound_kernel.sl.r i arg1 T) (sound_kernel.sl.r_1 c arg2 f2) (sound_kernel.sl.r_2 c arg3 f3)
      (arg6.view.read (Elt F) f6) (arg7.view.read (Elt F) f7) (arg8.view.read (Elt F) f8) j)) e10
    (k0_pay37 (sound_kernel.sl.r_3 c arg2 arg4 f2 f4) (sound_kernel.sl.r_4 c arg3 f3) (sound_kernel.sl.r_5 c arg5 f5) v50 v60
      (arg4.view.read (Elt F) f4)) c) $$ [H6 H7 H10 H11]
  · intro k acc
    exact trip5 (i := i) (arg1 := arg1) (harg1 := harg1) (arg2 := arg2) (harg2 := harg2) (arg3 := arg3) (harg3 := harg3)
      (arg4 := arg4) (harg4 := harg4) (arg5 := arg5) (harg5 := harg5) (arg6 := arg6) (harg6 := harg6) (arg7 := arg7) (harg7 := harg7)
      (arg8 := arg8) (harg8 := harg8) (arg9 := arg9) (harg9 := harg9) (arg10 := arg10) (harg10 := harg10) (arg11 := arg11) (harg11 := harg11)
      (v1 := sound_kernel.sl.r i arg1 T) (hv := hv) (hw := k0_chk1_of (hT2 _)) (v63 := sound_kernel.sl.r_6 c arg2 arg3 arg4 arg5 f2 f3 f4 f5 v50 v60)
      (c0 := 0#32) (X6 := f6) (X7 := f7) (X10 := e10)
      (Ex := fun j => k0_pay31 v50 (score (sound_kernel.sl.r i arg1 T) (sound_kernel.sl.r_1 c arg2 f2) (sound_kernel.sl.r_2 c arg3 f3)
        (arg6.view.read (Elt F) f6) (arg7.view.read (Elt F) f7) (arg8.view.read (Elt F) f8) j))
      (out := k0_pay37 (sound_kernel.sl.r_3 c arg2 arg4 f2 f4) (sound_kernel.sl.r_4 c arg3 f3) (sound_kernel.sl.r_5 c arg5 f5) v50 v60
        (arg4.view.read (Elt F) f4)) (hE := hE) (c := c) (E := E) (k := k) (acc := acc)
  · unfold inv5
    isplitl [H6]; · iexact H6
    isplitl [H7]; · iexact H7
    isplitl [H10]; · iexact H10
    iexists _; isplitl [H11]; · iexact H11
    ipureintro
    intro g
    unfold runCols
    exact congrArg (fun X => outCols X g) ((View.read_writes_full ..).trans
      (congrArg (k0_pay37 _ _ _ v50 v60) (View.readAt_full ..)))
  iintro %v81
  unfold inv5
  iintro ⟨H6, H7, H10, ⟨%g11, H11, %h11⟩⟩
  rw [ht5] at h11
  sl_exec
  sl_step
  iapply Hk
  isplitl [H1]; · iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]
  · iexists _; isplitr; swap; · iexact H9
    ipureintro
    have h := wholeCols_of _ _ _ _ _ _ _ h11
    unfold sound_kernel.sl.r_6 at h
    unfold sound_kernel.sl.r_1 sound_kernel.sl.r_2 at h h50 h60
    unfold sound_kernel.sl.r_3 sound_kernel.sl.r_4 sound_kernel.sl.r_5 at h h50
    rw [hr] at h50 h60
    simp only [hr] at h
    refine (View.read_writes_full ..).trans ?_
    rw [View.readAt_full, h, h60, h50]
    rw [View.readAt_full, View.readAt_full, View.readAt_full, View.readAt_full]
    rfl
  isplitl [H10]
  · iexists _; iexists _; isplitr; swap; · iexact H10
    ipureintro; rfl
  iexists _; iexists _; isplitr; swap; · iexact H11
  ipureintro; rfl

end Cert.Kernel.Own

end
-- ==== Proof.Kernel.Frame.lean ====
/-
  The launch of the whole program: the host's reshapes and transposes, then the kernel once per sequence. Every run ends,
  its arguments unchanged, every semaphore at zero, and the result array written block by block with `blockOf`.
-/
module

public import proofs.«01_k».proof.Proof.Kernel.Body
public import proofs.«01_k».proof.Proof.Gen.Kernel.Launch
public import Idealize.ShloMosaic.Lib.Pipeline.FrameSuffix
public import Idealize.ShloMosaic.Lib.Claim
public import Idealize.ShloMosaic.Lib.Ring

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of core `c` when the kernel is launched. -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
/-- What the host writes before the launch. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
theorem V_main_arg0 (c : Dev nD) : V m c main_arg0 = m ((c : Thread nD τ).loc main_arg0) :=
  StableHlo.after_of_writes_sub (r := main_arg0) hostOps0 _ hostOps0_writes (by decide +kernel)
theorem V_main_arg1 (c : Dev nD) : V m c main_arg1 = m ((c : Thread nD τ).loc main_arg1) :=
  StableHlo.after_of_writes_sub (r := main_arg1) hostOps0 _ hostOps0_writes (by decide +kernel)
theorem V_main_arg2 (c : Dev nD) : V m c main_arg2 = m ((c : Thread nD τ).loc main_arg2) :=
  StableHlo.after_of_writes_sub (r := main_arg2) hostOps0 _ hostOps0_writes (by decide +kernel)
theorem V_main_arg3 (c : Dev nD) : V m c main_arg3 = m ((c : Thread nD τ).loc main_arg3) :=
  StableHlo.after_of_writes_sub (r := main_arg3) hostOps0 _ hostOps0_writes (by decide +kernel)
theorem V_main_arg4 (c : Dev nD) : V m c main_arg4 = m ((c : Thread nD τ).loc main_arg4) :=
  StableHlo.after_of_writes_sub (r := main_arg4) hostOps0 _ hostOps0_writes (by decide +kernel)
theorem V_main_arg5 (c : Dev nD) : V m c main_arg5 = m ((c : Thread nD τ).loc main_arg5) :=
  StableHlo.after_of_writes_sub (r := main_arg5) hostOps0 _ hostOps0_writes (by decide +kernel)
theorem V_main_arg6 (c : Dev nD) : V m c main_arg6 = m ((c : Thread nD τ).loc main_arg6) :=
  StableHlo.after_of_writes_sub (r := main_arg6) hostOps0 _ hostOps0_writes (by decide +kernel)
theorem V_main_arg7 (c : Dev nD) : V m c main_arg7 = m ((c : Thread nD τ).loc main_arg7) :=
  StableHlo.after_of_writes_sub (r := main_arg7) hostOps0 _ hostOps0_writes (by decide +kernel)
/-- The table of cache lengths as the kernel finds it. -/
def adm : (pcfg0 (F := F)).Adm := ⟨fun k => V m 0 (pre0.ref k), trivial⟩
/-- The pipeline at that table. -/
abbrev cfgA : Cfg sig Λ₀ := cfg0 (adm m)
/-- The table as one array of words. -/
abbrev tbl : BufTy.Contents (Elt F) (Memref.whole main_arg7).view.ty := (adm m).1 0

/-- The cache length that grid point `t` reads. -/
def word (t : Fin (cfgA m).N) : BitVec 32 :=
  View.readAt (Elt F) (Memref.whole main_arg7).view (Rect.unit (s := S128) (k0_off1 (grid0.coords t)) S1.size (k0_off1_inb (grid0.coords t))).toLoadRect
    (tbl m) (fun a => ⟨0, by fin_cases a; exact Nat.zero_lt_one⟩)

/-- The word is one, whatever the index it is read at. -/
theorem word_eq (t : Fin (cfgA m).N) (x : S1.Idx) :
    View.readAt (Elt F) (Memref.whole main_arg7).view (Rect.unit (s := S128) (k0_off1 (grid0.coords t)) S1.size (k0_off1_inb (grid0.coords t))).toLoadRect
      (tbl m) x = word m t := by
  unfold word
  refine congrArg _ ?_
  funext a
  fin_cases a
  apply Fin.ext
  have h : (x 0).val < 1 := (x 0).isLt
  show (x 0).val = 0
  omega

/-- Every cache length is at most the cache's size. -/
def Fits : Prop := ∀ t : Fin (cfgA m).N, (word m t).toInt ≤ 2048

/-- The block of window `w` at grid point `t`. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- The output block at grid point `t`. -/
def outBlk (c : Dev nD) (t : Fin (cfgA m).N) : Vec F S1x32x512 .bf16 :=
  blockOf (word m t) (iblk m c 0 t) (iblk m c 1 t) (iblk m c 2 t) (iblk m c 3 t) (iblk m c 4 t) (iblk m c 5 t) (iblk m c 6 t)
theorem before0_0_of {c : Dev nD} (dat : Dat τ (Elt F) Unit ℕ (UR sig nD τ) ℕ (cfgA m) c) (hA : dat.A 0 = V m c (Pipeline.arrRef spec0 0))
    (hafter : ∀ t, dat.after 0 t = iblk m c 0 t) (t : Fin (cfgA m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgA m) c) (hA : dat.A 1 = V m c (Pipeline.arrRef spec0 1))
    (hafter : ∀ t, dat.after 1 t = iblk m c 1 t) (t : Fin (cfgA m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgA m) c) (hA : dat.A 2 = V m c (Pipeline.arrRef spec0 2))
    (hafter : ∀ t, dat.after 2 t = iblk m c 2 t) (t : Fin (cfgA m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfgA m) c) (hA : dat.A 3 = V m c (Pipeline.arrRef spec0 3))
    (hafter : ∀ t, dat.after 3 t = iblk m c 3 t) (t : Fin (cfgA m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ (cfgA m) c) (hA : dat.A 4 = V m c (Pipeline.arrRef spec0 4))
    (hafter : ∀ t, dat.after 4 t = iblk m c 4 t) (t : Fin (cfgA m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ (cfgA m) c) (hA : dat.A 5 = V m c (Pipeline.arrRef spec0 5))
    (hafter : ∀ t, dat.after 5 t = iblk m c 5 t) (t : Fin (cfgA m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ (cfgA m) c) (hA : dat.A 6 = V m c (Pipeline.arrRef spec0 6))
    (hafter : ∀ t, dat.after 6 t = iblk m c 6 t) (t : Fin (cfgA m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- The proof data: inputs stay at their blocks, the output block is `outBlk`; the body borrows the two scratch buffers and the table. -/
def dats (p : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk m c t
  Φ _ := iprop(Pipeline.ΦA spec0 c ∗ Pipeline.ΦT pre0 (adm m).1 c)
  q _ := fullShare
  owed _ := 0

theorem A_eq (c : Dev nD) (w : Fin (cfgA m).W) : (dats m 0 c).A w = V m c (Pipeline.arrRef spec0 w) := by
  dsimp only [dats]
theorem after0_0 (c : Dev nD) (t : Fin (cfgA m).N) : (dats m 0 c).after 0 t = iblk m c 0 t := by dsimp only [dats]; rfl
theorem after0_1 (c : Dev nD) (t : Fin (cfgA m).N) : (dats m 0 c).after 1 t = iblk m c 1 t := by dsimp only [dats]; rfl
theorem after0_2 (c : Dev nD) (t : Fin (cfgA m).N) : (dats m 0 c).after 2 t = iblk m c 2 t := by dsimp only [dats]; rfl
theorem after0_3 (c : Dev nD) (t : Fin (cfgA m).N) : (dats m 0 c).after 3 t = iblk m c 3 t := by dsimp only [dats]; rfl
theorem after0_4 (c : Dev nD) (t : Fin (cfgA m).N) : (dats m 0 c).after 4 t = iblk m c 4 t := by dsimp only [dats]; rfl
theorem after0_5 (c : Dev nD) (t : Fin (cfgA m).N) : (dats m 0 c).after 5 t = iblk m c 5 t := by dsimp only [dats]; rfl
theorem after0_6 (c : Dev nD) (t : Fin (cfgA m).N) : (dats m 0 c).after 6 t = iblk m c 6 t := by dsimp only [dats]; rfl
theorem after0_7 (c : Dev nD) (t : Fin (cfgA m).N) : (dats m 0 c).after 7 t = outBlk m c t := by dsimp only [dats]; rfl
theorem before0_0 (c : Dev nD) (t : Fin (cfgA m).N) (d) : (dats m 0 c).before 0 t d = iblk m c 0 t :=
  before0_0_of m (dats m 0 c) (A_eq m c 0) (after0_0 m c) t d
theorem before0_1 (c : Dev nD) (t : Fin (cfgA m).N) (d) : (dats m 0 c).before 1 t d = iblk m c 1 t :=
  before0_1_of m (dats m 0 c) (A_eq m c 1) (after0_1 m c) t d
theorem before0_2 (c : Dev nD) (t : Fin (cfgA m).N) (d) : (dats m 0 c).before 2 t d = iblk m c 2 t :=
  before0_2_of m (dats m 0 c) (A_eq m c 2) (after0_2 m c) t d
theorem before0_3 (c : Dev nD) (t : Fin (cfgA m).N) (d) : (dats m 0 c).before 3 t d = iblk m c 3 t :=
  before0_3_of m (dats m 0 c) (A_eq m c 3) (after0_3 m c) t d
theorem before0_4 (c : Dev nD) (t : Fin (cfgA m).N) (d) : (dats m 0 c).before 4 t d = iblk m c 4 t :=
  before0_4_of m (dats m 0 c) (A_eq m c 4) (after0_4 m c) t d
theorem before0_5 (c : Dev nD) (t : Fin (cfgA m).N) (d) : (dats m 0 c).before 5 t d = iblk m c 5 t :=
  before0_5_of m (dats m 0 c) (A_eq m c 5) (after0_5 m c) t d
theorem before0_6 (c : Dev nD) (t : Fin (cfgA m).N) (d) : (dats m 0 c).before 6 t d = iblk m c 6 t :=
  before0_6_of m (dats m 0 c) (A_eq m c 6) (after0_6 m c) t d
/-- The body at grid point `t`. -/
abbrev bodyAt (t : Fin (cfgA m).N) : Prog (TpuEff nD τ sig (Elt F) Λ₀ .tc) PUnit :=
  cc0_mla_decode (grid0.coords t) (Memref.whole main_arg7) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (Memref.whole cc0_scratch0) (Memref.isWhole_whole _) (Memref.whole cc0_scratch1) (Memref.isWhole_whole _)

def bodyPre (c : Dev nD) (t : Fin (cfgA m).N) : sProp 𝕄 :=
  iprop((dats m 0 c).Φ t.castSucc ∗ (dats m 0 c).owesAt () t.castSucc
    ∗ (∃ d, owns (c : Thread nD τ) (((cfgA m).win 0).stage ((cfgA m).slots t 0)) fullShare ((dats m 0 c).before 0 t d))
    ∗ (∃ d, owns (c : Thread nD τ) (((cfgA m).win 1).stage ((cfgA m).slots t 1)) fullShare ((dats m 0 c).before 1 t d))
    ∗ (∃ d, owns (c : Thread nD τ) (((cfgA m).win 2).stage ((cfgA m).slots t 2)) fullShare ((dats m 0 c).before 2 t d))
    ∗ (∃ d, owns (c : Thread nD τ) (((cfgA m).win 3).stage ((cfgA m).slots t 3)) fullShare ((dats m 0 c).before 3 t d))
    ∗ (∃ d, owns (c : Thread nD τ) (((cfgA m).win 4).stage ((cfgA m).slots t 4)) fullShare ((dats m 0 c).before 4 t d))
    ∗ (∃ d, owns (c : Thread nD τ) (((cfgA m).win 5).stage ((cfgA m).slots t 5)) fullShare ((dats m 0 c).before 5 t d))
    ∗ (∃ d, owns (c : Thread nD τ) (((cfgA m).win 6).stage ((cfgA m).slots t 6)) fullShare ((dats m 0 c).before 6 t d))
    ∗ (∃ d, owns (c : Thread nD τ) (((cfgA m).win 7).stage ((cfgA m).slots t 7)) fullShare ((dats m 0 c).before 7 t d)))

def bodyPost (c : Dev nD) (t : Fin (cfgA m).N) : sProp 𝕄 :=
  iprop((dats m 0 c).Φ t.succ ∗ (dats m 0 c).owesAt () t.succ
    ∗ owns (c : Thread nD τ) (((cfgA m).win 0).stage ((cfgA m).slots t 0)) fullShare ((dats m 0 c).after 0 t)
    ∗ owns (c : Thread nD τ) (((cfgA m).win 1).stage ((cfgA m).slots t 1)) fullShare ((dats m 0 c).after 1 t)
    ∗ owns (c : Thread nD τ) (((cfgA m).win 2).stage ((cfgA m).slots t 2)) fullShare ((dats m 0 c).after 2 t)
    ∗ owns (c : Thread nD τ) (((cfgA m).win 3).stage ((cfgA m).slots t 3)) fullShare ((dats m 0 c).after 3 t)
    ∗ owns (c : Thread nD τ) (((cfgA m).win 4).stage ((cfgA m).slots t 4)) fullShare ((dats m 0 c).after 4 t)
    ∗ owns (c : Thread nD τ) (((cfgA m).win 5).stage ((cfgA m).slots t 5)) fullShare ((dats m 0 c).after 5 t)
    ∗ owns (c : Thread nD τ) (((cfgA m).win 6).stage ((cfgA m).slots t 6)) fullShare ((dats m 0 c).after 6 t)
    ∗ owns (c : Thread nD τ) (((cfgA m).win 7).stage ((cfgA m).slots t 7)) fullShare ((dats m 0 c).after 7 t))

/-- The table is one buffer. -/
theorem tables_eq (c : Dev nD) : (Pipeline.ΦT (U := UR sig nD τ) pre0 (adm m).1 c : sProp 𝕄)
    = iprop(((c.tc : Thread nD τ).loc main_arg7) ↦{fullShare.right} (adm m).1 0) := by
  unfold Pipeline.ΦT Pipeline.prefHeld
  rw [show (Finset.univ : Finset (Fin pre0.K)) = {0} from rfl, bigSep_singleton]
  rfl

theorem sound_body (hfit : Fits m) (c : Dev nD) (t : Fin (cfgA m).N) :
    bodyPre m c t ⊢ wp frame (wpE (defs₀ (F := F)) Variants.none c none) Set.univ (bodyAt m t) (fun _ => bodyPost m c t) := by
  unfold bodyPre bodyPost bodyAt
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = iprop(Pipeline.ΦA spec0 c ∗ Pipeline.ΦT pre0 (adm m).1 c) from rfl]
  rw [tables_eq]
  unfold Pipeline.ΦA
  rw [scopedRest0_eq]
  iintro ⟨⟨⟨⟨⟨%s0, Hs0⟩, ⟨%s1, Hs1⟩⟩, Hp⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) (Memref.whole main_arg7) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (Memref.whole cc0_scratch0) (Memref.isWhole_whole _) (Memref.whole cc0_scratch1) (Memref.isWhole_whole _)
    fullShare.right ((adm m).1 0) (word m t) (hfit t) (word_eq m t) (iblk m c 0 t) (iblk m c 1 t) (iblk m c 2 t) (iblk m c 3 t) (iblk m c 4 t) (iblk m c 5 t) (iblk m c 6 t) _)
  isplitl [HT]; · rw [View.set_whole]; iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hs0]; · iexists s0; rw [owns_whole]; iexact Hs0
  isplitl [Hs1]; · iexists s1; rw [owns_whole]; iexact Hs1
  iintro ⟨HT, H0, H1, H2, H3, H4, H5, H6, H7, ⟨%e0, Hs0⟩, ⟨%e1, Hs1⟩⟩
  isplitl [HT Hs0 Hs1 Hp]
  · isplitl [Hs0 Hs1 Hp]
    · isplitl [Hs0 Hs1]
      · isplitl [Hs0]
        · iexists e0; rw [owns_whole]; exact .rfl
        · iexists e1; rw [owns_whole]; exact .rfl
      · iexact Hp
    · rw [View.set_whole]; iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold outBlk
  iexact H7

theorem defs₀_row (t : Fin (cfgA m).N) :
    defs₀ (F := F) .tc (cfgA m).body ((cfgA m).bodyArgs t ((cfgA m).slots t)) = bodyAt m t := by
  unfold defs₀; rw [Defs.onTc_tc]

theorem body_obligation (hfit : Fits m) (c : Dev nD) : BodyObligation (dats (F := F) m 0 c) (defs₀ (F := F)) Variants.none () Set.univ := fun t => by
  rw [bigSep_W0, bigSep_W0, defs₀_row]
  exact triple_restated (sound_body m hfit c t) rfl .rfl fun _ => .rfl

set_option backward.isDefEq.respectTransparency.types false in
set_option maxHeartbeats 800000 in
/-- Every run of the program ends with the result array at what the blocks leave there, everything else as at the launch,
    and every semaphore at zero. -/
theorem run_main (hfit : Fits m) : θ_run defs (onTc (τ := τ) (main (F := F))) (s₀ m ρ)
    (fun r => Pipeline.FramePost (Pipeline.pin (pcfgs (F := F)) (fun _ => adm m)) (dats m) 0 (V m) r ∧ r.2.sem = fun _ => 0) :=
  Pipeline.θ_run_frameP (Q' := _) (pcfgs (F := F)) (fun _ => adm m) (dats m) (0 : Fin 1) launch0 defs₀ Variants.none m ρ main
    (hbody := fun c => (body_obligation m hfit c).loose) (hshare := fun c => (dats m 0 c).share_full fun _ => rfl)
    (howed := fun _ _ => rfl) (V := V m)
    (hmain := Pipeline.hmainP_prefix (pcfgs (F := F)) 0 defs₀ Variants.none m main hostOps0 hostOps0_sub hostOps0_fresh main_chain)
    (hA := A_eq m) (hpf := fun c k => by have : c = 0 := Subsingleton.elim _ _; subst this; rfl) (hΦ := fun _ _ => rfl)

/-- The arguments at the end of a run are as at its start. -/
theorem args_kept {r : PUnit × MemSt nD τ sig (Elt F)} (h : Pipeline.FramePost (Pipeline.pin (pcfgs (F := F)) (fun _ => adm m)) (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by exact (by decide : ∀ w, (spec0 w).arr.view.ref ≠ main_arg0)))).trans (V_main_arg0 m c),
    ((h c).2 main_arg1 (Pipeline.mem_restRefs_of main_arg1 (by decide) (by exact (by decide : ∀ w, (spec0 w).arr.view.ref ≠ main_arg1)))).trans (V_main_arg1 m c),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).2 main_arg5 (Pipeline.mem_restRefs_of main_arg5 (by decide) (by exact (by decide : ∀ w, (spec0 w).arr.view.ref ≠ main_arg5)))).trans (V_main_arg5 m c),
    ((h c).2 main_arg6 (Pipeline.mem_restRefs_of main_arg6 (by decide) (by exact (by decide : ∀ w, (spec0 w).arr.view.ref ≠ main_arg6)))).trans (V_main_arg6 m c),
    ((h c).2 main_arg7 (Pipeline.mem_restRefs_of main_arg7 (by decide) (by exact (by decide : ∀ w, (spec0 w).arr.view.ref ≠ main_arg7)))).trans (V_main_arg7 m c)⟩

/-- If no cache length of the table exceeds the cache, none that a grid point reads does. -/
theorem fits_of (h : ∀ x : S128.Idx, BitVec.toInt (m (((0 : Dev nD) : Thread nD τ).loc main_arg7) x) ≤ 2048) : Fits m := fun t => by
  unfold word
  rw [show tbl m = m (((0 : Dev nD) : Thread nD τ).loc main_arg7) from V_main_arg7 m 0]
  exact h _

/-- Every run of the program ends, its arguments unchanged and every semaphore at zero. -/
theorem quiet (hfit : Fits m) : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨args_kept m h.1, h.2⟩) (run_main m ρ hfit)

end Cert.Kernel.Own

end
-- ==== Proof.KernelIdeal.Bounds.lean ====
/-
  The kernel's stated bounds hold at every sequence length that fits in the cache: every chunk a loop reads or writes lies
  in its buffer, and the loops have a meaning.
-/
module

public import proofs.«01_k».proof.KernelIdeal
public import proofs.«01_k».proof.Proof.Words

@[expose] public section

namespace Cert.KernelIdeal.Own

open Idealize.ShloMosaic Cert.KernelIdeal

variable {v1 : BitVec 32}

theorem t1_trips (h : v1.toInt ≤ 2048) : (k0_t1_loop v1).trips = Words.nblk v1.toInt := Words.main_trips h

theorem t1_lt (h : v1.toInt ≤ 2048) (k : Fin (k0_t1_loop v1).trips) : k.val < 8 :=
  lt_of_lt_of_le k.isLt (by rw [t1_trips h]; exact Words.nblk_le h)

theorem t3_trips (h : v1.toInt ≤ 2048) : (k0_t3_loop v1).trips = Words.nblk v1.toInt := Words.main_trips h

theorem t3_lt (h : v1.toInt ≤ 2048) (k : Fin (k0_t3_loop v1).trips) : k.val < 8 :=
  lt_of_lt_of_le k.isLt (by rw [t3_trips h]; exact Words.nblk_le h)

theorem t5_trips (h : v1.toInt ≤ 2048) : (k0_t5_loop v1).trips = Words.nblk v1.toInt := Words.main_trips h

theorem t5_lt (h : v1.toInt ≤ 2048) (k : Fin (k0_t5_loop v1).trips) : k.val < 8 :=
  lt_of_lt_of_le k.isLt (by rw [t5_trips h]; exact Words.nblk_le h)

theorem t2_trips : (k0_t2_loop v1).trips = 0 := Scf.rem_trips 0#32 _

theorem t2_none (k : Fin (k0_t2_loop v1).trips) : False := Scf.rem_no_trip 0#32 _ k

theorem t4_trips : (k0_t4_loop v1).trips = 0 := Scf.rem_trips 0#32 _

theorem t4_none (k : Fin (k0_t4_loop v1).trips) : False := Scf.rem_no_trip 0#32 _ k

theorem t6_trips : (k0_t6_loop v1).trips = 0 := Scf.rem_trips 0#32 _

theorem t6_none (k : Fin (k0_t6_loop v1).trips) : False := Scf.rem_no_trip 0#32 _ k

theorem off2_at (h : v1.toInt ≤ 2048) (k : Fin (k0_t1_loop v1).trips) : k0_off2 v1 k = ![0, 256 * k.val, 0] := by
  rw [← Words.off_toNat (t1_lt h k)]; rfl

theorem off4_at (h : v1.toInt ≤ 2048) (k : Fin (k0_t1_loop v1).trips) : k0_off4 v1 k = ![0, 256 * k.val, 128] := by
  rw [← Words.off_toNat (t1_lt h k)]; rfl

theorem off6_at (h : v1.toInt ≤ 2048) (k : Fin (k0_t1_loop v1).trips) : k0_off6 v1 k = ![0, 256 * k.val, 256] := by
  rw [← Words.off_toNat (t1_lt h k)]; rfl

theorem off8_at (h : v1.toInt ≤ 2048) (k : Fin (k0_t1_loop v1).trips) : k0_off8 v1 k = ![0, 256 * k.val, 384] := by
  rw [← Words.off_toNat (t1_lt h k)]; rfl

theorem off3_at (h : v1.toInt ≤ 2048) (k : Fin (k0_t1_loop v1).trips) : k0_off3 v1 k = ![0, 0, 256 * k.val] := by
  rw [← Words.off_toNat (t1_lt h k)]; rfl

theorem off5_at (h : v1.toInt ≤ 2048) (k : Fin (k0_t1_loop v1).trips) : k0_off5 v1 k = ![0, 1, 256 * k.val] := by
  rw [← Words.off_toNat (t1_lt h k)]; rfl

theorem off7_at (h : v1.toInt ≤ 2048) (k : Fin (k0_t1_loop v1).trips) : k0_off7 v1 k = ![0, 2, 256 * k.val] := by
  rw [← Words.off_toNat (t1_lt h k)]; rfl

theorem off9_at (h : v1.toInt ≤ 2048) (k : Fin (k0_t1_loop v1).trips) : k0_off9 v1 k = ![0, 3, 256 * k.val] := by
  rw [← Words.off_toNat (t1_lt h k)]; rfl

theorem off10_at (h : v1.toInt ≤ 2048) (k : Fin (k0_t1_loop v1).trips) : k0_off10 v1 k = ![0, 0, 256 * k.val] := by
  rw [← Words.off_toNat (t1_lt h k)]; rfl

theorem off11_at (h : v1.toInt ≤ 2048) (k : Fin (k0_t1_loop v1).trips) : k0_off11 v1 k = ![0, 256 * k.val] := by
  rw [← Words.off_toNat (t1_lt h k)]; rfl

theorem off22_at (h : v1.toInt ≤ 2048) (k : Fin (k0_t3_loop v1).trips) : k0_off22 v1 k = ![0, 256 * k.val] := by
  rw [← Words.off_toNat (t3_lt h k)]; rfl

theorem off24_at (h : v1.toInt ≤ 2048) (k : Fin (k0_t5_loop v1).trips) : k0_off24 v1 k = ![0, 256 * k.val] := by
  rw [← Words.off_toNat (t5_lt h k)]; rfl

theorem off25_at (h : v1.toInt ≤ 2048) (k : Fin (k0_t5_loop v1).trips) : k0_off25 v1 k = ![0, 0, 256 * k.val] := by
  rw [← Words.off_toNat (t5_lt h k)]; rfl

theorem off26_at (h : v1.toInt ≤ 2048) (k : Fin (k0_t5_loop v1).trips) : k0_off26 v1 k = ![0, 256 * k.val, 0] := by
  rw [← Words.off_toNat (t5_lt h k)]; rfl

theorem off27_at (h : v1.toInt ≤ 2048) (k : Fin (k0_t5_loop v1).trips) : k0_off27 v1 k = ![0, 1, 256 * k.val] := by
  rw [← Words.off_toNat (t5_lt h k)]; rfl

theorem off28_at (h : v1.toInt ≤ 2048) (k : Fin (k0_t5_loop v1).trips) : k0_off28 v1 k = ![0, 256 * k.val, 128] := by
  rw [← Words.off_toNat (t5_lt h k)]; rfl

theorem off29_at (h : v1.toInt ≤ 2048) (k : Fin (k0_t5_loop v1).trips) : k0_off29 v1 k = ![0, 2, 256 * k.val] := by
  rw [← Words.off_toNat (t5_lt h k)]; rfl

theorem off30_at (h : v1.toInt ≤ 2048) (k : Fin (k0_t5_loop v1).trips) : k0_off30 v1 k = ![0, 256 * k.val, 256] := by
  rw [← Words.off_toNat (t5_lt h k)]; rfl

theorem off31_at (h : v1.toInt ≤ 2048) (k : Fin (k0_t5_loop v1).trips) : k0_off31 v1 k = ![0, 3, 256 * k.val] := by
  rw [← Words.off_toNat (t5_lt h k)]; rfl

theorem off32_at (h : v1.toInt ≤ 2048) (k : Fin (k0_t5_loop v1).trips) : k0_off32 v1 k = ![0, 256 * k.val, 384] := by
  rw [← Words.off_toNat (t5_lt h k)]; rfl

theorem k0_chk1_0_of (h : v1.toInt ≤ 2048) : k0_chk1_0 v1 :=
  ⟨Words.main_ok h,
   fun k => ⟨k.val, Words.mult_toNat (t1_lt h k)⟩,
   fun k a => by rw [off2_at h k]; have := t1_lt h k; revert a; rw [Fin.forall_fin_succ] <;> simp [Fin.forall_fin_succ] <;> omega,
   fun k a => by rw [off3_at h k]; have := t1_lt h k; revert a; rw [Fin.forall_fin_succ] <;> simp [Fin.forall_fin_succ] <;> omega,
   fun k a => by rw [off4_at h k]; have := t1_lt h k; revert a; rw [Fin.forall_fin_succ] <;> simp [Fin.forall_fin_succ] <;> omega,
   fun k a => by rw [off5_at h k]; have := t1_lt h k; revert a; rw [Fin.forall_fin_succ] <;> simp [Fin.forall_fin_succ] <;> omega,
   fun k a => by rw [off6_at h k]; have := t1_lt h k; revert a; rw [Fin.forall_fin_succ] <;> simp [Fin.forall_fin_succ] <;> omega,
   fun k a => by rw [off7_at h k]; have := t1_lt h k; revert a; rw [Fin.forall_fin_succ] <;> simp [Fin.forall_fin_succ] <;> omega,
   fun k a => by rw [off8_at h k]; have := t1_lt h k; revert a; rw [Fin.forall_fin_succ] <;> simp [Fin.forall_fin_succ] <;> omega,
   fun k a => by rw [off9_at h k]; have := t1_lt h k; revert a; rw [Fin.forall_fin_succ] <;> simp [Fin.forall_fin_succ] <;> omega,
   fun k a => by rw [off10_at h k]; have := t1_lt h k; revert a; rw [Fin.forall_fin_succ] <;> simp [Fin.forall_fin_succ] <;> omega,
   fun k a => by rw [off11_at h k]; have := t1_lt h k; revert a; rw [Fin.forall_fin_succ] <;> simp [Fin.forall_fin_succ] <;> omega,
   Scf.rem_ok 0#32 _,
   fun k => (t2_none k).elim,
   fun k => (t2_none k).elim,
   fun k => (t2_none k).elim,
   fun k => (t2_none k).elim,
   fun k => (t2_none k).elim,
   fun k => (t2_none k).elim,
   fun k => (t2_none k).elim,
   fun k => (t2_none k).elim,
   fun k => (t2_none k).elim,
   fun k => (t2_none k).elim,
   fun k => (t2_none k).elim,
   Words.main_ok h,
   fun k => ⟨k.val, Words.mult_toNat (t3_lt h k)⟩,
   fun k a => by rw [off22_at h k]; have := t3_lt h k; revert a; rw [Fin.forall_fin_succ] <;> simp [Fin.forall_fin_succ] <;> omega,
   Scf.rem_ok 0#32 _,
   fun k => (t4_none k).elim,
   fun k => (t4_none k).elim,
   Words.main_ok h,
   fun k => ⟨k.val, Words.mult_toNat (t5_lt h k)⟩⟩

theorem k0_chk1_1_of (h : v1.toInt ≤ 2048) : k0_chk1_1 v1 :=
  ⟨fun k a => by rw [off24_at h k]; have := t5_lt h k; revert a; rw [Fin.forall_fin_succ] <;> simp [Fin.forall_fin_succ] <;> omega,
   fun k a => by rw [off25_at h k]; have := t5_lt h k; revert a; rw [Fin.forall_fin_succ] <;> simp [Fin.forall_fin_succ] <;> omega,
   fun k a => by rw [off26_at h k]; have := t5_lt h k; revert a; rw [Fin.forall_fin_succ] <;> simp [Fin.forall_fin_succ] <;> omega,
   fun k a => by rw [off27_at h k]; have := t5_lt h k; revert a; rw [Fin.forall_fin_succ] <;> simp [Fin.forall_fin_succ] <;> omega,
   fun k a => by rw [off28_at h k]; have := t5_lt h k; revert a; rw [Fin.forall_fin_succ] <;> simp [Fin.forall_fin_succ] <;> omega,
   fun k a => by rw [off29_at h k]; have := t5_lt h k; revert a; rw [Fin.forall_fin_succ] <;> simp [Fin.forall_fin_succ] <;> omega,
   fun k a => by rw [off30_at h k]; have := t5_lt h k; revert a; rw [Fin.forall_fin_succ] <;> simp [Fin.forall_fin_succ] <;> omega,
   fun k a => by rw [off31_at h k]; have := t5_lt h k; revert a; rw [Fin.forall_fin_succ] <;> simp [Fin.forall_fin_succ] <;> omega,
   fun k a => by rw [off32_at h k]; have := t5_lt h k; revert a; rw [Fin.forall_fin_succ] <;> simp [Fin.forall_fin_succ] <;> omega,
   Scf.rem_ok 0#32 _,
   fun k => (t6_none k).elim,
   fun k => (t6_none k).elim,
   fun k => (t6_none k).elim,
   fun k => (t6_none k).elim,
   fun k => (t6_none k).elim,
   fun k => (t6_none k).elim,
   fun k => (t6_none k).elim,
   fun k => (t6_none k).elim,
   fun k => (t6_none k).elim,
   fun k => (t6_none k).elim⟩

/-- The kernel's own check of its bounds, from the sequence length fitting in the cache. -/
theorem k0_chk1_of (h : v1.toInt ≤ 2048) : k0_chk1 v1 := ⟨k0_chk1_0_of h, k0_chk1_1_of h⟩

end Cert.KernelIdeal.Own
-- ==== Proof.KernelIdeal.Spec.lean ====
/-
  What the kernel computes for one sequence, as a function of its blocks: the masked scores of each chunk of 256 cached
  positions, their running maximum, the running sum of the exponentials, and the accumulated output columns.
-/
module

public import proofs.«01_k».proof.Proof.KernelIdeal.Bounds
public import proofs.«01_k».proof.Proof.Gen.KernelIdeal.Skeleton
public import Idealize.ShloMosaic.Lib.Pipeline.FrameBody

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The word of the first position of chunk `k`. -/
def base (k : ℕ) : BitVec 32 := Scalar.muli (Scf.iv 0#32 1#32 k) 256#32

/-- Column group `g` of chunk `k` of the codes. -/
def r6 (g : Fin 4) (k : Fin 8) : Rect S1x2048x512 :=
  Rect.unit (s := S1x2048x512) ![0, 256 * k.val, 128 * g.val] S1x256x128.size (by
    have := k.isLt; have := g.isLt
    intro a; fin_cases a
    · exact Nat.le_of_eq rfl
    · show 256 * k.val + 256 ≤ 2048; omega
    · show 128 * g.val + 128 ≤ 512; omega)

/-- Row `g` of chunk `k` of the scales. -/
def r7 (g : Fin 4) (k : Fin 8) : Rect S1x4x2048 :=
  Rect.unit (s := S1x4x2048) ![0, g.val, 256 * k.val] S1x1x256.size (by
    have := k.isLt; have := g.isLt
    intro a; fin_cases a
    · exact Nat.le_of_eq rfl
    · show g.val + 1 ≤ 4; omega
    · show 256 * k.val + 256 ≤ 2048; omega)

/-- Chunk `k` of the rotary keys. -/
def r8 (k : Fin 8) : Rect S1x64x2048 :=
  Rect.unit (s := S1x64x2048) ![0, 0, 256 * k.val] S1x64x256.size (by
    have := k.isLt
    intro a; fin_cases a
    · exact Nat.le_of_eq rfl
    · exact Nat.le_of_eq rfl
    · show 256 * k.val + 256 ≤ 2048; omega)

/-- Chunk `k` of the scores. -/
def r10 (k : Fin 8) : Rect S32x2048 :=
  Rect.unit (s := S32x2048) ![0, 256 * k.val] S32x256.size (by
    have := k.isLt
    intro a; fin_cases a
    · exact Nat.le_of_eq rfl
    · show 256 * k.val + 256 ≤ 2048; omega)

/-- Column group `g` of the output. -/
def r11 (g : Fin 4) : Rect S32x512 :=
  Rect.unit (s := S32x512) ![0, 128 * g.val] S32x128.size (by
    have := g.isLt
    intro a; fin_cases a
    · exact Nat.le_of_eq rfl
    · show 128 * g.val + 128 ≤ 512; omega)

def codes (x6 : Vec F S1x2048x512 .fp8e4m3) (g : Fin 4) (k : Fin 8) : Vec F S1x256x128 .fp8e4m3 := View.ld (Val := Elt F) (e' := .fp8e4m3) x6 (r6 g k)
def scales (x7 : Vec F S1x4x2048 .f32) (g : Fin 4) (k : Fin 8) : Vec F S1x1x256 .f32 := View.ld (Val := Elt F) (e' := .f32) x7 (r7 g k)
def rope (x8 : Vec F S1x64x2048 .bf16) (k : Fin 8) : Vec F S1x64x256 .bf16 := View.ld (Val := Elt F) (e' := .bf16) x8 (r8 k)
def scoreBlk (x10 : Vec F S32x2048 .f32) (k : Fin 8) : Vec F S32x256 .f32 := View.ld (Val := Elt F) (e' := .f32) x10 (r10 k)
def outCols (x11 : Vec F S32x512 .f32) (g : Fin 4) : Vec F S32x128 .f32 := View.ld (Val := Elt F) (e' := .f32) x11 (r11 g)

/-! ## Scores -/

section Scores

variable (v1 : Elt F .i32) (v22 : FVec F S32x512 .bf16) (v24 : FVec F S32x64 .bf16) (x6 : Vec F S1x2048x512 .fp8e4m3)
  (x7 : Vec F S1x4x2048 .f32) (x8 : Vec F S1x64x2048 .bf16) (init : FVec F S32x1 .f32)

/-- The masked scores of chunk `k`. -/
def score (k : Fin 8) : FVec F S32x256 .f32 :=
  k0_pay23 v1 v24 (base k.val) (k0_pay6 v22 (codes x6 0 k) (scales x7 0 k) (codes x6 1 k) (scales x7 1 k) (codes x6 2 k) (scales x7 2 k))
    (k0_pay7 v22 (codes x6 3 k)) (scales x7 3 k) (rope x8 k)

/-- The running maximum after chunk `k`. -/
def maxStep (acc : FVec F S32x1 .f32) (k : Fin 8) : FVec F S32x1 .f32 :=
  k0_pay24 v1 v24 acc (base k.val) (k0_pay6 v22 (codes x6 0 k) (scales x7 0 k) (codes x6 1 k) (scales x7 1 k) (codes x6 2 k) (scales x7 2 k))
    (k0_pay7 v22 (codes x6 3 k)) (scales x7 3 k) (rope x8 k)

/-- The running maximum before chunk `k`. -/
def runMax : ℕ → FVec F S32x1 .f32
  | 0 => init
  | k + 1 => if h : k < 8 then maxStep v1 v22 v24 x6 x7 x8 (runMax k) ⟨k, h⟩ else runMax k

theorem runMax_succ {k : ℕ} (h : k < 8) : runMax v1 v22 v24 x6 x7 x8 init (k + 1)
    = maxStep v1 v22 v24 x6 x7 x8 (runMax v1 v22 v24 x6 x7 x8 init k) ⟨k, h⟩ := dif_pos h

end Scores

/-! ## Exponentials and their sum -/

section Exps

variable (v50 : FVec F S32x1 .f32) (S : Fin 8 → FVec F S32x256 .f32) (init : FVec F S32x1 .f32)

/-- The running sum before chunk `k`. -/
def runSum : ℕ → FVec F S32x1 .f32
  | 0 => init
  | k + 1 => if h : k < 8 then k0_pay32 v50 (runSum k) (S ⟨k, h⟩) else runSum k

theorem runSum_succ {k : ℕ} (h : k < 8) : runSum v50 S init (k + 1) = k0_pay32 v50 (runSum v50 S init k) (S ⟨k, h⟩) := dif_pos h

end Exps

/-! ## Output columns -/

section Outs

variable (v63 : FVec F S32x1 .f32) (E : Fin 8 → FVec F S32x256 .f32) (x6 : Vec F S1x2048x512 .fp8e4m3)
  (x7 : Vec F S1x4x2048 .f32) (init : Vec F S32x512 .f32)

/-- Column group `g` of the output after chunk `k`. -/
def colsStep (g : Fin 4) (acc : Vec F S32x128 .f32) (k : Fin 8) : Vec F S32x128 .f32 :=
  match g with
  | 0 => k0_pay11 v63 (E k) (scales x7 0 k) acc (codes x6 0 k)
  | 1 => k0_pay12 v63 (E k) (scales x7 1 k) acc (codes x6 1 k)
  | 2 => k0_pay1 (k0_pay10 v63 (E k)) (scales x7 2 k) acc (codes x6 2 k)
  | 3 => k0_pay2 (k0_pay10 v63 (E k)) (scales x7 3 k) acc (codes x6 3 k)

/-- Column group `g` of the output before chunk `k`. -/
def runCols (g : Fin 4) : ℕ → Vec F S32x128 .f32
  | 0 => outCols init g
  | k + 1 => if h : k < 8 then colsStep v63 E x6 x7 g (runCols g k) ⟨k, h⟩ else runCols g k

theorem runCols_succ (g : Fin 4) {k : ℕ} (h : k < 8) : runCols v63 E x6 x7 init g (k + 1)
    = colsStep v63 E x6 x7 g (runCols v63 E x6 x7 init g k) ⟨k, h⟩ := dif_pos h

/-- The whole output before chunk `k`. -/
def wholeCols (k : ℕ) : Vec F S32x512 .f32 := fun i =>
  runCols v63 E x6 x7 init ⟨(i 1).val / 128, by have : (i 1).val < 512 := (i 1).isLt; omega⟩ k
    (fun a => match a with
      | 0 => ⟨(i 0).val, (i 0).isLt⟩
      | 1 => ⟨(i 1).val % 128, Nat.mod_lt _ (by decide)⟩)

end Outs

/-! ## The block -/

section Block

variable (v1 : Elt F .i32) (x2 : Vec F S1x32x512 .bf16) (x3 : Vec F S1x32x64 .bf16) (x4 : Vec F S1x1x512 .bf16) (x5 : Vec F S1x1x64 .bf16)
  (x6 : Vec F S1x2048x512 .fp8e4m3) (x7 : Vec F S1x4x2048 .f32) (x8 : Vec F S1x64x2048 .bf16)

/-- The maximum over the new token and every chunk. -/
def topOf : FVec F S32x1 .f32 :=
  runMax v1 (k0_pay16 x2) (k0_pay17 x3) x6 x7 x8 (k0_pay21 (k0_pay18 x2 x4) (k0_pay19 x3) (k0_pay20 x5)) (Words.nblk (BitVec.toInt v1))

/-- The scores. -/
def scoresOf (k : Fin 8) : FVec F S32x256 .f32 := score v1 (k0_pay16 x2) (k0_pay17 x3) x6 x7 x8 k

/-- The sum of the exponentials over the chunks. -/
def sumOf : FVec F S32x1 .f32 :=
  runSum (topOf v1 x2 x3 x4 x5 x6 x7 x8) (scoresOf v1 x2 x3 x6 x7 x8) (k0_pay29 (F := F)) (Words.nblk (BitVec.toInt v1))

/-- One over the whole sum. -/
def invOf : FVec F S32x1 .f32 :=
  k0_pay36 (k0_pay18 x2 x4) (k0_pay19 x3) (k0_pay20 x5) (topOf v1 x2 x3 x4 x5 x6 x7 x8) (sumOf v1 x2 x3 x4 x5 x6 x7 x8)

/-- The new token's part of the output. -/
def newOf : Vec F S32x512 .f32 :=
  k0_pay37 (k0_pay18 x2 x4) (k0_pay19 x3) (k0_pay20 x5) (topOf v1 x2 x3 x4 x5 x6 x7 x8) (sumOf v1 x2 x3 x4 x5 x6 x7 x8) x4

/-- The exponentials of chunk `k`. -/
def expsOf (k : Fin 8) : FVec F S32x256 .f32 := k0_pay31 (topOf v1 x2 x3 x4 x5 x6 x7 x8) (scoresOf v1 x2 x3 x6 x7 x8 k)

/-- The block the kernel leaves for one sequence. -/
def blockOf : Vec F S1x32x512 .bf16 :=
  k0_pay5 (wholeCols (invOf v1 x2 x3 x4 x5 x6 x7 x8) (expsOf v1 x2 x3 x4 x5 x6 x7 x8) x6 x7 (newOf v1 x2 x3 x4 x5 x6 x7 x8)
    (Words.nblk (BitVec.toInt v1)))

end Block

end Cert.KernelIdeal.Own

end
-- ==== Proof.Attn.lean ====
/-
  THE MATHEMATICS OF ONE HEAD OF ONE SEQUENCE, over the extended reals: scores, maximum, exponentials, their sum and the
  weighted sum of the cache, and the fact that a loop over chunks of 256 positions that stops at the cache length computes
  the maximum and the sums over all 2048 positions.
-/
module

public import Idealize.ShloMosaic.Lib.Pointwise

@[expose] public section

noncomputable section

namespace Cert.Attn

open Idealize.ShloMosaic

/-! ## Chunks -/

/-- Position `l` of chunk `k`. -/
def pos (k : Fin 8) (l : Fin 256) : Fin 2048 := ⟨256 * k.val + l.val, by have := k.isLt; have := l.isLt; omega⟩

/-- Channel `c` of group `g`. -/
def col (g : Fin 4) (c : Fin 128) : Fin 512 := ⟨128 * g.val + c.val, by have := g.isLt; have := c.isLt; omega⟩

/-- A running maximum over the chunks before chunk `n` is the maximum over all positions, if every later position holds `⊥`. -/
theorem max_chunks (f : Fin 2048 → EReal) (r : ℕ → EReal)
    (hs : ∀ k (h : k < 8), r (k + 1) = max (r k) (Finset.univ.fold max ⊥ fun l : Fin 256 => f (pos ⟨k, h⟩ l)))
    (n : ℕ) (hn : n ≤ 8) (hrest : ∀ p : Fin 2048, 256 * n ≤ p.val → f p = ⊥) :
    r n = max (r 0) (Finset.univ.fold max ⊥ f) := by
  have key : ∀ k, k ≤ 8 → ∀ c, r k ≤ c ↔ r 0 ≤ c ∧ ∀ p : Fin 2048, p.val < 256 * k → f p ≤ c := by
    intro k
    induction k with
    | zero =>
      intro _ c
      exact ⟨fun h => ⟨h, fun p hp => absurd hp (by omega)⟩, fun h => h.1⟩
    | succ k ih =>
      intro hk c
      rw [hs k (by omega), max_le_iff, ih (by omega), Finset.fold_max_le]
      constructor
      · rintro ⟨⟨h0, h1⟩, -, h2⟩
        refine ⟨h0, fun p hp => ?_⟩
        by_cases hpk : p.val < 256 * k
        · exact h1 p hpk
        · have := h2 (⟨p.val - 256 * k, by omega⟩ : Fin 256) (Finset.mem_univ _)
          rwa [show pos ⟨k, by omega⟩ ⟨p.val - 256 * k, by omega⟩ = p from Fin.ext (by simp only [pos]; omega)] at this
      · rintro ⟨h0, h1⟩
        refine ⟨⟨h0, fun p hp => h1 p (by omega)⟩, bot_le, fun l _ => h1 _ ?_⟩
        have := l.isLt
        simp only [pos]; omega
  refine eq_of_forall_ge_iff fun c => ?_
  rw [key n hn, max_le_iff, Finset.fold_max_le]
  constructor
  · rintro ⟨h0, h1⟩
    refine ⟨h0, bot_le, fun p _ => ?_⟩
    by_cases hp : p.val < 256 * n
    · exact h1 p hp
    · rw [hrest p (by omega)]; exact bot_le
  · rintro ⟨h0, -, h1⟩
    exact ⟨h0, fun p _ => h1 p (Finset.mem_univ _)⟩

/-- A running sum over the chunks before chunk `n` is the sum over all positions, if every later position holds `0`. -/
theorem sum_chunks (f : Fin 2048 → EReal) (r : ℕ → EReal)
    (hs : ∀ k (h : k < 8), r (k + 1) = r k + ∑ l : Fin 256, f (pos ⟨k, h⟩ l))
    (n : ℕ) (hn : n ≤ 8) (hrest : ∀ p : Fin 2048, 256 * n ≤ p.val → f p = 0) :
    r n = r 0 + ∑ p : Fin 2048, f p := by
  let F : ℕ → EReal := fun j => if h : j < 2048 then f ⟨j, h⟩ else 0
  have key : ∀ k, k ≤ 8 → r k = r 0 + ∑ j ∈ Finset.range (256 * k), F j := by
    intro k
    induction k with
    | zero => intro _; simp
    | succ k ih =>
      intro hk
      rw [hs k (by omega), ih (by omega), Nat.mul_succ, Finset.sum_range_add, add_assoc]
      congr 2
      rw [Finset.sum_range]
      refine Finset.sum_congr rfl fun l _ => ?_
      have := l.isLt
      have hl : 256 * k + l.val < 2048 := by omega
      simp only [F, dif_pos hl]; rfl
  rw [key n hn]
  congr 1
  have hF : ∑ p : Fin 2048, f p = ∑ j ∈ Finset.range 2048, F j := by
    rw [Finset.sum_range]
    exact Finset.sum_congr rfl fun p _ => by simp only [F, dif_pos p.isLt]
  rw [hF]
  refine Finset.sum_subset (fun j hj => ?_) fun j hj hj' => ?_
  · rw [Finset.mem_range] at hj ⊢; omega
  · rw [Finset.mem_range] at hj hj'
    simp only [F, dif_pos hj]
    exact hrest ⟨j, hj⟩ (by simp only []; omega)

/-! ## One head of one sequence -/

section Head

variable (x : Fin 512 → EReal) (qr : Fin 64 → EReal) (kvn : Fin 512 → EReal) (krn : Fin 64 → EReal)
  (codes : Fin 2048 → Fin 512 → EReal) (scale : Fin 4 → Fin 2048 → EReal) (kr : Fin 64 → Fin 2048 → EReal) (n : Int)

/-- The factor of the scores. -/
def factor : EReal := Ideal.ofBits .f32 0x3D93CD3A#32

/-- The products of the query and the codes of position `p` over the channels of group `g`, summed. -/
def dot (p : Fin 2048) (g : Fin 4) : EReal := ∑ c : Fin 128, x (col g c) * codes p (col g c)

/-- The score of position `p`: `⊥` from the cache length on. -/
def score (p : Fin 2048) : EReal :=
  if (p.val : Int) < n then
    (dot x codes p 0 * scale 0 p + dot x codes p 1 * scale 1 p + dot x codes p 2 * scale 2 p + dot x codes p 3 * scale 3 p
      + ∑ r : Fin 64, qr r * kr r p) * factor
  else ⊥

/-- The new token's score. -/
def scoreNew : EReal := (∑ c : Fin 512, x c * kvn c + ∑ r : Fin 64, qr r * krn r) * factor

/-- The maximum of all scores. -/
def top : EReal := max (scoreNew x qr kvn krn) (Finset.univ.fold max ⊥ (score x qr codes scale kr n))

/-- The exponential at position `p`. -/
def ex (p : Fin 2048) : EReal := Ideal.exp (score x qr codes scale kr n p - top x qr kvn krn codes scale kr n)

/-- The new token's exponential. -/
def exNew : EReal := Ideal.exp (scoreNew x qr kvn krn - top x qr kvn krn codes scale kr n)

/-- One over the sum of the exponentials. -/
def inv : EReal := Ideal.div 1 (∑ p, ex x qr kvn krn codes scale kr n p + exNew x qr kvn krn codes scale kr n)

/-- The result at channel `c` of group `g`. -/
def out (g : Fin 4) (c : Fin 512) : EReal :=
  exNew x qr kvn krn codes scale kr n * inv x qr kvn krn codes scale kr n * kvn c
    + ∑ p, ex x qr kvn krn codes scale kr n p * inv x qr kvn krn codes scale kr n * scale g p * codes p c

/-- From the cache length on the exponential is zero. -/
theorem ex_zero (p : Fin 2048) (h : n ≤ p.val) : ex x qr kvn krn codes scale kr n p = 0 := by
  have : score x qr codes scale kr n p = ⊥ := if_neg (by omega)
  simp only [ex, this, EReal.bot_sub]
  rfl

end Head

end Cert.Attn

end
-- ==== Proof.Groups.lean ====
/-
  SMALL FACTS BOTH PROGRAMS NEED: minus infinity, the comparison of a position's word with the cache length's, and sums over the
  channels of one group.
-/
module

public import proofs.«01_k».proof.Proof.Attn

@[expose] public section

noncomputable section

namespace Cert.Attn

open Idealize.ShloMosaic

/-- The word of minus infinity. -/
theorem low_eq : Ideal.ofBits .f32 0xFF800000#32 = ⊥ := by simp [Ideal.ofBits, Ideal.ieee]

/-- A position's word is less than a word exactly when the position is less than it as a signed number. -/
theorem select_vis (p : ℕ) (hp : p < 2048) (w : BitVec 32) (a b : EReal) :
    Scalar.select (IntOp.cmpi .slt (BitVec.ofNat 32 p) w) a b = if (p : Int) < w.toInt then a else b := by
  have ht : (BitVec.ofNat 32 p).toInt = p := by
    have hn : (BitVec.ofNat 32 p).toNat = p := by
      rw [BitVec.toNat_ofNat]; exact Nat.mod_eq_of_lt (by omega)
    rw [BitVec.toInt_eq_toNat_of_lt (by omega), hn]
  have hb : BitVec.slt (BitVec.ofNat 32 p) w = decide ((p : Int) < w.toInt) := by rw [BitVec.slt, ht]
  by_cases h : (p : Int) < w.toInt
  · simp [Scalar.select, IntOp.cmpi, hb, h]
  · simp [Scalar.select, IntOp.cmpi, hb, h]

/-- Whether channel `c` lies in group `g`, as a bit. -/
def inGroup (g : Fin 4) (c : Fin 512) : BitVec 1 := if c.val / 128 = g.val then 1#1 else 0#1

/-- The group of channel `c`. -/
def groupOf (c : Fin 512) : Fin 4 := ⟨c.val / 128, by have := c.isLt; omega⟩

/-- A sum over all channels whose terms outside group `g` are set to zero is the sum over the channels of group `g`. -/
theorem sum_group (g : Fin 4) (x y : Fin 512 → EReal) :
    ∑ c, Scalar.select (inGroup g c) (x c) 0 * y c = ∑ c : Fin 128, x (col g c) * y (col g c) := by
  have e : ∀ f : Fin (4 * 128) → EReal, ∑ c, f c = ∑ i : Fin 4, ∑ j : Fin 128, f (finProdFinEquiv (i, j)) := fun f => by
    rw [← Equiv.sum_comp finProdFinEquiv, Fintype.sum_prod_type]
  have hc : ∀ (i : Fin 4) (j : Fin 128), (finProdFinEquiv (i, j) : Fin (4 * 128)) = col i j := fun i j => by
    refine Fin.ext ?_
    simp only [finProdFinEquiv, col]
    exact Nat.add_comm _ _
  refine (e _).trans ?_
  rw [Finset.sum_eq_single g]
  · refine Finset.sum_congr rfl fun j _ => ?_
    rw [hc]
    have hj := j.isLt
    have : inGroup g (col g j) = 1#1 := if_pos (by simp only [col]; omega)
    rw [this]
    rfl
  · intro i _ hi
    refine Finset.sum_eq_zero fun j _ => ?_
    rw [hc]
    have hj := j.isLt
    have : inGroup g (col i j) = 0#1 := if_neg (fun h => hi (Fin.ext (by simp only [col] at h; omega)))
    rw [this]
    exact zero_mul _
  · intro h; exact absurd (Finset.mem_univ _) h

/-- Of four values, each kept for its own group's channels only, the sum is the value of the channel's group. -/
theorem pick_group (c : Fin 512) (o : Fin 4 → EReal) :
    Scalar.select (inGroup 0 c) (o 0) 0 + Scalar.select (inGroup 1 c) (o 1) 0 + Scalar.select (inGroup 2 c) (o 2) 0
      + Scalar.select (inGroup 3 c) (o 3) 0 = o (groupOf c) := by
  have h : ∀ g : Fin 4, inGroup g c = if groupOf c = g then 1#1 else 0#1 := fun g => by
    simp only [inGroup, groupOf, Fin.ext_iff]
  simp only [h]
  generalize groupOf c = k
  fin_cases k <;> simp [Scalar.select]

/-- The whole result, at head `h` and channel `c` of sequence `b`, from the arguments read at coordinates. -/
def result (x : Fin 128 → Fin 32 → Fin 512 → EReal) (qr : Fin 128 → Fin 32 → Fin 64 → EReal) (kvn : Fin 128 → Fin 512 → EReal)
    (krn : Fin 128 → Fin 64 → EReal) (codes : Fin 128 → Fin 2048 → Fin 512 → EReal) (scale : Fin 128 → Fin 2048 → Fin 4 → EReal)
    (kr : Fin 128 → Fin 2048 → Fin 64 → EReal) (n : Fin 128 → BitVec 32) (b : Fin 128) (h : Fin 32) (c : Fin 512) : EReal :=
  out (x b h) (qr b h) (kvn b) (krn b) (codes b) (fun g p => scale b p g) (fun r p => kr b p r) (n b).toInt (groupOf c) c

end Cert.Attn

end
-- ==== Proof.KernelIdeal.Reads.lean ====
/-
  THE KERNEL'S VECTORS READ AT AN INDEX: what each of the body's values holds at one head and one position or channel, and where
  the blocks' chunks lie.
-/
module

public import proofs.«01_k».proof.Proof.KernelIdeal.Spec
public import proofs.«01_k».proof.Proof.Groups
public import Idealize.ShloMosaic.Lib.Pointwise

@[expose] public section

set_option maxRecDepth 16384

noncomputable section

namespace Cert.KernelIdeal.Own

open Idealize.ShloMosaic Idealize.ShloMosaic.TcCoe
open Cert.KernelIdeal Cert.KernelIdeal.Gen

/-! ## Chunks of the blocks -/

theorem codes_at (x6 : Vec Ideal S1x2048x512 .fp8e4m3) (g : Fin 4) (k : Fin 8) (l : Fin 256) (c : Fin 128) :
    codes x6 g k (ix3 0 l c) = x6 (ix3 0 (Attn.pos k l) (Attn.col g c)) := by
  refine congrArg x6 (funext fun a => Fin.ext ?_)
  fin_cases a <;> simp [r6, Rect.unit, ix3, Attn.pos, Attn.col]

theorem scales_at (x7 : Vec Ideal S1x4x2048 .f32) (g : Fin 4) (k : Fin 8) (l : Fin 256) :
    scales x7 g k (ix3 0 0 l) = x7 (ix3 0 g (Attn.pos k l)) := by
  refine congrArg x7 (funext fun a => Fin.ext ?_)
  fin_cases a <;> simp [r7, Rect.unit, ix3, Attn.pos]

theorem rope_at (x8 : Vec Ideal S1x64x2048 .bf16) (k : Fin 8) (r : Fin 64) (l : Fin 256) :
    rope x8 k (ix3 0 r l) = x8 (ix3 0 r (Attn.pos k l)) := by
  refine congrArg x8 (funext fun a => Fin.ext ?_)
  fin_cases a <;> simp [r8, Rect.unit, ix3, Attn.pos]

theorem outCols_at (x : Vec Ideal S32x512 .f32) (g : Fin 4) (h : Fin 32) (c : Fin 128) :
    outCols x g (ix2 h c) = x (ix2 h (Attn.col g c)) := by
  refine congrArg x (funext fun a => Fin.ext ?_)
  fin_cases a <;> simp [r11, Rect.unit, ix2, Attn.col]

/-- The word the kernel computes for position `l` of chunk `k`. -/
theorem base_at (k : Fin 8) (l : Fin 256) : IntOp.addi (base k.val) (BitVec.ofNat 32 l.val) = BitVec.ofNat 32 (Attn.pos k l).val := by
  revert k l
  decide +kernel

/-! ## The query and the new token -/

theorem query_at (v : Vec Ideal S1x32x512 .bf16) (h : Fin 32) (c : Fin 512) : k0_pay16 (F := Ideal) v (ix2 h c) = v (ix3 0 h c) := by
  pointwise [k0_pay16]

theorem queryRope_at (v : Vec Ideal S1x32x64 .bf16) (h : Fin 32) (r : Fin 64) : k0_pay17 (F := Ideal) v (ix2 h r) = v (ix3 0 h r) := by
  pointwise [k0_pay17]

theorem newDot_at (v : Vec Ideal S1x32x512 .bf16) (w : Vec Ideal S1x1x512 .bf16) (h : Fin 32) :
    k0_pay18 (F := Ideal) v w (ix2 h 0) = ∑ c, v (ix3 0 h c) * w (ix3 0 0 c) := by
  pointwise [k0_pay18, k0_pay16]

theorem queryRopeWide_at (v : Vec Ideal S1x32x64 .bf16) (h : Fin 32) (r : Fin 64) : k0_pay19 (F := Ideal) v (ix2 h r) = v (ix3 0 h r) := by
  pointwise [k0_pay19, k0_pay17]

theorem newRope_at (v : Vec Ideal S1x1x64 .bf16) (r : Fin 64) : k0_pay20 (F := Ideal) v (ix2 0 r) = v (ix3 0 0 r) := by
  pointwise [k0_pay20]

theorem newScore_at (v32 : FVec Ideal S32x1 .f32) (v33 : FVec Ideal S32x64 .f32) (v35 : FVec Ideal S1x64 .bf16) (h : Fin 32) :
    k0_pay21 (F := Ideal) v32 v33 v35 (ix2 h 0) = (v32 (ix2 h 0) + ∑ r, v33 (ix2 h r) * v35 (ix2 0 r)) * Attn.factor := by
  pointwise [k0_pay21]
  rfl

/-! ## Scores of a chunk -/

theorem threeDots_at (v22 : FVec Ideal S32x512 .bf16) (v92 : Vec Ideal S1x256x128 .fp8e4m3) (v96 : Vec Ideal S1x1x256 .f32)
    (v102 : Vec Ideal S1x256x128 .fp8e4m3) (v106 : Vec Ideal S1x1x256 .f32) (v113 : Vec Ideal S1x256x128 .fp8e4m3)
    (v117 : Vec Ideal S1x1x256 .f32) (h : Fin 32) (l : Fin 256) :
    k0_pay6 (F := Ideal) v22 v92 v96 v102 v106 v113 v117 (ix2 h l)
      = (∑ c : Fin 128, v22 (ix2 h (Attn.col 0 c)) * v92 (ix3 0 l c)) * v96 (ix3 0 0 l)
        + (∑ c : Fin 128, v22 (ix2 h (Attn.col 1 c)) * v102 (ix3 0 l c)) * v106 (ix3 0 0 l)
        + (∑ c : Fin 128, v22 (ix2 h (Attn.col 2 c)) * v113 (ix3 0 l c)) * v117 (ix3 0 0 l) := by
  pointwise [k0_pay6]
  have e : ∀ c : Fin 128, (⟨c.val, by omega⟩ : Fin 512) = Attn.col 0 c := fun c => Fin.ext (by simp [Attn.col])
  simp only [e]
  rfl

theorem lastDot_at (v22 : FVec Ideal S32x512 .bf16) (v92 : Vec Ideal S1x256x128 .fp8e4m3) (h : Fin 32) (l : Fin 256) :
    k0_pay7 (F := Ideal) v22 v92 (ix2 h l) = ∑ c : Fin 128, v22 (ix2 h (Attn.col 3 c)) * v92 (ix3 0 l c) := by
  pointwise [k0_pay7]
  rfl

theorem masked_at (v1 : Elt Ideal .i32) (v24 : FVec Ideal S32x64 .bf16) (v89 : BitVec 32) (v121 v126 : FVec Ideal S32x256 .f32)
    (v128 : Vec Ideal S1x1x256 .f32) (v134 : Vec Ideal S1x64x256 .bf16) (h : Fin 32) (l : Fin 256) :
    k0_pay22 (F := Ideal) v1 v24 v89 v121 v126 v128 v134 (ix2 h l)
      = Scalar.select (IntOp.cmpi .slt (IntOp.addi v89 (BitVec.ofNat 32 l.val)) v1)
          ((v121 (ix2 h l) + v126 (ix2 h l) * v128 (ix3 0 0 l) + ∑ r, v24 (ix2 h r) * v134 (ix3 0 r l)) * Attn.factor) (⊥ : EReal) := by
  rw [← Attn.low_eq]
  pointwise [k0_pay22]
  rfl

theorem stored_eq (v1 : Elt Ideal .i32) (v24 : FVec Ideal S32x64 .bf16) (v89 : BitVec 32) (v121 v126 : FVec Ideal S32x256 .f32)
    (v128 : Vec Ideal S1x1x256 .f32) (v134 : Vec Ideal S1x64x256 .bf16) :
    k0_pay23 (F := Ideal) v1 v24 v89 v121 v126 v128 v134 = k0_pay22 v1 v24 v89 v121 v126 v128 v134 := by
  funext i
  unfold k0_pay23
  pointwise []

theorem maxStep_at (v1 : Elt Ideal .i32) (v24 : FVec Ideal S32x64 .bf16) (a : FVec Ideal S32x1 .f32) (v89 : BitVec 32)
    (v121 v126 : FVec Ideal S32x256 .f32) (v128 : Vec Ideal S1x1x256 .f32) (v134 : Vec Ideal S1x64x256 .bf16) (h : Fin 32) :
    k0_pay24 (F := Ideal) v1 v24 a v89 v121 v126 v128 v134 (ix2 h 0)
      = max (a (ix2 h 0)) (Finset.univ.fold max ⊥ fun l : Fin 256 => k0_pay22 (F := Ideal) v1 v24 v89 v121 v126 v128 v134 (ix2 h l)) := by
  rw [← Attn.low_eq]
  pointwise [k0_pay24]

/-! ## Exponentials -/

theorem newExp_at (v32 : FVec Ideal S32x1 .f32) (v33 : FVec Ideal S32x64 .f32) (v35 : FVec Ideal S1x64 .bf16) (v50 : FVec Ideal S32x1 .f32)
    (h : Fin 32) : k0_pay28 (F := Ideal) v32 v33 v35 v50 (ix2 h 0) = Ideal.exp (k0_pay21 (F := Ideal) v32 v33 v35 (ix2 h 0) - v50 (ix2 h 0)) := by
  pointwise [k0_pay28]

theorem zero_at (h : Fin 32) : k0_pay29 (F := Ideal) (ix2 h 0) = (0 : EReal) := by
  pointwise [k0_pay29]

theorem exps_at (v50 : FVec Ideal S32x1 .f32) (v91 : Vec Ideal S32x256 .f32) (h : Fin 32) (l : Fin 256) :
    k0_pay31 (F := Ideal) v50 v91 (ix2 h l) = Ideal.exp (v91 (ix2 h l) - v50 (ix2 h 0)) := by
  pointwise [k0_pay31, k0_pay30]

theorem sumStep_at (v50 a : FVec Ideal S32x1 .f32) (v91 : Vec Ideal S32x256 .f32) (h : Fin 32) :
    k0_pay32 (F := Ideal) v50 a v91 (ix2 h 0) = a (ix2 h 0) + ∑ l, Ideal.exp (v91 (ix2 h l) - v50 (ix2 h 0)) := by
  pointwise [k0_pay32, k0_pay30]

theorem inv_at (v32 : FVec Ideal S32x1 .f32) (v33 : FVec Ideal S32x64 .f32) (v35 : FVec Ideal S1x64 .bf16) (v50 v60 : FVec Ideal S32x1 .f32)
    (h : Fin 32) : k0_pay36 (F := Ideal) v32 v33 v35 v50 v60 (ix2 h 0)
      = Ideal.div 1 (v60 (ix2 h 0) + k0_pay28 (F := Ideal) v32 v33 v35 v50 (ix2 h 0)) := by
  pointwise [k0_pay36]

/-! ## The output -/

theorem new_at (v32 : FVec Ideal S32x1 .f32) (v33 : FVec Ideal S32x64 .f32) (v35 : FVec Ideal S1x64 .bf16) (v50 v60 : FVec Ideal S32x1 .f32)
    (v67 : Vec Ideal S1x1x512 .bf16) (h : Fin 32) (c : Fin 512) : k0_pay37 (F := Ideal) v32 v33 v35 v50 v60 v67 (ix2 h c)
      = k0_pay28 (F := Ideal) v32 v33 v35 v50 (ix2 h 0) * k0_pay36 (F := Ideal) v32 v33 v35 v50 v60 (ix2 h 0) * v67 (ix3 0 0 c) := by
  pointwise [k0_pay37]

theorem narrowed_at (v : Vec Ideal S32x512 .f32) (h : Fin 32) (c : Fin 512) : k0_pay5 (F := Ideal) v (ix3 0 h c) = v (ix2 h c) := by
  pointwise [k0_pay5]

theorem prob_at (v63 : FVec Ideal S32x1 .f32) (v91 : Vec Ideal S32x256 .f32) (h : Fin 32) (l : Fin 256) :
    k0_pay10 (F := Ideal) v63 v91 (ix2 h l) = v91 (ix2 h l) * v63 (ix2 h 0) := by
  pointwise [k0_pay10]

theorem cols0_at (v63 : FVec Ideal S32x1 .f32) (v91 : Vec Ideal S32x256 .f32) (v96 : Vec Ideal S1x1x256 .f32) (a : Vec Ideal S32x128 .f32)
    (v103 : Vec Ideal S1x256x128 .fp8e4m3) (h : Fin 32) (c : Fin 128) : k0_pay11 (F := Ideal) v63 v91 v96 a v103 (ix2 h c)
      = a (ix2 h c) + ∑ l, v91 (ix2 h l) * v63 (ix2 h 0) * v96 (ix3 0 0 l) * v103 (ix3 0 l c) := by
  pointwise [k0_pay11, k0_pay10]

theorem cols1_at (v63 : FVec Ideal S32x1 .f32) (v91 : Vec Ideal S32x256 .f32) (v96 : Vec Ideal S1x1x256 .f32) (a : Vec Ideal S32x128 .f32)
    (v103 : Vec Ideal S1x256x128 .fp8e4m3) (h : Fin 32) (c : Fin 128) : k0_pay12 (F := Ideal) v63 v91 v96 a v103 (ix2 h c)
      = a (ix2 h c) + ∑ l, v91 (ix2 h l) * v63 (ix2 h 0) * v96 (ix3 0 0 l) * v103 (ix3 0 l c) := by
  pointwise [k0_pay12, k0_pay10]

theorem cols2_at (v94 : FVec Ideal S32x256 .bf16) (v96 : Vec Ideal S1x1x256 .f32) (a : Vec Ideal S32x128 .f32)
    (v103 : Vec Ideal S1x256x128 .fp8e4m3) (h : Fin 32) (c : Fin 128) : k0_pay1 (F := Ideal) v94 v96 a v103 (ix2 h c)
      = a (ix2 h c) + ∑ l, v94 (ix2 h l) * v96 (ix3 0 0 l) * v103 (ix3 0 l c) := by
  pointwise [k0_pay1]

theorem cols3_at (v94 : FVec Ideal S32x256 .bf16) (v96 : Vec Ideal S1x1x256 .f32) (a : Vec Ideal S32x128 .f32)
    (v103 : Vec Ideal S1x256x128 .fp8e4m3) (h : Fin 32) (c : Fin 128) : k0_pay2 (F := Ideal) v94 v96 a v103 (ix2 h c)
      = a (ix2 h c) + ∑ l, v94 (ix2 h l) * v96 (ix3 0 0 l) * v103 (ix3 0 l c) := by
  pointwise [k0_pay2]

end Cert.KernelIdeal.Own

end
-- ==== Proof.KernelIdeal.Block.lean ====
/-
  THE BLOCK THE KERNEL LEAVES FOR ONE SEQUENCE, read at an index: attention over the whole cache, though the kernel's loops run
  over the chunks below the cache length only.
-/
module

public import proofs.«01_k».proof.Proof.KernelIdeal.Reads
public import proofs.«01_k».proof.Proof.Words

@[expose] public section

set_option maxRecDepth 16384

noncomputable section

namespace Cert.KernelIdeal.Own

open Idealize.ShloMosaic Idealize.ShloMosaic.TcCoe
open Cert.KernelIdeal Cert.KernelIdeal.Gen

variable (v1 : Elt Ideal .i32) (x2 : Vec Ideal S1x32x512 .bf16) (x3 : Vec Ideal S1x32x64 .bf16) (x4 : Vec Ideal S1x1x512 .bf16)
  (x5 : Vec Ideal S1x1x64 .bf16) (x6 : Vec Ideal S1x2048x512 .fp8e4m3) (x7 : Vec Ideal S1x4x2048 .f32) (x8 : Vec Ideal S1x64x2048 .bf16)
  (h : Fin 32)

/-! ## The blocks as functions of their coordinates -/

/-- The query of head `h`. -/
abbrev qX : Fin 512 → EReal := fun k => x2 (ix3 0 h k)
/-- The rotary query of head `h`. -/
abbrev qR : Fin 64 → EReal := fun r => x3 (ix3 0 h r)
/-- The new token's latent. -/
abbrev nX : Fin 512 → EReal := fun k => x4 (ix3 0 0 k)
/-- The new token's rotary key. -/
abbrev nR : Fin 64 → EReal := fun r => x5 (ix3 0 0 r)
/-- The cached codes. -/
abbrev kC : Fin 2048 → Fin 512 → EReal := fun p k => x6 (ix3 0 p k)
/-- The scales of the cached codes. -/
abbrev kS : Fin 4 → Fin 2048 → EReal := fun g p => x7 (ix3 0 g p)
/-- The cached rotary keys. -/
abbrev kR : Fin 64 → Fin 2048 → EReal := fun r p => x8 (ix3 0 r p)

/-- The cache length. -/
abbrev len (v1 : Elt Ideal .i32) : Int := BitVec.toInt (n := 32) v1

/-! ## Scores -/

theorem masked_score (k : Fin 8) (l : Fin 256) :
    k0_pay22 (F := Ideal) v1 (k0_pay17 x3) (base k.val)
        (k0_pay6 (k0_pay16 x2) (codes x6 0 k) (scales x7 0 k) (codes x6 1 k) (scales x7 1 k) (codes x6 2 k) (scales x7 2 k))
        (k0_pay7 (k0_pay16 x2) (codes x6 3 k)) (scales x7 3 k) (rope x8 k) (ix2 h l)
      = Attn.score (qX x2 h) (qR x3 h) (kC x6) (kS x7) (kR x8) (len v1) (Attn.pos k l) := by
  rw [masked_at, threeDots_at, lastDot_at, base_at, Attn.select_vis _ (Attn.pos k l).isLt]
  simp only [query_at, queryRope_at, codes_at, scales_at, rope_at]
  rfl

theorem scores_at (k : Fin 8) (l : Fin 256) : scoresOf v1 x2 x3 x6 x7 x8 k (ix2 h l)
    = Attn.score (qX x2 h) (qR x3 h) (kC x6) (kS x7) (kR x8) (len v1) (Attn.pos k l) := by
  rw [scoresOf, score, stored_eq, masked_score]

theorem newScore_eq : k0_pay21 (F := Ideal) (k0_pay18 x2 x4) (k0_pay19 x3) (k0_pay20 x5) (ix2 h 0)
    = Attn.scoreNew (qX x2 h) (qR x3 h) (nX x4) (nR x5) := by
  rw [newScore_at]
  simp only [newDot_at, queryRopeWide_at, newRope_at]
  rfl

/-! ## Maximum, exponentials, their sum -/

variable (hn : len v1 ≤ 2048)

theorem beyond {n : Int} {p : Fin 2048} (hp : 256 * Words.nblk n ≤ p.val) : n ≤ p.val := by
  unfold Words.nblk at hp
  omega

include hn

theorem top_at : topOf v1 x2 x3 x4 x5 x6 x7 x8 (ix2 h 0)
    = Attn.top (qX x2 h) (qR x3 h) (nX x4) (nR x5) (kC x6) (kS x7) (kR x8) (len v1) := by
  have e := Attn.max_chunks (Attn.score (qX x2 h) (qR x3 h) (kC x6) (kS x7) (kR x8) (len v1))
    (fun k => runMax v1 (k0_pay16 x2) (k0_pay17 x3) x6 x7 x8 (k0_pay21 (k0_pay18 x2 x4) (k0_pay19 x3) (k0_pay20 x5)) k (ix2 h 0))
    (fun k hk => by
      simp only [runMax_succ _ _ _ _ _ _ _ hk, maxStep]
      rw [maxStep_at]
      simp only [masked_score _ _ _ _ _ _ _ (⟨k, hk⟩ : Fin 8)])
    (Words.nblk (len v1)) (Words.nblk_le hn)
    (fun p hp => if_neg (by have := beyond hp; omega))
  refine e.trans ?_
  simp only [runMax, newScore_eq]
  rfl

theorem exp_at (k : Fin 8) (l : Fin 256) : expsOf v1 x2 x3 x4 x5 x6 x7 x8 k (ix2 h l)
    = Attn.ex (qX x2 h) (qR x3 h) (nX x4) (nR x5) (kC x6) (kS x7) (kR x8) (len v1) (Attn.pos k l) := by
  rw [expsOf, exps_at, scores_at, top_at _ _ _ _ _ _ _ _ _ hn]
  rfl

theorem newExp_eq : k0_pay28 (F := Ideal) (k0_pay18 x2 x4) (k0_pay19 x3) (k0_pay20 x5) (topOf v1 x2 x3 x4 x5 x6 x7 x8) (ix2 h 0)
    = Attn.exNew (qX x2 h) (qR x3 h) (nX x4) (nR x5) (kC x6) (kS x7) (kR x8) (len v1) := by
  rw [newExp_at, newScore_eq, top_at _ _ _ _ _ _ _ _ _ hn]
  rfl

theorem sum_at : sumOf v1 x2 x3 x4 x5 x6 x7 x8 (ix2 h 0)
    = ∑ p, Attn.ex (qX x2 h) (qR x3 h) (nX x4) (nR x5) (kC x6) (kS x7) (kR x8) (len v1) p := by
  have e := Attn.sum_chunks (Attn.ex (qX x2 h) (qR x3 h) (nX x4) (nR x5) (kC x6) (kS x7) (kR x8) (len v1))
    (fun k => runSum (topOf v1 x2 x3 x4 x5 x6 x7 x8) (scoresOf v1 x2 x3 x6 x7 x8) (k0_pay29 (F := Ideal)) k (ix2 h 0))
    (fun k hk => by
      simp only [runSum_succ _ _ _ hk]
      rw [sumStep_at]
      simp only [scores_at, top_at _ _ _ _ _ _ _ _ _ hn]
      rfl)
    (Words.nblk (len v1)) (Words.nblk_le hn)
    (fun p hp => Attn.ex_zero _ _ _ _ _ _ _ _ _ (beyond hp))
  refine e.trans ?_
  simp only [runSum, zero_at]
  exact zero_add _

theorem inv_eq : invOf v1 x2 x3 x4 x5 x6 x7 x8 (ix2 h 0)
    = Attn.inv (qX x2 h) (qR x3 h) (nX x4) (nR x5) (kC x6) (kS x7) (kR x8) (len v1) := by
  rw [invOf, inv_at, newExp_eq _ _ _ _ _ _ _ _ _ hn, sum_at _ _ _ _ _ _ _ _ _ hn]
  rfl

/-! ## The output -/

theorem newOf_at (c : Fin 512) : newOf v1 x2 x3 x4 x5 x6 x7 x8 (ix2 h c)
    = Attn.exNew (qX x2 h) (qR x3 h) (nX x4) (nR x5) (kC x6) (kS x7) (kR x8) (len v1)
      * Attn.inv (qX x2 h) (qR x3 h) (nX x4) (nR x5) (kC x6) (kS x7) (kR x8) (len v1) * nX x4 c := by
  rw [newOf, new_at, newExp_eq _ _ _ _ _ _ _ _ _ hn]
  exact congrArg (fun z => _ * z * _) (inv_eq v1 x2 x3 x4 x5 x6 x7 x8 h hn)

omit hn in
/-- One step of a column group. -/
theorem step_at (v63 : FVec Ideal S32x1 .f32) (E : Fin 8 → FVec Ideal S32x256 .f32) (g : Fin 4) (a : Vec Ideal S32x128 .f32) (k : Fin 8)
    (c : Fin 128) : colsStep v63 E x6 x7 g a k (ix2 h c)
      = a (ix2 h c) + ∑ l, E k (ix2 h l) * v63 (ix2 h 0) * kS x7 g (Attn.pos k l) * kC x6 (Attn.pos k l) (Attn.col g c) := by
  fin_cases g <;> simp only [colsStep, cols0_at, cols1_at, cols2_at, cols3_at, prob_at, codes_at, scales_at] <;> rfl

theorem cols_at (g : Fin 4) (c : Fin 128) :
    runCols (invOf v1 x2 x3 x4 x5 x6 x7 x8) (expsOf v1 x2 x3 x4 x5 x6 x7 x8) x6 x7 (newOf v1 x2 x3 x4 x5 x6 x7 x8) g (Words.nblk (len v1)) (ix2 h c)
      = Attn.out (qX x2 h) (qR x3 h) (nX x4) (nR x5) (kC x6) (kS x7) (kR x8) (len v1) g (Attn.col g c) := by
  have e := Attn.sum_chunks
    (fun p => Attn.ex (qX x2 h) (qR x3 h) (nX x4) (nR x5) (kC x6) (kS x7) (kR x8) (len v1) p
      * Attn.inv (qX x2 h) (qR x3 h) (nX x4) (nR x5) (kC x6) (kS x7) (kR x8) (len v1) * kS x7 g p * kC x6 p (Attn.col g c))
    (fun k => runCols (invOf v1 x2 x3 x4 x5 x6 x7 x8) (expsOf v1 x2 x3 x4 x5 x6 x7 x8) x6 x7 (newOf v1 x2 x3 x4 x5 x6 x7 x8) g k (ix2 h c))
    (fun k hk => by
      simp only [runCols_succ _ _ _ _ _ g hk, step_at, exp_at _ _ _ _ _ _ _ _ _ hn, inv_eq _ _ _ _ _ _ _ _ _ hn])
    (Words.nblk (len v1)) (Words.nblk_le hn)
    (fun p hp => by
      simp only [Attn.ex_zero _ _ _ _ _ _ _ _ _ (beyond hp), zero_mul])
  refine e.trans ?_
  simp only [runCols, outCols_at, newOf_at _ _ _ _ _ _ _ _ _ hn]
  rfl

/-- The block at head `h` and channel `c`. -/
theorem block_at (c : Fin 512) : blockOf v1 x2 x3 x4 x5 x6 x7 x8 (ix3 0 h c)
    = Attn.out (qX x2 h) (qR x3 h) (nX x4) (nR x5) (kC x6) (kS x7) (kR x8) (len v1) (Attn.groupOf c) c := by
  have hc : Attn.col (Attn.groupOf c) ⟨c.val % 128, Nat.mod_lt _ (by decide)⟩ = c :=
    Fin.ext (by simp only [Attn.col, Attn.groupOf]; omega)
  have e := cols_at v1 x2 x3 x4 x5 x6 x7 x8 h hn (Attn.groupOf c) ⟨c.val % 128, Nat.mod_lt _ (by decide)⟩
  rw [hc] at e
  rw [blockOf, narrowed_at, ← e]
  refine congrArg (runCols _ _ x6 x7 _ (Attn.groupOf c) _) (funext fun a => ?_)
  fin_cases a <;> rfl

end Cert.KernelIdeal.Own

end
-- ==== Proof.KernelIdeal.Trips.lean ====
/-
  One trip of each of the kernel's loops, and each loop, as a step of what the scratch buffers hold.
-/
module

public import proofs.«01_k».proof.Proof.KernelIdeal.Spec
public import Idealize.ShloMosaic.Lib.Pipeline.Kit
public import Idealize.ShloMosaic.Lib.WritesUnit
public import Idealize.ShloMosaic.Lib.VecWindow
public import Idealize.ShloMosaic.Lib.Exec
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem readAt_unit_eq {sp : Space} {s : Shape} {e : EltTy} (v : View sig .tc sp s e) (f : v.ty.Contents (Elt F)) {off off' size : Fin s.rank → ℕ}
    (inb : ∀ a, off a + size a ≤ s.size a) (h : off = off') (inb' : ∀ a, off' a + size a ≤ s.size a) :
    v.readAt (Elt F) (Rect.unit off size inb).toLoadRect f = View.ld (v.read (Elt F) f) (Rect.unit off' size inb') := by
  subst h; rfl

theorem codes_read (v : View sig .tc .vmem S1x2048x512 .fp8e4m3) (f : v.ty.Contents (Elt F)) (g : Fin 4) (k : Fin 8) {off : Fin S1x2048x512.rank → ℕ}
    (inb : ∀ a, off a + S1x256x128.size a ≤ S1x2048x512.size a) (h : off = ![0, 256 * k.val, 128 * g.val]) :
    v.readAt (Elt F) (Rect.unit (s := S1x2048x512) off S1x256x128.size inb).toLoadRect f = codes (v.read (Elt F) f) g k := by
  subst h; rfl

theorem scales_read (v : View sig .tc .vmem S1x4x2048 .f32) (f : v.ty.Contents (Elt F)) (g : Fin 4) (k : Fin 8) {off : Fin S1x4x2048.rank → ℕ}
    (inb : ∀ a, off a + S1x1x256.size a ≤ S1x4x2048.size a) (h : off = ![0, g.val, 256 * k.val]) :
    v.readAt (Elt F) (Rect.unit (s := S1x4x2048) off S1x1x256.size inb).toLoadRect f = scales (v.read (Elt F) f) g k := by
  subst h; rfl

theorem rope_read (v : View sig .tc .vmem S1x64x2048 .bf16) (f : v.ty.Contents (Elt F)) (k : Fin 8) {off : Fin S1x64x2048.rank → ℕ}
    (inb : ∀ a, off a + S1x64x256.size a ≤ S1x64x2048.size a) (h : off = ![0, 0, 256 * k.val]) :
    v.readAt (Elt F) (Rect.unit (s := S1x64x2048) off S1x64x256.size inb).toLoadRect f = rope (v.read (Elt F) f) k := by
  subst h; rfl

theorem scoreBlk_read (v : View sig .tc .vmem S32x2048 .f32) (f : v.ty.Contents (Elt F)) (k : Fin 8) {off : Fin S32x2048.rank → ℕ}
    (inb : ∀ a, off a + S32x256.size a ≤ S32x2048.size a) (h : off = ![0, 256 * k.val]) :
    v.readAt (Elt F) (Rect.unit (s := S32x2048) off S32x256.size inb).toLoadRect f = scoreBlk (v.read (Elt F) f) k := by
  subst h; rfl

theorem outCols_write (v : View sig .tc .vmem S32x512 .f32) (f : v.ty.Contents (Elt F)) (w0 w1 w2 w3 : Vec F S32x128 .f32) (g : Fin 4) :
    outCols (v.read (Elt F) (v.writes (Elt F) f
      [⟨Rect.unit (s := S32x512) ![0, 384] S32x128.size inb_S32x512_S32x128_0_384, w3⟩, ⟨Rect.unit (s := S32x512) ![0, 256] S32x128.size inb_S32x512_S32x128_0_256, w2⟩,
       ⟨Rect.unit (s := S32x512) ![0, 128] S32x128.size inb_S32x512_S32x128_0_128, w1⟩, ⟨Rect.unit (s := S32x512) ![0, 0] S32x128.size inb_S32x512_S32x128_0_0, w0⟩])) g
      = (match g with | 0 => w0 | 1 => w1 | 2 => w2 | 3 => w3) := by
  funext x
  have hx0 : (x 0).val < 32 := (x 0).isLt
  have hx1 : (x 1).val < 128 := (x 1).isLt
  have hit : ∀ (o : ℕ) (inb : ∀ a, (![0, o] : Fin 2 → ℕ) a + S32x128.size a ≤ S32x512.size a) (w : Vec F S32x128 .f32) (L : List (View.Piece (Elt F) S32x512 .f32)) (g : Fin 4),
      o = 128 * g.val → v.read (Elt F) (v.writes (Elt F) f (⟨Rect.unit (s := S32x512) ![0, o] S32x128.size inb, w⟩ :: L)) ((r11 g).idx x) = w x := by
    intro o inb w L g ho
    refine View.read_writes_cons_unit_of_mem v f inb w L _ x rfl ?_
    intro a; fin_cases a
    · show 0 + 1 * (x 0).val = 0 + (x 0).val; omega
    · show 128 * g.val + 1 * (x 1).val = o + (x 1).val; omega
  have miss : ∀ (o : ℕ) (inb : ∀ a, (![0, o] : Fin 2 → ℕ) a + S32x128.size a ≤ S32x512.size a) (w : Vec F S32x128 .f32) (L : List (View.Piece (Elt F) S32x512 .f32)) (g : Fin 4),
      128 * g.val + 128 ≤ o ∨ o + 128 ≤ 128 * g.val → v.read (Elt F) (v.writes (Elt F) f (⟨Rect.unit (s := S32x512) ![0, o] S32x128.size inb, w⟩ :: L)) ((r11 g).idx x)
        = v.read (Elt F) (v.writes (Elt F) f L) ((r11 g).idx x) := by
    intro o inb w L g ho
    refine View.read_writes_cons_unit_of_not_mem v f inb w L _ rfl (1 : Fin 2) ?_
    show 128 * g.val + 1 * (x 1).val < o ∨ o + 128 ≤ 128 * g.val + 1 * (x 1).val
    omega
  show v.read (Elt F) _ ((r11 g).idx x) = _
  match g with
  | 0 => rw [miss 384 _ _ _ 0 (.inl (by decide)), miss 256 _ _ _ 0 (.inl (by decide)), miss 128 _ _ _ 0 (.inl (by decide)), hit 0 _ _ _ 0 rfl]
  | 1 => rw [miss 384 _ _ _ 1 (.inl (by decide)), miss 256 _ _ _ 1 (.inl (by decide)), hit 128 _ _ _ 1 rfl]
  | 2 => rw [miss 384 _ _ _ 2 (.inl (by decide)), hit 256 _ _ _ 2 rfl]
  | 3 => rw [hit 384 _ _ _ 3 rfl]

/-- Blocks of the scores after one more chunk is written. -/
theorem scoreBlk_write (v : View sig .tc .vmem S32x2048 .f32) (f : v.ty.Contents (Elt F)) (k : Fin 8) {off : Fin 2 → ℕ}
    (inb : ∀ a, off a + S32x256.size a ≤ S32x2048.size a) (h : off = ![0, 256 * k.val]) (w : Vec F S32x256 .f32) (j : Fin 8) :
    scoreBlk (v.read (Elt F) (v.writes (Elt F) f [⟨Rect.unit (s := S32x2048) off S32x256.size inb, w⟩])) j
      = if j = k then w else scoreBlk (v.read (Elt F) f) j := by
  funext x
  have hx0 : (x 0).val < 32 := (x 0).isLt
  have hx1 : (x 1).val < 256 := (x 1).isLt
  by_cases hj : j = k
  · rw [if_pos hj]; subst hj
    refine View.read_writes_cons_unit_of_mem v f inb w [] _ x h ?_
    intro a; fin_cases a
    · show 0 + 1 * (x 0).val = 0 + (x 0).val; omega
    · show 256 * j.val + 1 * (x 1).val = 256 * j.val + (x 1).val; omega
  · rw [if_neg hj]
    refine View.read_writes_cons_unit_of_not_mem v f inb w [] _ h (1 : Fin 2) ?_
    have hne : j.val ≠ k.val := fun e => hj (Fin.ext e)
    show 256 * j.val + 1 * (x 1).val < 256 * k.val ∨ 256 * k.val + 256 ≤ 256 * j.val + 1 * (x 1).val
    omega

variable (i : grid0.Coords)
variable (arg1 : Memref sig .tc .smem S128 .i32) (harg1 : arg1.IsWhole)
  (arg2 : Memref sig .tc .vmem S1x32x512 .bf16) (harg2 : arg2.IsWhole)
  (arg3 : Memref sig .tc .vmem S1x32x64 .bf16) (harg3 : arg3.IsWhole)
  (arg4 : Memref sig .tc .vmem S1x1x512 .bf16) (harg4 : arg4.IsWhole)
  (arg5 : Memref sig .tc .vmem S1x1x64 .bf16) (harg5 : arg5.IsWhole)
  (arg6 : Memref sig .tc .vmem S1x2048x512 .fp8e4m3) (harg6 : arg6.IsWhole)
  (arg7 : Memref sig .tc .vmem S1x4x2048 .f32) (harg7 : arg7.IsWhole)
  (arg8 : Memref sig .tc .vmem S1x64x2048 .bf16) (harg8 : arg8.IsWhole)
  (arg9 : Memref sig .tc .vmem S1x32x512 .bf16) (harg9 : arg9.IsWhole)
  (arg10 : Memref sig .tc .vmem S32x2048 .f32) (harg10 : arg10.IsWhole)
  (arg11 : Memref sig .tc .vmem S32x512 .f32) (harg11 : arg11.IsWhole)
  (v1 : Elt F .i32) (hv : BitVec.toInt v1 ≤ 2048) (hw : k0_chk1 v1) (v20 : BitVec 32) (v22 : FVec F S32x512 .bf16) (v24 : FVec F S32x64 .bf16)
  (v32 : FVec F S32x1 .f32) (v33 : FVec F S32x64 .f32) (v35 : FVec F S1x64 .bf16)
  (X6 : arg6.view.ty.Contents (Elt F)) (X7 : arg7.view.ty.Contents (Elt F)) (X8 : arg8.view.ty.Contents (Elt F)) (init : FVec F S32x1 .f32)

/-- Before chunk `k` of the score loop. -/
def inv1 (c : Dev nD) (k : ℕ) (acc : FVec F S32x1 .f32) : sProp 𝕄 :=
  iprop((arg6.view.loc (c : Thread nD τ) ↦[arg6.view.set]{fullShare} X6) ∗ (arg7.view.loc (c : Thread nD τ) ↦[arg7.view.set]{fullShare} X7)
    ∗ (arg8.view.loc (c : Thread nD τ) ↦[arg8.view.set]{fullShare} X8)
    ∗ (∃ f, (arg10.view.loc (c : Thread nD τ) ↦[arg10.view.set]{fullShare} f)
        ∗ ⌜acc = runMax v1 v22 v24 (arg6.view.read (Elt F) X6) (arg7.view.read (Elt F) X7) (arg8.view.read (Elt F) X8) init k
            ∧ ∀ j : Fin 8, j.val < k → scoreBlk (arg10.view.read (Elt F) f) j
                = score v1 v22 v24 (arg6.view.read (Elt F) X6) (arg7.view.read (Elt F) X7) (arg8.view.read (Elt F) X8) j⌝))

include hv in
set_option maxHeartbeats 2000000 in
theorem trip1 (c : Dev nD) (E : Set ℕ) (k : Fin (k0_t1_loop v1).trips) (acc : FVec F S32x1 .f32) :
    inv1 arg6 arg7 arg8 arg10 v1 v22 v24 X6 X7 X8 init c k.val acc
      ⊢ wp frame (wpE (defs₀ (F := F)) Variants.none (c : Thread nD τ) none) E
          (k0_t1_body i arg1 harg1 arg2 harg2 arg3 harg3 arg4 harg4 arg5 harg5 arg6 harg6 arg7 harg7 arg8 harg8 arg9 harg9 arg10 harg10 arg11 harg11 v1 hw v20 v22 v24 v32 v33 v35 k acc)
          (fun y => inv1 arg6 arg7 arg8 arg10 v1 v22 v24 X6 X7 X8 init c (k.val + 1) y) := by
  unfold inv1 k0_t1_body
  iintro ⟨H6, H7, H8, ⟨%f, H10, %hf⟩⟩
  obtain ⟨hacc, hblk⟩ := hf
  sl_exec
  sl_step
  have hk8 := t1_lt hv k
  have c0 := codes_read arg6.view X6 0 ⟨k.val, hk8⟩ (k0_off2_inb v1 hw k) (off2_at hv k)
  have c1 := codes_read arg6.view X6 1 ⟨k.val, hk8⟩ (k0_off4_inb v1 hw k) (off4_at hv k)
  have c2 := codes_read arg6.view X6 2 ⟨k.val, hk8⟩ (k0_off6_inb v1 hw k) (off6_at hv k)
  have c3 := codes_read arg6.view X6 3 ⟨k.val, hk8⟩ (k0_off8_inb v1 hw k) (off8_at hv k)
  have s0 := scales_read arg7.view X7 0 ⟨k.val, hk8⟩ (k0_off3_inb v1 hw k) (off3_at hv k)
  have s1 := scales_read arg7.view X7 1 ⟨k.val, hk8⟩ (k0_off5_inb v1 hw k) (off5_at hv k)
  have s2 := scales_read arg7.view X7 2 ⟨k.val, hk8⟩ (k0_off7_inb v1 hw k) (off7_at hv k)
  have s3 := scales_read arg7.view X7 3 ⟨k.val, hk8⟩ (k0_off9_inb v1 hw k) (off9_at hv k)
  have q0 := rope_read arg8.view X8  ⟨k.val, hk8⟩ (k0_off10_inb v1 hw k) (off10_at hv k)
  isplitl [H6]; · iexact H6
  isplitl [H7]; · iexact H7
  isplitl [H8]; · iexact H8
  iexists _; isplitl [H10]; · iexact H10
  ipureintro
  refine ⟨?_, ?_⟩
  · rw [runMax_succ _ _ _ _ _ _ _ hk8, ← hacc]
    unfold trip1.sl.v88 trip1.sl.r trip1.sl.r_1
    rw [c0, c1, c2, c3, s0, s1, s2, s3, q0]; rfl
  · intro j hj
    refine (scoreBlk_write arg10.view f ⟨k.val, hk8⟩ (k0_off11_inb v1 hw k) (off11_at hv k) _ j).trans ?_
    by_cases h : j = ⟨k.val, hk8⟩
    · rw [if_pos h]
      subst h
      unfold trip1.sl.v88 trip1.sl.r trip1.sl.r_1
      rw [c0, c1, c2, c3, s0, s1, s2, s3, q0]; rfl
    · rw [if_neg h]
      exact hblk j (by have : j.val ≠ k.val := fun e => h (Fin.ext e); omega)

variable (v50 : FVec F S32x1 .f32) (S : Fin 8 → FVec F S32x256 .f32)

/-- Before chunk `k` of the loop of exponentials: the chunks before it hold exponentials, the others scores. -/
def inv3 (c : Dev nD) (n k : ℕ) (acc : FVec F S32x1 .f32) : sProp 𝕄 :=
  iprop(∃ f, (arg10.view.loc (c : Thread nD τ) ↦[arg10.view.set]{fullShare} f)
        ∗ ⌜acc = runSum v50 S init k
            ∧ (∀ j : Fin 8, j.val < k → scoreBlk (arg10.view.read (Elt F) f) j = k0_pay31 v50 (S j))
            ∧ ∀ j : Fin 8, k ≤ j.val → j.val < n → scoreBlk (arg10.view.read (Elt F) f) j = S j⌝)

include hv in
set_option maxHeartbeats 2000000 in
theorem trip3 (c : Dev nD) (E : Set ℕ) (k : Fin (k0_t3_loop v1).trips) (acc : FVec F S32x1 .f32) :
    inv3 arg10 init v50 S c (Words.nblk (BitVec.toInt v1)) k.val acc
      ⊢ wp frame (wpE (defs₀ (F := F)) Variants.none (c : Thread nD τ) none) E
          (k0_t3_body i arg1 harg1 arg2 harg2 arg3 harg3 arg4 harg4 arg5 harg5 arg6 harg6 arg7 harg7 arg8 harg8 arg9 harg9 arg10 harg10 arg11 harg11 v1 hw v20 v22 v24 v32 v33 v35 v50 k acc)
          (fun y => inv3 arg10 init v50 S c (Words.nblk (BitVec.toInt v1)) (k.val + 1) y) := by
  unfold inv3 k0_t3_body
  iintro ⟨%f, H10, %hf⟩
  obtain ⟨hacc, hlo, hhi⟩ := hf
  sl_exec
  sl_step
  have hk8 := t3_lt hv k
  have hkn : k.val < Words.nblk (BitVec.toInt v1) := lt_of_lt_of_eq k.isLt (t3_trips hv)
  have b := scoreBlk_read arg10.view f ⟨k.val, hk8⟩ (k0_off22_inb v1 hw k) (off22_at hv k)
  rw [hhi ⟨k.val, hk8⟩ (le_refl _) hkn] at b
  iexists _; isplitl [H10]; · iexact H10
  ipureintro
  refine ⟨?_, ?_, ?_⟩
  · rw [runSum_succ _ _ _ hk8, ← hacc, b]
  · intro j hj
    refine (scoreBlk_write arg10.view f ⟨k.val, hk8⟩ (k0_off22_inb v1 hw k) (off22_at hv k) _ j).trans ?_
    by_cases h : j = ⟨k.val, hk8⟩
    · rw [if_pos h, h, b]
    · rw [if_neg h]
      exact hlo j (by have : j.val ≠ k.val := fun e => h (Fin.ext e); omega)
  · intro j hj hjn
    refine (scoreBlk_write arg10.view f ⟨k.val, hk8⟩ (k0_off22_inb v1 hw k) (off22_at hv k) _ j).trans ?_
    rw [if_neg (fun e => by rw [e] at hj; exact absurd hj (by show ¬ (k.val + 1 ≤ k.val); omega))]
    exact hhi j (by omega) hjn

variable (v63 : FVec F S32x1 .f32) (Ex : Fin 8 → FVec F S32x256 .f32) (X10 : arg10.view.ty.Contents (Elt F)) (out : Vec F S32x512 .f32)
  (c0 : BitVec 32)

/-- Before chunk `k` of the output loop. -/
def inv5 (c : Dev nD) (k : ℕ) (acc : BitVec 32) : sProp 𝕄 :=
  iprop((arg6.view.loc (c : Thread nD τ) ↦[arg6.view.set]{fullShare} X6) ∗ (arg7.view.loc (c : Thread nD τ) ↦[arg7.view.set]{fullShare} X7)
    ∗ (arg10.view.loc (c : Thread nD τ) ↦[arg10.view.set]{fullShare} X10)
    ∗ (∃ f, (arg11.view.loc (c : Thread nD τ) ↦[arg11.view.set]{fullShare} f)
        ∗ ⌜∀ g : Fin 4, outCols (arg11.view.read (Elt F) f) g
            = runCols v63 Ex (arg6.view.read (Elt F) X6) (arg7.view.read (Elt F) X7) out g k⌝))

include hv in
set_option maxHeartbeats 2000000 in
theorem trip5 (c : Dev nD) (E : Set ℕ)
    (hE : ∀ j : Fin 8, j.val < Words.nblk (BitVec.toInt v1) → scoreBlk (arg10.view.read (Elt F) X10) j = Ex j)
    (k : Fin (k0_t5_loop v1).trips) (acc : BitVec 32) :
    inv5 arg6 arg7 arg10 arg11 X6 X7 v63 Ex X10 out c k.val acc
      ⊢ wp frame (wpE (defs₀ (F := F)) Variants.none (c : Thread nD τ) none) E
          (k0_t5_body i arg1 harg1 arg2 harg2 arg3 harg3 arg4 harg4 arg5 harg5 arg6 harg6 arg7 harg7 arg8 harg8 arg9 harg9 arg10 harg10 arg11 harg11 v1 hw v63 c0 k acc)
          (fun y => inv5 arg6 arg7 arg10 arg11 X6 X7 v63 Ex X10 out c (k.val + 1) y) := by
  unfold inv5 k0_t5_body
  iintro ⟨H6, H7, H10, ⟨%f, H11, %hf⟩⟩
  sl_exec
  sl_step
  have hk8 := t5_lt hv k
  have hkn : k.val < Words.nblk (BitVec.toInt v1) := lt_of_lt_of_eq k.isLt (t5_trips hv)
  isplitl [H6]; · iexact H6
  isplitl [H7]; · iexact H7
  isplitl [H10]; · iexact H10
  iexists _; isplitl [H11]; · iexact H11
  ipureintro
  have e0 := codes_read arg6.view X6 0 ⟨k.val, hk8⟩ (k0_off26_inb v1 hw k) (off26_at hv k)
  have e1 := codes_read arg6.view X6 1 ⟨k.val, hk8⟩ (k0_off28_inb v1 hw k) (off28_at hv k)
  have e2 := codes_read arg6.view X6 2 ⟨k.val, hk8⟩ (k0_off30_inb v1 hw k) (off30_at hv k)
  have e3 := codes_read arg6.view X6 3 ⟨k.val, hk8⟩ (k0_off32_inb v1 hw k) (off32_at hv k)
  have s0 := scales_read arg7.view X7 0 ⟨k.val, hk8⟩ (k0_off25_inb v1 hw k) (off25_at hv k)
  have s1 := scales_read arg7.view X7 1 ⟨k.val, hk8⟩ (k0_off27_inb v1 hw k) (off27_at hv k)
  have s2 := scales_read arg7.view X7 2 ⟨k.val, hk8⟩ (k0_off29_inb v1 hw k) (off29_at hv k)
  have s3 := scales_read arg7.view X7 3 ⟨k.val, hk8⟩ (k0_off31_inb v1 hw k) (off31_at hv k)
  have b := scoreBlk_read arg10.view X10 ⟨k.val, hk8⟩ (k0_off24_inb v1 hw k) (off24_at hv k)
  rw [hE ⟨k.val, hk8⟩ hkn] at b
  intro g
  refine (outCols_write arg11.view f _ _ _ _ g).trans ?_
  rw [runCols_succ _ _ _ _ _ g hk8, ← hf g]
  unfold trip5.sl.r
  rw [e0, e1, e2, e3, s0, s1, s2, s3, b]
  match g with
  | 0 => rfl
  | 1 => rfl
  | 2 => rfl
  | 3 => rfl

end Cert.KernelIdeal.Own

end
-- ==== Proof.KernelIdeal.Body.lean ====
/-
  The kernel body at one grid point, on whole buffers: from a table whose words are at most 2048 it runs to the end, leaves
  its inputs as they were and some contents in its output and in its two scratch buffers.
-/
module

public import proofs.«01_k».proof.Proof.KernelIdeal.Trips
public import Idealize.ShloMosaic.Lib.LoopRemainder
public import Idealize.ShloMosaic.Lib.Pipeline.FrameBody
public import Idealize.ShloMosaic.Lib.Ring
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The four column groups together are the whole output. -/
theorem wholeCols_of (v63 : FVec F S32x1 .f32) (E : Fin 8 → FVec F S32x256 .f32) (x6 : Vec F S1x2048x512 .fp8e4m3)
    (x7 : Vec F S1x4x2048 .f32) (init X : Vec F S32x512 .f32) (n : ℕ) (h : ∀ g, outCols X g = runCols v63 E x6 x7 init g n) :
    X = wholeCols v63 E x6 x7 init n := by
  funext i
  unfold wholeCols
  rw [← h]
  unfold outCols
  refine congrArg X ?_
  funext a
  have hi : (i 1).val < 512 := (i 1).isLt
  fin_cases a
  · apply Fin.ext; show (i 0).val = 0 + 1 * (i 0).val; omega
  · apply Fin.ext; show (i 1).val = 128 * ((i 1).val / 128) + 1 * ((i 1).val % 128); omega

set_option maxHeartbeats 4000000 in
theorem sound_kernel (c : Dev nD) (E : Set ℕ) (i : grid0.Coords) (arg1 : Memref sig .tc .smem S128 .i32) (harg1 : arg1.IsWhole) (arg2 : Memref sig .tc .vmem S1x32x512 .bf16) (harg2 : arg2.IsWhole) (arg3 : Memref sig .tc .vmem S1x32x64 .bf16) (harg3 : arg3.IsWhole) (arg4 : Memref sig .tc .vmem S1x1x512 .bf16) (harg4 : arg4.IsWhole) (arg5 : Memref sig .tc .vmem S1x1x64 .bf16) (harg5 : arg5.IsWhole) (arg6 : Memref sig .tc .vmem S1x2048x512 .fp8e4m3) (harg6 : arg6.IsWhole) (arg7 : Memref sig .tc .vmem S1x4x2048 .f32) (harg7 : arg7.IsWhole) (arg8 : Memref sig .tc .vmem S1x64x2048 .bf16) (harg8 : arg8.IsWhole) (arg9 : Memref sig .tc .vmem S1x32x512 .bf16) (harg9 : arg9.IsWhole) (arg10 : Memref sig .tc .vmem S32x2048 .f32) (harg10 : arg10.IsWhole) (arg11 : Memref sig .tc .vmem S32x512 .f32) (harg11 : arg11.IsWhole)
    (q : PosShare TreeShare) (T : BufTy.Contents (Elt F) arg1.view.ty)
    (w : BitVec 32) (hw2 : w.toInt ≤ 2048)
    (hT : ∀ x, View.readAt (Elt F) arg1.view (Rect.unit (s := S128) (k0_off1 i) S1.size (k0_off1_inb i)).toLoadRect T x = w)
    (x2 : Vec F S1x32x512 .bf16) (x3 : Vec F S1x32x64 .bf16) (x4 : Vec F S1x1x512 .bf16) (x5 : Vec F S1x1x64 .bf16)
    (x6 : Vec F S1x2048x512 .fp8e4m3) (x7 : Vec F S1x4x2048 .f32) (x8 : Vec F S1x64x2048 .bf16) (K : PUnit → sProp 𝕄) :
    iprop((arg1.view.loc (c : Thread nD τ) ↦[arg1.view.set]{q} T)
        ∗ owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8
        ∗ (∃ d, owns (c : Thread nD τ) arg9 fullShare d) ∗ (∃ d, owns (c : Thread nD τ) arg10 fullShare d) ∗ (∃ d, owns (c : Thread nD τ) arg11 fullShare d)
        ∗ (iprop((arg1.view.loc (c : Thread nD τ) ↦[arg1.view.set]{q} T)
            ∗ owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare x8
            ∗ owns (c : Thread nD τ) arg9 fullShare (blockOf w x2 x3 x4 x5 x6 x7 x8) ∗ (∃ d, owns (c : Thread nD τ) arg10 fullShare d) ∗ (∃ d, owns (c : Thread nD τ) arg11 fullShare d)) -∗ K ⟨⟩))
      ⊢ wp frame (wpE (defs₀ (F := F)) Variants.none c none) E (cc0_mla_decode i arg1 harg1 arg2 harg2 arg3 harg3 arg4 harg4 arg5 harg5 arg6 harg6 arg7 harg7 arg8 harg8 arg9 harg9 arg10 harg10 arg11 harg11) K := by
  simp only [cc0_mla_decode_eq_skeleton]; unfold cc0_mla_decode_skel
  unfold owns
  iintro ⟨H1, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf2 hf3 hf4 hf5 hf6 hf7 hf8
  have hT2 : ∀ x, (View.readAt (Elt F) arg1.view (Rect.unit (s := S128) (k0_off1 i) S1.size (k0_off1_inb i)).toLoadRect T x).toInt ≤ 2048 :=
    fun x => by rw [hT x]; exact hw2
  sl_exec (disch := exact k0_chk1_of (hT2 _))
  have hr : sound_kernel.sl.r i arg1 T = w := hT _
  have hv : (sound_kernel.sl.r i arg1 T).toInt ≤ 2048 := by rw [hr]; exact hw2
  sl_for (inv1 arg6 arg7 arg8 arg10 (sound_kernel.sl.r i arg1 T) (sound_kernel.sl.r_1 c arg2 f2) (sound_kernel.sl.r_2 c arg3 f3) f6 f7 f8
    (k0_pay21 (sound_kernel.sl.r_3 c arg2 arg4 f2 f4) (sound_kernel.sl.r_4 c arg3 f3) (sound_kernel.sl.r_5 c arg5 f5)) c) $$ [H6 H7 H8 H10]
  · intro k acc
    exact trip1 (i := i) (arg1 := arg1) (harg1 := harg1) (arg2 := arg2) (harg2 := harg2) (arg3 := arg3) (harg3 := harg3)
      (arg4 := arg4) (harg4 := harg4) (arg5 := arg5) (harg5 := harg5) (arg6 := arg6) (harg6 := harg6) (arg7 := arg7) (harg7 := harg7)
      (arg8 := arg8) (harg8 := harg8) (arg9 := arg9) (harg9 := harg9) (arg10 := arg10) (harg10 := harg10) (arg11 := arg11) (harg11 := harg11)
      (v1 := sound_kernel.sl.r i arg1 T) (hv := hv) (hw := k0_chk1_of (hT2 _)) (v20 := _) (v22 := sound_kernel.sl.r_1 c arg2 f2)
      (v24 := sound_kernel.sl.r_2 c arg3 f3) (v32 := sound_kernel.sl.r_3 c arg2 arg4 f2 f4) (v33 := sound_kernel.sl.r_4 c arg3 f3)
      (v35 := sound_kernel.sl.r_5 c arg5 f5) (c := c) (E := E) (k := k) (acc := acc) (X6 := f6) (X7 := f7) (X8 := f8)
      (init := k0_pay21 (sound_kernel.sl.r_3 c arg2 arg4 f2 f4) (sound_kernel.sl.r_4 c arg3 f3) (sound_kernel.sl.r_5 c arg5 f5))
  · unfold inv1
    isplitl [H6]; · iexact H6
    isplitl [H7]; · iexact H7
    isplitl [H8]; · iexact H8
    iexists f10; isplitl [H10]; · iexact H10
    ipureintro
    exact ⟨rfl, fun j hj => absurd hj (Nat.not_lt_zero _)⟩
  iintro %v50
  unfold inv1
  iintro ⟨H6, H7, H8, ⟨%g10, H10, %h10⟩⟩
  obtain ⟨h50, hS⟩ := h10
  sl_exec
  have ht1 : Scf.trips _ _ _ = Words.nblk (BitVec.toInt (sound_kernel.sl.r i arg1 T)) := t1_trips hv
  have ht3 : Scf.trips _ _ _ = Words.nblk (BitVec.toInt (sound_kernel.sl.r i arg1 T)) := t3_trips hv
  have ht5 : Scf.trips _ _ _ = Words.nblk (BitVec.toInt (sound_kernel.sl.r i arg1 T)) := t5_trips hv
  rw [ht1] at h50 hS
  sl_for (inv3 arg10 (k0_pay29 (F := F)) v50 (fun j => score (sound_kernel.sl.r i arg1 T) (sound_kernel.sl.r_1 c arg2 f2) (sound_kernel.sl.r_2 c arg3 f3)
    (arg6.view.read (Elt F) f6) (arg7.view.read (Elt F) f7) (arg8.view.read (Elt F) f8) j) c (Words.nblk (BitVec.toInt (sound_kernel.sl.r i arg1 T)))) $$ [H10]
  · intro k acc
    exact trip3 (i := i) (arg1 := arg1) (harg1 := harg1) (arg2 := arg2) (harg2 := harg2) (arg3 := arg3) (harg3 := harg3)
      (arg4 := arg4) (harg4 := harg4) (arg5 := arg5) (harg5 := harg5) (arg6 := arg6) (harg6 := harg6) (arg7 := arg7) (harg7 := harg7)
      (arg8 := arg8) (harg8 := harg8) (arg9 := arg9) (harg9 := harg9) (arg10 := arg10) (harg10 := harg10) (arg11 := arg11) (harg11 := harg11)
      (v1 := sound_kernel.sl.r i arg1 T) (hv := hv) (hw := k0_chk1_of (hT2 _)) (v20 := _) (v22 := sound_kernel.sl.r_1 c arg2 f2)
      (v24 := sound_kernel.sl.r_2 c arg3 f3) (v32 := sound_kernel.sl.r_3 c arg2 arg4 f2 f4) (v33 := sound_kernel.sl.r_4 c arg3 f3)
      (v35 := sound_kernel.sl.r_5 c arg5 f5) (c := c) (E := E) (k := k) (acc := acc) (v50 := v50)
      (init := k0_pay29) (S := fun j => score (sound_kernel.sl.r i arg1 T) (sound_kernel.sl.r_1 c arg2 f2) (sound_kernel.sl.r_2 c arg3 f3)
    (arg6.view.read (Elt F) f6) (arg7.view.read (Elt F) f7) (arg8.view.read (Elt F) f8) j)
  · unfold inv3
    iexists g10; isplitl [H10]; · iexact H10
    ipureintro
    exact ⟨rfl, fun j hj => absurd hj (Nat.not_lt_zero _), fun j _ hj => hS j hj⟩
  iintro %v60
  unfold inv3
  iintro ⟨%e10, H10, %h60⟩
  obtain ⟨h60, hE, -⟩ := h60
  rw [ht3] at h60 hE
  sl_exec
  sl_for (inv5 arg6 arg7 arg10 arg11 f6 f7 (sound_kernel.sl.r_6 c arg2 arg3 arg4 arg5 f2 f3 f4 f5 v50 v60)
    (fun j => k0_pay31 v50 (score (sound_kernel.sl.r i arg1 T) (sound_kernel.sl.r_1 c arg2 f2) (sound_kernel.sl.r_2 c arg3 f3)
      (arg6.view.read (Elt F) f6) (arg7.view.read (Elt F) f7) (arg8.view.read (Elt F) f8) j)) e10
    (k0_pay37 (sound_kernel.sl.r_3 c arg2 arg4 f2 f4) (sound_kernel.sl.r_4 c arg3 f3) (sound_kernel.sl.r_5 c arg5 f5) v50 v60
      (arg4.view.read (Elt F) f4)) c) $$ [H6 H7 H10 H11]
  · intro k acc
    exact trip5 (i := i) (arg1 := arg1) (harg1 := harg1) (arg2 := arg2) (harg2 := harg2) (arg3 := arg3) (harg3 := harg3)
      (arg4 := arg4) (harg4 := harg4) (arg5 := arg5) (harg5 := harg5) (arg6 := arg6) (harg6 := harg6) (arg7 := arg7) (harg7 := harg7)
      (arg8 := arg8) (harg8 := harg8) (arg9 := arg9) (harg9 := harg9) (arg10 := arg10) (harg10 := harg10) (arg11 := arg11) (harg11 := harg11)
      (v1 := sound_kernel.sl.r i arg1 T) (hv := hv) (hw := k0_chk1_of (hT2 _)) (v63 := sound_kernel.sl.r_6 c arg2 arg3 arg4 arg5 f2 f3 f4 f5 v50 v60)
      (c0 := 0#32) (X6 := f6) (X7 := f7) (X10 := e10)
      (Ex := fun j => k0_pay31 v50 (score (sound_kernel.sl.r i arg1 T) (sound_kernel.sl.r_1 c arg2 f2) (sound_kernel.sl.r_2 c arg3 f3)
        (arg6.view.read (Elt F) f6) (arg7.view.read (Elt F) f7) (arg8.view.read (Elt F) f8) j))
      (out := k0_pay37 (sound_kernel.sl.r_3 c arg2 arg4 f2 f4) (sound_kernel.sl.r_4 c arg3 f3) (sound_kernel.sl.r_5 c arg5 f5) v50 v60
        (arg4.view.read (Elt F) f4)) (hE := hE) (c := c) (E := E) (k := k) (acc := acc)
  · unfold inv5
    isplitl [H6]; · iexact H6
    isplitl [H7]; · iexact H7
    isplitl [H10]; · iexact H10
    iexists _; isplitl [H11]; · iexact H11
    ipureintro
    intro g
    unfold runCols
    exact congrArg (fun X => outCols X g) ((View.read_writes_full ..).trans
      (congrArg (k0_pay37 _ _ _ v50 v60) (View.readAt_full ..)))
  iintro %v81
  unfold inv5
  iintro ⟨H6, H7, H10, ⟨%g11, H11, %h11⟩⟩
  rw [ht5] at h11
  sl_exec
  sl_step
  iapply Hk
  isplitl [H1]; · iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]
  · iexists _; isplitr; swap; · iexact H9
    ipureintro
    have h := wholeCols_of _ _ _ _ _ _ _ h11
    unfold sound_kernel.sl.r_6 at h
    unfold sound_kernel.sl.r_1 sound_kernel.sl.r_2 at h h50 h60
    unfold sound_kernel.sl.r_3 sound_kernel.sl.r_4 sound_kernel.sl.r_5 at h h50
    rw [hr] at h50 h60
    simp only [hr] at h
    refine (View.read_writes_full ..).trans ?_
    rw [View.readAt_full, h, h60, h50]
    rw [View.readAt_full, View.readAt_full, View.readAt_full, View.readAt_full]
    rfl
  isplitl [H10]
  · iexists _; iexists _; isplitr; swap; · iexact H10
    ipureintro; rfl
  iexists _; iexists _; isplitr; swap; · iexact H11
  ipureintro; rfl

end Cert.KernelIdeal.Own

end
-- ==== Proof.KernelIdeal.Frame.lean ====
/-
  The launch of the whole program: the host's reshapes and transposes, then the kernel once per sequence. Every run ends,
  its arguments unchanged, every semaphore at zero, and the result array written block by block with `blockOf`.
-/
module

public import proofs.«01_k».proof.Proof.KernelIdeal.Body
public import proofs.«01_k».proof.Proof.Gen.KernelIdeal.Launch
public import Idealize.ShloMosaic.Lib.Pipeline.FrameSuffix
public import Idealize.ShloMosaic.Lib.Claim
public import Idealize.ShloMosaic.Lib.Ring

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of core `c` when the kernel is launched. -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
/-- What the host writes before the launch. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
theorem V_main_arg0 (c : Dev nD) : V m c main_arg0 = m ((c : Thread nD τ).loc main_arg0) :=
  StableHlo.after_of_writes_sub (r := main_arg0) hostOps0 _ hostOps0_writes (by decide +kernel)
theorem V_main_arg1 (c : Dev nD) : V m c main_arg1 = m ((c : Thread nD τ).loc main_arg1) :=
  StableHlo.after_of_writes_sub (r := main_arg1) hostOps0 _ hostOps0_writes (by decide +kernel)
theorem V_main_arg2 (c : Dev nD) : V m c main_arg2 = m ((c : Thread nD τ).loc main_arg2) :=
  StableHlo.after_of_writes_sub (r := main_arg2) hostOps0 _ hostOps0_writes (by decide +kernel)
theorem V_main_arg3 (c : Dev nD) : V m c main_arg3 = m ((c : Thread nD τ).loc main_arg3) :=
  StableHlo.after_of_writes_sub (r := main_arg3) hostOps0 _ hostOps0_writes (by decide +kernel)
theorem V_main_arg4 (c : Dev nD) : V m c main_arg4 = m ((c : Thread nD τ).loc main_arg4) :=
  StableHlo.after_of_writes_sub (r := main_arg4) hostOps0 _ hostOps0_writes (by decide +kernel)
theorem V_main_arg5 (c : Dev nD) : V m c main_arg5 = m ((c : Thread nD τ).loc main_arg5) :=
  StableHlo.after_of_writes_sub (r := main_arg5) hostOps0 _ hostOps0_writes (by decide +kernel)
theorem V_main_arg6 (c : Dev nD) : V m c main_arg6 = m ((c : Thread nD τ).loc main_arg6) :=
  StableHlo.after_of_writes_sub (r := main_arg6) hostOps0 _ hostOps0_writes (by decide +kernel)
theorem V_main_arg7 (c : Dev nD) : V m c main_arg7 = m ((c : Thread nD τ).loc main_arg7) :=
  StableHlo.after_of_writes_sub (r := main_arg7) hostOps0 _ hostOps0_writes (by decide +kernel)
/-- The table of cache lengths as the kernel finds it. -/
def adm : (pcfg0 (F := F)).Adm := ⟨fun k => V m 0 (pre0.ref k), trivial⟩
/-- The pipeline at that table. -/
abbrev cfgA : Cfg sig Λ₀ := cfg0 (adm m)
/-- The table as one array of words. -/
abbrev tbl : BufTy.Contents (Elt F) (Memref.whole main_arg7).view.ty := (adm m).1 0

/-- The cache length that grid point `t` reads. -/
def word (t : Fin (cfgA m).N) : BitVec 32 :=
  View.readAt (Elt F) (Memref.whole main_arg7).view (Rect.unit (s := S128) (k0_off1 (grid0.coords t)) S1.size (k0_off1_inb (grid0.coords t))).toLoadRect
    (tbl m) (fun a => ⟨0, by fin_cases a; exact Nat.zero_lt_one⟩)

/-- The word is one, whatever the index it is read at. -/
theorem word_eq (t : Fin (cfgA m).N) (x : S1.Idx) :
    View.readAt (Elt F) (Memref.whole main_arg7).view (Rect.unit (s := S128) (k0_off1 (grid0.coords t)) S1.size (k0_off1_inb (grid0.coords t))).toLoadRect
      (tbl m) x = word m t := by
  unfold word
  refine congrArg _ ?_
  funext a
  fin_cases a
  apply Fin.ext
  have h : (x 0).val < 1 := (x 0).isLt
  show (x 0).val = 0
  omega

/-- Every cache length is at most the cache's size. -/
def Fits : Prop := ∀ t : Fin (cfgA m).N, (word m t).toInt ≤ 2048

/-- The block of window `w` at grid point `t`. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- The output block at grid point `t`. -/
def outBlk (c : Dev nD) (t : Fin (cfgA m).N) : Vec F S1x32x512 .bf16 :=
  blockOf (word m t) (iblk m c 0 t) (iblk m c 1 t) (iblk m c 2 t) (iblk m c 3 t) (iblk m c 4 t) (iblk m c 5 t) (iblk m c 6 t)
theorem before0_0_of {c : Dev nD} (dat : Dat τ (Elt F) Unit ℕ (UR sig nD τ) ℕ (cfgA m) c) (hA : dat.A 0 = V m c (Pipeline.arrRef spec0 0))
    (hafter : ∀ t, dat.after 0 t = iblk m c 0 t) (t : Fin (cfgA m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgA m) c) (hA : dat.A 1 = V m c (Pipeline.arrRef spec0 1))
    (hafter : ∀ t, dat.after 1 t = iblk m c 1 t) (t : Fin (cfgA m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgA m) c) (hA : dat.A 2 = V m c (Pipeline.arrRef spec0 2))
    (hafter : ∀ t, dat.after 2 t = iblk m c 2 t) (t : Fin (cfgA m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfgA m) c) (hA : dat.A 3 = V m c (Pipeline.arrRef spec0 3))
    (hafter : ∀ t, dat.after 3 t = iblk m c 3 t) (t : Fin (cfgA m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ (cfgA m) c) (hA : dat.A 4 = V m c (Pipeline.arrRef spec0 4))
    (hafter : ∀ t, dat.after 4 t = iblk m c 4 t) (t : Fin (cfgA m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ (cfgA m) c) (hA : dat.A 5 = V m c (Pipeline.arrRef spec0 5))
    (hafter : ∀ t, dat.after 5 t = iblk m c 5 t) (t : Fin (cfgA m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ (cfgA m) c) (hA : dat.A 6 = V m c (Pipeline.arrRef spec0 6))
    (hafter : ∀ t, dat.after 6 t = iblk m c 6 t) (t : Fin (cfgA m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- The proof data: inputs stay at their blocks, the output block is `outBlk`; the body borrows the two scratch buffers and the table. -/
def dats (p : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk m c t
  Φ _ := iprop(Pipeline.ΦA spec0 c ∗ Pipeline.ΦT pre0 (adm m).1 c)
  q _ := fullShare
  owed _ := 0

theorem A_eq (c : Dev nD) (w : Fin (cfgA m).W) : (dats m 0 c).A w = V m c (Pipeline.arrRef spec0 w) := by
  dsimp only [dats]
theorem after0_0 (c : Dev nD) (t : Fin (cfgA m).N) : (dats m 0 c).after 0 t = iblk m c 0 t := by dsimp only [dats]; rfl
theorem after0_1 (c : Dev nD) (t : Fin (cfgA m).N) : (dats m 0 c).after 1 t = iblk m c 1 t := by dsimp only [dats]; rfl
theorem after0_2 (c : Dev nD) (t : Fin (cfgA m).N) : (dats m 0 c).after 2 t = iblk m c 2 t := by dsimp only [dats]; rfl
theorem after0_3 (c : Dev nD) (t : Fin (cfgA m).N) : (dats m 0 c).after 3 t = iblk m c 3 t := by dsimp only [dats]; rfl
theorem after0_4 (c : Dev nD) (t : Fin (cfgA m).N) : (dats m 0 c).after 4 t = iblk m c 4 t := by dsimp only [dats]; rfl
theorem after0_5 (c : Dev nD) (t : Fin (cfgA m).N) : (dats m 0 c).after 5 t = iblk m c 5 t := by dsimp only [dats]; rfl
theorem after0_6 (c : Dev nD) (t : Fin (cfgA m).N) : (dats m 0 c).after 6 t = iblk m c 6 t := by dsimp only [dats]; rfl
theorem after0_7 (c : Dev nD) (t : Fin (cfgA m).N) : (dats m 0 c).after 7 t = outBlk m c t := by dsimp only [dats]; rfl
theorem before0_0 (c : Dev nD) (t : Fin (cfgA m).N) (d) : (dats m 0 c).before 0 t d = iblk m c 0 t :=
  before0_0_of m (dats m 0 c) (A_eq m c 0) (after0_0 m c) t d
theorem before0_1 (c : Dev nD) (t : Fin (cfgA m).N) (d) : (dats m 0 c).before 1 t d = iblk m c 1 t :=
  before0_1_of m (dats m 0 c) (A_eq m c 1) (after0_1 m c) t d
theorem before0_2 (c : Dev nD) (t : Fin (cfgA m).N) (d) : (dats m 0 c).before 2 t d = iblk m c 2 t :=
  before0_2_of m (dats m 0 c) (A_eq m c 2) (after0_2 m c) t d
theorem before0_3 (c : Dev nD) (t : Fin (cfgA m).N) (d) : (dats m 0 c).before 3 t d = iblk m c 3 t :=
  before0_3_of m (dats m 0 c) (A_eq m c 3) (after0_3 m c) t d
theorem before0_4 (c : Dev nD) (t : Fin (cfgA m).N) (d) : (dats m 0 c).before 4 t d = iblk m c 4 t :=
  before0_4_of m (dats m 0 c) (A_eq m c 4) (after0_4 m c) t d
theorem before0_5 (c : Dev nD) (t : Fin (cfgA m).N) (d) : (dats m 0 c).before 5 t d = iblk m c 5 t :=
  before0_5_of m (dats m 0 c) (A_eq m c 5) (after0_5 m c) t d
theorem before0_6 (c : Dev nD) (t : Fin (cfgA m).N) (d) : (dats m 0 c).before 6 t d = iblk m c 6 t :=
  before0_6_of m (dats m 0 c) (A_eq m c 6) (after0_6 m c) t d
/-- The body at grid point `t`. -/
abbrev bodyAt (t : Fin (cfgA m).N) : Prog (TpuEff nD τ sig (Elt F) Λ₀ .tc) PUnit :=
  cc0_mla_decode (grid0.coords t) (Memref.whole main_arg7) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (Memref.whole cc0_scratch0) (Memref.isWhole_whole _) (Memref.whole cc0_scratch1) (Memref.isWhole_whole _)

def bodyPre (c : Dev nD) (t : Fin (cfgA m).N) : sProp 𝕄 :=
  iprop((dats m 0 c).Φ t.castSucc ∗ (dats m 0 c).owesAt () t.castSucc
    ∗ (∃ d, owns (c : Thread nD τ) (((cfgA m).win 0).stage ((cfgA m).slots t 0)) fullShare ((dats m 0 c).before 0 t d))
    ∗ (∃ d, owns (c : Thread nD τ) (((cfgA m).win 1).stage ((cfgA m).slots t 1)) fullShare ((dats m 0 c).before 1 t d))
    ∗ (∃ d, owns (c : Thread nD τ) (((cfgA m).win 2).stage ((cfgA m).slots t 2)) fullShare ((dats m 0 c).before 2 t d))
    ∗ (∃ d, owns (c : Thread nD τ) (((cfgA m).win 3).stage ((cfgA m).slots t 3)) fullShare ((dats m 0 c).before 3 t d))
    ∗ (∃ d, owns (c : Thread nD τ) (((cfgA m).win 4).stage ((cfgA m).slots t 4)) fullShare ((dats m 0 c).before 4 t d))
    ∗ (∃ d, owns (c : Thread nD τ) (((cfgA m).win 5).stage ((cfgA m).slots t 5)) fullShare ((dats m 0 c).before 5 t d))
    ∗ (∃ d, owns (c : Thread nD τ) (((cfgA m).win 6).stage ((cfgA m).slots t 6)) fullShare ((dats m 0 c).before 6 t d))
    ∗ (∃ d, owns (c : Thread nD τ) (((cfgA m).win 7).stage ((cfgA m).slots t 7)) fullShare ((dats m 0 c).before 7 t d)))

def bodyPost (c : Dev nD) (t : Fin (cfgA m).N) : sProp 𝕄 :=
  iprop((dats m 0 c).Φ t.succ ∗ (dats m 0 c).owesAt () t.succ
    ∗ owns (c : Thread nD τ) (((cfgA m).win 0).stage ((cfgA m).slots t 0)) fullShare ((dats m 0 c).after 0 t)
    ∗ owns (c : Thread nD τ) (((cfgA m).win 1).stage ((cfgA m).slots t 1)) fullShare ((dats m 0 c).after 1 t)
    ∗ owns (c : Thread nD τ) (((cfgA m).win 2).stage ((cfgA m).slots t 2)) fullShare ((dats m 0 c).after 2 t)
    ∗ owns (c : Thread nD τ) (((cfgA m).win 3).stage ((cfgA m).slots t 3)) fullShare ((dats m 0 c).after 3 t)
    ∗ owns (c : Thread nD τ) (((cfgA m).win 4).stage ((cfgA m).slots t 4)) fullShare ((dats m 0 c).after 4 t)
    ∗ owns (c : Thread nD τ) (((cfgA m).win 5).stage ((cfgA m).slots t 5)) fullShare ((dats m 0 c).after 5 t)
    ∗ owns (c : Thread nD τ) (((cfgA m).win 6).stage ((cfgA m).slots t 6)) fullShare ((dats m 0 c).after 6 t)
    ∗ owns (c : Thread nD τ) (((cfgA m).win 7).stage ((cfgA m).slots t 7)) fullShare ((dats m 0 c).after 7 t))

/-- The table is one buffer. -/
theorem tables_eq (c : Dev nD) : (Pipeline.ΦT (U := UR sig nD τ) pre0 (adm m).1 c : sProp 𝕄)
    = iprop(((c.tc : Thread nD τ).loc main_arg7) ↦{fullShare.right} (adm m).1 0) := by
  unfold Pipeline.ΦT Pipeline.prefHeld
  rw [show (Finset.univ : Finset (Fin pre0.K)) = {0} from rfl, bigSep_singleton]
  rfl

theorem sound_body (hfit : Fits m) (c : Dev nD) (t : Fin (cfgA m).N) :
    bodyPre m c t ⊢ wp frame (wpE (defs₀ (F := F)) Variants.none c none) Set.univ (bodyAt m t) (fun _ => bodyPost m c t) := by
  unfold bodyPre bodyPost bodyAt
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = iprop(Pipeline.ΦA spec0 c ∗ Pipeline.ΦT pre0 (adm m).1 c) from rfl]
  rw [tables_eq]
  unfold Pipeline.ΦA
  rw [scopedRest0_eq]
  iintro ⟨⟨⟨⟨⟨%s0, Hs0⟩, ⟨%s1, Hs1⟩⟩, Hp⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) (Memref.whole main_arg7) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (Memref.whole cc0_scratch0) (Memref.isWhole_whole _) (Memref.whole cc0_scratch1) (Memref.isWhole_whole _)
    fullShare.right ((adm m).1 0) (word m t) (hfit t) (word_eq m t) (iblk m c 0 t) (iblk m c 1 t) (iblk m c 2 t) (iblk m c 3 t) (iblk m c 4 t) (iblk m c 5 t) (iblk m c 6 t) _)
  isplitl [HT]; · rw [View.set_whole]; iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hs0]; · iexists s0; rw [owns_whole]; iexact Hs0
  isplitl [Hs1]; · iexists s1; rw [owns_whole]; iexact Hs1
  iintro ⟨HT, H0, H1, H2, H3, H4, H5, H6, H7, ⟨%e0, Hs0⟩, ⟨%e1, Hs1⟩⟩
  isplitl [HT Hs0 Hs1 Hp]
  · isplitl [Hs0 Hs1 Hp]
    · isplitl [Hs0 Hs1]
      · isplitl [Hs0]
        · iexists e0; rw [owns_whole]; exact .rfl
        · iexists e1; rw [owns_whole]; exact .rfl
      · iexact Hp
    · rw [View.set_whole]; iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold outBlk
  iexact H7

theorem defs₀_row (t : Fin (cfgA m).N) :
    defs₀ (F := F) .tc (cfgA m).body ((cfgA m).bodyArgs t ((cfgA m).slots t)) = bodyAt m t := by
  unfold defs₀; rw [Defs.onTc_tc]

theorem body_obligation (hfit : Fits m) (c : Dev nD) : BodyObligation (dats (F := F) m 0 c) (defs₀ (F := F)) Variants.none () Set.univ := fun t => by
  rw [bigSep_W0, bigSep_W0, defs₀_row]
  exact triple_restated (sound_body m hfit c t) rfl .rfl fun _ => .rfl

set_option backward.isDefEq.respectTransparency.types false in
set_option maxHeartbeats 800000 in
/-- Every run of the program ends with the result array at what the blocks leave there, everything else as at the launch,
    and every semaphore at zero. -/
theorem run_main (hfit : Fits m) : θ_run defs (onTc (τ := τ) (main (F := F))) (s₀ m ρ)
    (fun r => Pipeline.FramePost (Pipeline.pin (pcfgs (F := F)) (fun _ => adm m)) (dats m) 0 (V m) r ∧ r.2.sem = fun _ => 0) :=
  Pipeline.θ_run_frameP (Q' := _) (pcfgs (F := F)) (fun _ => adm m) (dats m) (0 : Fin 1) launch0 defs₀ Variants.none m ρ main
    (hbody := fun c => (body_obligation m hfit c).loose) (hshare := fun c => (dats m 0 c).share_full fun _ => rfl)
    (howed := fun _ _ => rfl) (V := V m)
    (hmain := Pipeline.hmainP_prefix (pcfgs (F := F)) 0 defs₀ Variants.none m main hostOps0 hostOps0_sub hostOps0_fresh main_chain)
    (hA := A_eq m) (hpf := fun c k => by have : c = 0 := Subsingleton.elim _ _; subst this; rfl) (hΦ := fun _ _ => rfl)

/-- The arguments at the end of a run are as at its start. -/
theorem args_kept {r : PUnit × MemSt nD τ sig (Elt F)} (h : Pipeline.FramePost (Pipeline.pin (pcfgs (F := F)) (fun _ => adm m)) (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by exact (by decide : ∀ w, (spec0 w).arr.view.ref ≠ main_arg0)))).trans (V_main_arg0 m c),
    ((h c).2 main_arg1 (Pipeline.mem_restRefs_of main_arg1 (by decide) (by exact (by decide : ∀ w, (spec0 w).arr.view.ref ≠ main_arg1)))).trans (V_main_arg1 m c),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).2 main_arg5 (Pipeline.mem_restRefs_of main_arg5 (by decide) (by exact (by decide : ∀ w, (spec0 w).arr.view.ref ≠ main_arg5)))).trans (V_main_arg5 m c),
    ((h c).2 main_arg6 (Pipeline.mem_restRefs_of main_arg6 (by decide) (by exact (by decide : ∀ w, (spec0 w).arr.view.ref ≠ main_arg6)))).trans (V_main_arg6 m c),
    ((h c).2 main_arg7 (Pipeline.mem_restRefs_of main_arg7 (by decide) (by exact (by decide : ∀ w, (spec0 w).arr.view.ref ≠ main_arg7)))).trans (V_main_arg7 m c)⟩

/-- If no cache length of the table exceeds the cache, none that a grid point reads does. -/
theorem fits_of (h : ∀ x : S128.Idx, BitVec.toInt (m (((0 : Dev nD) : Thread nD τ).loc main_arg7) x) ≤ 2048) : Fits m := fun t => by
  unfold word
  rw [show tbl m = m (((0 : Dev nD) : Thread nD τ).loc main_arg7) from V_main_arg7 m 0]
  exact h _

/-- Every run of the program ends, its arguments unchanged and every semaphore at zero. -/
theorem quiet (hfit : Fits m) : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨args_kept m h.1, h.2⟩) (run_main m ρ hfit)

end Cert.KernelIdeal.Own

end
-- ==== Proof.KernelIdeal.Value.lean ====
/-
  THE KERNEL'S RESULT ARRAY, as the mathematics of each head over the program's arguments: the blocks are the arguments' rows, the
  host's reshapes and transposes read through, and the blocks written tile the result.
-/
module

public import proofs.«01_k».proof.Proof.KernelIdeal.Block
public import proofs.«01_k».proof.Proof.KernelIdeal.Frame
public import Idealize.ShloMosaic.Lib.Pipeline.ValueKit
public import Idealize.ShloMosaic.Lib.StableHlo.ReadAt

@[expose] public section

set_option maxRecDepth 16384

noncomputable section

namespace Cert.KernelIdeal.Own

open Idealize.ShloMosaic Idealize.ShloMosaic.TcCoe Idealize.SL.Sem
open Idealize.ShloMosaic.Pipeline (Dat)
open Cert.KernelIdeal Cert.KernelIdeal.Gen

/-- A table of zeros: the windows do not depend on the table. -/
def adm0 : (pcfg0 (F := Ideal)).Adm := ⟨fun k => match k with | ⟨0, _⟩ => fun _ => (0#32 : BitVec 32), trivial⟩

/-- The blocks written tile the result. -/
theorem covers0 : ((cfg0 (F := Ideal) adm0).win 7).Covers := by decide +kernel

/-- Grid point `t` takes row `t` of every array. -/
theorem idx0 : ∀ t : Fin grid0.N, ((cfg0 (F := Ideal) adm0).win 0).index t = ![t.val, 0, 0] ∧ ((cfg0 (F := Ideal) adm0).win 1).index t = ![t.val, 0, 0]
   ∧ ((cfg0 (F := Ideal) adm0).win 2).index t = ![t.val, 0, 0] ∧ ((cfg0 (F := Ideal) adm0).win 3).index t = ![t.val, 0, 0]
   ∧ ((cfg0 (F := Ideal) adm0).win 4).index t = ![t.val, 0, 0] ∧ ((cfg0 (F := Ideal) adm0).win 5).index t = ![t.val, 0, 0]
   ∧ ((cfg0 (F := Ideal) adm0).win 6).index t = ![t.val, 0, 0] ∧ ((cfg0 (F := Ideal) adm0).win 7).index t = ![t.val, 0, 0] := by decide +kernel

variable (m : (ℓ : Loc nD τ sig) → Buf (Elt Ideal) ℓ)

theorem covers : ((cfgA m).win 7).Covers := covers0

theorem idx (t : Fin (cfgA m).N) : ((cfgA m).win 0).index t = ![t.val, 0, 0] ∧ ((cfgA m).win 1).index t = ![t.val, 0, 0]
   ∧ ((cfgA m).win 2).index t = ![t.val, 0, 0] ∧ ((cfgA m).win 3).index t = ![t.val, 0, 0]
   ∧ ((cfgA m).win 4).index t = ![t.val, 0, 0] ∧ ((cfgA m).win 5).index t = ![t.val, 0, 0]
   ∧ ((cfgA m).win 6).index t = ![t.val, 0, 0] ∧ ((cfgA m).win 7).index t = ![t.val, 0, 0] := idx0 t

/-! ## The table and the blocks -/

theorem off1_val : ∀ t : Fin grid0.N, k0_off1 (grid0.coords t) 0 = t.val := by decide +kernel

theorem word_at (t : Fin (cfgA m).N) : word m t = (m (((0 : Dev nD) : Thread nD τ).loc main_arg7) : IVec S128 32) (ix1 (t : Fin 128)) := by
  unfold word
  rw [show tbl m = m (((0 : Dev nD) : Thread nD τ).loc main_arg7) from V_main_arg7 m 0]
  refine congrArg (m (((0 : Dev nD) : Thread nD τ).loc main_arg7)) (funext fun a => Fin.ext ?_)
  fin_cases a
  exact (Nat.add_zero _).trans (off1_val t)

theorem entry0 (c : Dev nD) (b : Fin 128) (h : Fin 32) (k : Fin 512) : (V m c main_v0 : FVec Ideal S128x32x512 .bf16) (ix3 b h k)
    = (m ((c : Thread nD τ).loc main_arg0) : FVec Ideal S128x1x32x512 .bf16) (ix4 b 0 h k) := by
  after_reads_at

theorem iblk0_at (c : Dev nD) (t : Fin (cfgA m).N) (h : Fin 32) (k : Fin 512) : (iblk m c 0 t : FVec Ideal S1x32x512 .bf16) (ix3 0 h k)
    = (m ((c : Thread nD τ).loc main_arg0) : FVec Ideal S128x1x32x512 .bf16) (ix4 (t : Fin 128) 0 h k) := by
  refine Eq.trans ?_ (entry0 m c t _ _)
  blk_point [iblk, idx m t]

theorem entry1 (c : Dev nD) (b : Fin 128) (h : Fin 32) (k : Fin 64) : (V m c main_v1 : FVec Ideal S128x32x64 .bf16) (ix3 b h k)
    = (m ((c : Thread nD τ).loc main_arg1) : FVec Ideal S128x1x32x64 .bf16) (ix4 b 0 h k) := by
  after_reads_at

theorem iblk1_at (c : Dev nD) (t : Fin (cfgA m).N) (h : Fin 32) (k : Fin 64) : (iblk m c 1 t : FVec Ideal S1x32x64 .bf16) (ix3 0 h k)
    = (m ((c : Thread nD τ).loc main_arg1) : FVec Ideal S128x1x32x64 .bf16) (ix4 (t : Fin 128) 0 h k) := by
  refine Eq.trans ?_ (entry1 m c t _ _)
  blk_point [iblk, idx m t]

theorem iblk2_at (c : Dev nD) (t : Fin (cfgA m).N) (k : Fin 512) : (iblk m c 2 t : FVec Ideal S1x1x512 .bf16) (ix3 0 0 k)
    = (m ((c : Thread nD τ).loc main_arg2) : FVec Ideal S128x1x512 .bf16) (ix3 (t : Fin 128) 0 k) := by
  refine Eq.trans ?_ (congrFun (V_main_arg2 m c) _)
  blk_point [iblk, idx m t]

theorem iblk3_at (c : Dev nD) (t : Fin (cfgA m).N) (k : Fin 64) : (iblk m c 3 t : FVec Ideal S1x1x64 .bf16) (ix3 0 0 k)
    = (m ((c : Thread nD τ).loc main_arg3) : FVec Ideal S128x1x64 .bf16) (ix3 (t : Fin 128) 0 k) := by
  refine Eq.trans ?_ (congrFun (V_main_arg3 m c) _)
  blk_point [iblk, idx m t]

theorem iblk4_at (c : Dev nD) (t : Fin (cfgA m).N) (p : Fin 2048) (k : Fin 512) : (iblk m c 4 t : FVec Ideal S1x2048x512 .fp8e4m3) (ix3 0 p k)
    = (m ((c : Thread nD τ).loc main_arg4) : FVec Ideal S128x2048x512 .fp8e4m3) (ix3 (t : Fin 128) p k) := by
  refine Eq.trans ?_ (congrFun (V_main_arg4 m c) _)
  blk_point [iblk, idx m t]

theorem entry5 (c : Dev nD) (b : Fin 128) (g : Fin 4) (p : Fin 2048) : (V m c main_v2 : FVec Ideal S128x4x2048 .f32) (ix3 b g p)
    = (m ((c : Thread nD τ).loc main_arg5) : FVec Ideal S128x2048x4 .f32) (ix3 b p g) := by
  after_reads_at

theorem iblk5_at (c : Dev nD) (t : Fin (cfgA m).N) (g : Fin 4) (p : Fin 2048) : (iblk m c 5 t : FVec Ideal S1x4x2048 .f32) (ix3 0 g p)
    = (m ((c : Thread nD τ).loc main_arg5) : FVec Ideal S128x2048x4 .f32) (ix3 (t : Fin 128) p g) := by
  refine Eq.trans ?_ (entry5 m c t _ _)
  blk_point [iblk, idx m t]

theorem entry6 (c : Dev nD) (b : Fin 128) (r : Fin 64) (p : Fin 2048) : (V m c main_v3 : FVec Ideal S128x64x2048 .bf16) (ix3 b r p)
    = (m ((c : Thread nD τ).loc main_arg6) : FVec Ideal S128x2048x64 .bf16) (ix3 b p r) := by
  after_reads_at

theorem iblk6_at (c : Dev nD) (t : Fin (cfgA m).N) (r : Fin 64) (p : Fin 2048) : (iblk m c 6 t : FVec Ideal S1x64x2048 .bf16) (ix3 0 r p)
    = (m ((c : Thread nD τ).loc main_arg6) : FVec Ideal S128x2048x64 .bf16) (ix3 (t : Fin 128) p r) := by
  refine Eq.trans ?_ (entry6 m c t _ _)
  blk_point [iblk, idx m t]

/-! ## The result -/

/-- The mathematics over the program's arguments. -/
def resultOf (c : Dev nD) : FVec Ideal S128x32x512 .bf16 := fun i => Attn.result
  (fun b h k => (m ((c : Thread nD τ).loc main_arg0) : FVec Ideal S128x1x32x512 .bf16) (ix4 b 0 h k))
  (fun b h k => (m ((c : Thread nD τ).loc main_arg1) : FVec Ideal S128x1x32x64 .bf16) (ix4 b 0 h k))
  (fun b k => (m ((c : Thread nD τ).loc main_arg2) : FVec Ideal S128x1x512 .bf16) (ix3 b 0 k))
  (fun b k => (m ((c : Thread nD τ).loc main_arg3) : FVec Ideal S128x1x64 .bf16) (ix3 b 0 k))
  (fun b p k => (m ((c : Thread nD τ).loc main_arg4) : FVec Ideal S128x2048x512 .fp8e4m3) (ix3 b p k))
  (fun b p g => (m ((c : Thread nD τ).loc main_arg5) : FVec Ideal S128x2048x4 .f32) (ix3 b p g))
  (fun b p k => (m ((c : Thread nD τ).loc main_arg6) : FVec Ideal S128x2048x64 .bf16) (ix3 b p k))
  (fun b => (m ((c : Thread nD τ).loc main_arg7) : IVec S128 32) (ix1 b)) (i 0) (i 1) (i 2)

/-- Equal entries give equal results. -/
theorem out_congr {x x' : Fin 512 → EReal} {qr qr' : Fin 64 → EReal} {kvn kvn' : Fin 512 → EReal} {krn krn' : Fin 64 → EReal}
    {codes codes' : Fin 2048 → Fin 512 → EReal} {scale scale' : Fin 4 → Fin 2048 → EReal} {kr kr' : Fin 64 → Fin 2048 → EReal} {n n' : Int}
    (hx : ∀ k, x k = x' k) (hqr : ∀ r, qr r = qr' r) (hkvn : ∀ k, kvn k = kvn' k) (hkrn : ∀ r, krn r = krn' r)
    (hcodes : ∀ p k, codes p k = codes' p k) (hscale : ∀ g p, scale g p = scale' g p) (hkr : ∀ r p, kr r p = kr' r p) (hn : n = n')
    (g : Fin 4) (c : Fin 512) : Attn.out x qr kvn krn codes scale kr n g c = Attn.out x' qr' kvn' krn' codes' scale' kr' n' g c := by
  obtain rfl : x = x' := funext hx
  obtain rfl : qr = qr' := funext hqr
  obtain rfl : kvn = kvn' := funext hkvn
  obtain rfl : krn = krn' := funext hkrn
  obtain rfl : codes = codes' := funext fun p => funext (hcodes p)
  obtain rfl : scale = scale' := funext fun g => funext (hscale g)
  obtain rfl : kr = kr' := funext fun r => funext (hkr r)
  rw [hn]

/-- The block of grid point `t`. -/
theorem outBlk_at (hfit : Fits m) (c : Dev nD) (t : Fin (cfgA m).N) (h : Fin 32) (k : Fin 512) :
    outBlk m c t (ix3 0 h k) = resultOf m c (ix3 (t : Fin 128) h k) := by
  obtain rfl : c = 0 := Subsingleton.elim _ _
  exact (block_at (word m t) (iblk m 0 0 t) (iblk m 0 1 t) (iblk m 0 2 t) (iblk m 0 3 t) (iblk m 0 4 t) (iblk m 0 5 t) (iblk m 0 6 t) h (hfit t) k).trans
    (out_congr (iblk0_at m 0 t h) (iblk1_at m 0 t h) (iblk2_at m 0 t) (iblk3_at m 0 t) (iblk4_at m 0 t) (iblk5_at m 0 t) (iblk6_at m 0 t)
      (congrArg (BitVec.toInt (n := 32)) (word_at m t)) (Attn.groupOf k) k)

/-- An index of a block. -/
theorem blk_idx (y : S1x32x512.Idx) : ∃ (h : Fin 32) (k : Fin 512), y = ix3 0 h k :=
  ⟨y 1, y 2, by
    funext a; apply Fin.ext; fin_cases a
    · have : (y 0).val < 1 := (y 0).isLt
      show (y 0).val = 0
      omega
    · rfl
    · rfl⟩

/-- The result array. -/
theorem value (hfit : Fits m) (c : Dev nD) : (dats m 0 c).arrAt 7 (cfgA m).N = resultOf m c := by
  refine (dats m 0 c).arrAt_eq_of_covers 7 _ (covers m) fun t _ y => ?_
  blk_simp
  rw [after0_7]
  obtain ⟨h, k, rfl⟩ := blk_idx y
  refine (outBlk_at m hfit c t h k).trans (congrArg (resultOf m c) ?_)
  blk_ext! [idx m t]

end Cert.KernelIdeal.Own

end
-- ==== Proof.ReferenceIdeal.Lists.lean ====
/-
  THE HOST OPERATIONS OF THE REFERENCE'S SOFTMAX AND WEIGHTED SUM, cut into short lists, so that each list can be read on its own.
-/
module

public import proofs.«01_k».proof.Proof.Gen.ReferenceIdeal.Frame

@[expose] public section

set_option maxRecDepth 16384

noncomputable section

namespace Cert.ReferenceIdeal.Own

open Idealize.ShloMosaic Idealize.ShloMosaic.TcCoe Idealize.SL.Sem
open Cert.ReferenceIdeal Cert.ReferenceIdeal.Gen

variable {F : FTy → Type} [FloatOps F]

/-- The maximum of the scores of the cache and of the new token. -/
abbrev maxOps : List (HloOp τ sig (Elt F)) :=
  [ StableHlo.nullary main_cst_4 (constant S_ .f32 0xFF800000#32),
    StableHlo.binary main_v67 main_cst_4 main_v69 ((fun x v => Host.reduce FloatOps.maximumf x v reducesTo_S128x1x32x2048_S128x1x32_d3 h_S_) : (⟨S128x1x32x2048, .f32⟩ : BufTy).Contents (Elt F) → (⟨S_, .f32⟩ : BufTy).Contents (Elt F) → (⟨S128x1x32, .f32⟩ : BufTy).Contents (Elt F)),
    StableHlo.nullary main_cst_5 (constant S_ .f32 0xFF800000#32),
    StableHlo.binary main_v68 main_cst_5 main_v70 ((fun x v => Host.reduce FloatOps.maximumf x v reducesTo_S128x1x32x1_S128x1x32_d3 h_S_) : (⟨S128x1x32x1, .f32⟩ : BufTy).Contents (Elt F) → (⟨S_, .f32⟩ : BufTy).Contents (Elt F) → (⟨S128x1x32, .f32⟩ : BufTy).Contents (Elt F)),
    StableHlo.binary main_v69 main_v70 main_v71 (maximumf : (⟨S128x1x32, .f32⟩ : BufTy).Contents (Elt F) → (⟨S128x1x32, .f32⟩ : BufTy).Contents (Elt F) → (⟨S128x1x32, .f32⟩ : BufTy).Contents (Elt F)),
    StableHlo.unary main_v71 main_v72 (broadcastInDim S128x1x32x1 ![0, 1, 2] bcast_S128x1x32_S128x1x32x1_0_1_2 : (⟨S128x1x32, .f32⟩ : BufTy).Contents (Elt F) → (⟨S128x1x32x1, .f32⟩ : BufTy).Contents (Elt F)) ]
/-- What these operations write. -/
abbrev maxOps_W : List (Ref sig .tc) := [main_cst_4, main_v69, main_cst_5, main_v70, main_v71, main_v72]
theorem maxOps_writes : (maxOps : List (HloOp τ sig (Elt F))).Forall fun op => op.writes ⊆ (maxOps_W.map (Proc.devRef (τ := τ) .tc)).toFinset :=
  StableHlo.forall_writes_sub_of_map rfl

/-- The exponentials. -/
abbrev expOps : List (HloOp τ sig (Elt F)) :=
  [ StableHlo.unary main_v72 main_v73 (broadcastInDim S128x1x32x2048 ![0, 1, 2, 3] bcast_S128x1x32x1_S128x1x32x2048_0_1_2_3 : (⟨S128x1x32x1, .f32⟩ : BufTy).Contents (Elt F) → (⟨S128x1x32x2048, .f32⟩ : BufTy).Contents (Elt F)),
    StableHlo.binary main_v67 main_v73 main_v74 (subf : (⟨S128x1x32x2048, .f32⟩ : BufTy).Contents (Elt F) → (⟨S128x1x32x2048, .f32⟩ : BufTy).Contents (Elt F) → (⟨S128x1x32x2048, .f32⟩ : BufTy).Contents (Elt F)),
    StableHlo.unary main_v74 main_v75 (Host.exp : (⟨S128x1x32x2048, .f32⟩ : BufTy).Contents (Elt F) → (⟨S128x1x32x2048, .f32⟩ : BufTy).Contents (Elt F)),
    StableHlo.binary main_v68 main_v72 main_v76 (subf : (⟨S128x1x32x1, .f32⟩ : BufTy).Contents (Elt F) → (⟨S128x1x32x1, .f32⟩ : BufTy).Contents (Elt F) → (⟨S128x1x32x1, .f32⟩ : BufTy).Contents (Elt F)),
    StableHlo.unary main_v76 main_v77 (Host.exp : (⟨S128x1x32x1, .f32⟩ : BufTy).Contents (Elt F) → (⟨S128x1x32x1, .f32⟩ : BufTy).Contents (Elt F)) ]
/-- What these operations write. -/
abbrev expOps_W : List (Ref sig .tc) := [main_v73, main_v74, main_v75, main_v76, main_v77]
theorem expOps_writes : (expOps : List (HloOp τ sig (Elt F))).Forall fun op => op.writes ⊆ (expOps_W.map (Proc.devRef (τ := τ) .tc)).toFinset :=
  StableHlo.forall_writes_sub_of_map rfl

/-- The sum of the exponentials. -/
abbrev sumOps : List (HloOp τ sig (Elt F)) :=
  [ StableHlo.nullary main_cst_6 (constant S_ .f32 0x00000000#32),
    StableHlo.binary main_v75 main_cst_6 main_v78 ((fun x v => Host.reduceAdd x v reducesTo_S128x1x32x2048_S128x1x32_d3 h_S_) : (⟨S128x1x32x2048, .f32⟩ : BufTy).Contents (Elt F) → (⟨S_, .f32⟩ : BufTy).Contents (Elt F) → (⟨S128x1x32, .f32⟩ : BufTy).Contents (Elt F)),
    StableHlo.unary main_v78 main_v79 (broadcastInDim S128x1x32x1 ![0, 1, 2] bcast_S128x1x32_S128x1x32x1_0_1_2 : (⟨S128x1x32, .f32⟩ : BufTy).Contents (Elt F) → (⟨S128x1x32x1, .f32⟩ : BufTy).Contents (Elt F)),
    StableHlo.nullary main_cst_7 (constant S_ .f32 0x00000000#32),
    StableHlo.binary main_v77 main_cst_7 main_v80 ((fun x v => Host.reduceAdd x v reducesTo_S128x1x32x1_S128x1x32_d3 h_S_) : (⟨S128x1x32x1, .f32⟩ : BufTy).Contents (Elt F) → (⟨S_, .f32⟩ : BufTy).Contents (Elt F) → (⟨S128x1x32, .f32⟩ : BufTy).Contents (Elt F)),
    StableHlo.unary main_v80 main_v81 (broadcastInDim S128x1x32x1 ![0, 1, 2] bcast_S128x1x32_S128x1x32x1_0_1_2 : (⟨S128x1x32, .f32⟩ : BufTy).Contents (Elt F) → (⟨S128x1x32x1, .f32⟩ : BufTy).Contents (Elt F)),
    StableHlo.binary main_v79 main_v81 main_v82 (addf : (⟨S128x1x32x1, .f32⟩ : BufTy).Contents (Elt F) → (⟨S128x1x32x1, .f32⟩ : BufTy).Contents (Elt F) → (⟨S128x1x32x1, .f32⟩ : BufTy).Contents (Elt F)) ]
/-- What these operations write. -/
abbrev sumOps_W : List (Ref sig .tc) := [main_cst_6, main_v78, main_v79, main_cst_7, main_v80, main_v81, main_v82]
theorem sumOps_writes : (sumOps : List (HloOp τ sig (Elt F))).Forall fun op => op.writes ⊆ (sumOps_W.map (Proc.devRef (τ := τ) .tc)).toFinset :=
  StableHlo.forall_writes_sub_of_map rfl

/-- The probabilities. -/
abbrev probOps : List (HloOp τ sig (Elt F)) :=
  [ StableHlo.nullary main_cst_8 (constant S_ .f32 0x3F800000#32),
    StableHlo.unary main_cst_8 main_v83 (broadcastInDim S128x1x32x1 ![] bcast_S_S128x1x32x1 : (⟨S_, .f32⟩ : BufTy).Contents (Elt F) → (⟨S128x1x32x1, .f32⟩ : BufTy).Contents (Elt F)),
    StableHlo.binary main_v83 main_v82 main_v84 (Host.divf : (⟨S128x1x32x1, .f32⟩ : BufTy).Contents (Elt F) → (⟨S128x1x32x1, .f32⟩ : BufTy).Contents (Elt F) → (⟨S128x1x32x1, .f32⟩ : BufTy).Contents (Elt F)),
    StableHlo.unary main_v84 main_v85 (broadcastInDim S128x1x32x2048 ![0, 1, 2, 3] bcast_S128x1x32x1_S128x1x32x2048_0_1_2_3 : (⟨S128x1x32x1, .f32⟩ : BufTy).Contents (Elt F) → (⟨S128x1x32x2048, .f32⟩ : BufTy).Contents (Elt F)),
    StableHlo.binary main_v75 main_v85 main_v86 (mulf : (⟨S128x1x32x2048, .f32⟩ : BufTy).Contents (Elt F) → (⟨S128x1x32x2048, .f32⟩ : BufTy).Contents (Elt F) → (⟨S128x1x32x2048, .f32⟩ : BufTy).Contents (Elt F)),
    StableHlo.unary main_v86 main_v87 ((truncf .bf16 · bitsLt_bf16_f32) : (⟨S128x1x32x2048, .f32⟩ : BufTy).Contents (Elt F) → (⟨S128x1x32x2048, .bf16⟩ : BufTy).Contents (Elt F)),
    StableHlo.binary main_v77 main_v84 main_v88 (mulf : (⟨S128x1x32x1, .f32⟩ : BufTy).Contents (Elt F) → (⟨S128x1x32x1, .f32⟩ : BufTy).Contents (Elt F) → (⟨S128x1x32x1, .f32⟩ : BufTy).Contents (Elt F)),
    StableHlo.unary main_v88 main_v89 ((truncf .bf16 · bitsLt_bf16_f32) : (⟨S128x1x32x1, .f32⟩ : BufTy).Contents (Elt F) → (⟨S128x1x32x1, .bf16⟩ : BufTy).Contents (Elt F)) ]
/-- What these operations write. -/
abbrev probOps_W : List (Ref sig .tc) := [main_cst_8, main_v83, main_v84, main_v85, main_v86, main_v87, main_v88, main_v89]
theorem probOps_writes : (probOps : List (HloOp τ sig (Elt F))).Forall fun op => op.writes ⊆ (probOps_W.map (Proc.devRef (τ := τ) .tc)).toFinset :=
  StableHlo.forall_writes_sub_of_map rfl

/-- The weighted sums of the codes, one for each group of the scales. -/
abbrev mixOps : List (HloOp τ sig (Elt F)) :=
  [ StableHlo.unary main_v87 main_v90 (broadcastInDim S128x1x1x32x2048 ![0, 1, 3, 4] bcast_S128x1x32x2048_S128x1x1x32x2048_0_1_3_4 : (⟨S128x1x32x2048, .bf16⟩ : BufTy).Contents (Elt F) → (⟨S128x1x1x32x2048, .bf16⟩ : BufTy).Contents (Elt F)),
    StableHlo.unary main_v1 main_v91 ((truncf .bf16 · bitsLt_bf16_f32) : (⟨S128x4x2048, .f32⟩ : BufTy).Contents (Elt F) → (⟨S128x4x2048, .bf16⟩ : BufTy).Contents (Elt F)),
    StableHlo.unary main_v91 main_v92 (broadcastInDim S128x1x4x1x2048 ![0, 2, 4] bcast_S128x4x2048_S128x1x4x1x2048_0_2_4 : (⟨S128x4x2048, .bf16⟩ : BufTy).Contents (Elt F) → (⟨S128x1x4x1x2048, .bf16⟩ : BufTy).Contents (Elt F)),
    StableHlo.unary main_v90 main_v93 (broadcastInDim S128x1x4x32x2048 ![0, 1, 2, 3, 4] bcast_S128x1x1x32x2048_S128x1x4x32x2048_0_1_2_3_4 : (⟨S128x1x1x32x2048, .bf16⟩ : BufTy).Contents (Elt F) → (⟨S128x1x4x32x2048, .bf16⟩ : BufTy).Contents (Elt F)),
    StableHlo.unary main_v92 main_v94 (broadcastInDim S128x1x4x32x2048 ![0, 1, 2, 3, 4] bcast_S128x1x4x1x2048_S128x1x4x32x2048_0_1_2_3_4 : (⟨S128x1x4x1x2048, .bf16⟩ : BufTy).Contents (Elt F) → (⟨S128x1x4x32x2048, .bf16⟩ : BufTy).Contents (Elt F)),
    StableHlo.binary main_v93 main_v94 main_v95 (mulf : (⟨S128x1x4x32x2048, .bf16⟩ : BufTy).Contents (Elt F) → (⟨S128x1x4x32x2048, .bf16⟩ : BufTy).Contents (Elt F) → (⟨S128x1x4x32x2048, .bf16⟩ : BufTy).Contents (Elt F)),
    StableHlo.binary main_v95 main_v0 main_v96 ((fun l r => Host.dotGeneral dot_S128x1x4x32x2048_S128x2048x512_S128x1x4x32x512_4_1_123_2_0_0 none l r) : (⟨S128x1x4x32x2048, .bf16⟩ : BufTy).Contents (Elt F) → (⟨S128x2048x512, .bf16⟩ : BufTy).Contents (Elt F) → (⟨S128x1x4x32x512, .f32⟩ : BufTy).Contents (Elt F)) ]
/-- What these operations write. -/
abbrev mixOps_W : List (Ref sig .tc) := [main_v90, main_v91, main_v92, main_v93, main_v94, main_v95, main_v96]
theorem mixOps_writes : (mixOps : List (HloOp τ sig (Elt F))).Forall fun op => op.writes ⊆ (mixOps_W.map (Proc.devRef (τ := τ) .tc)).toFinset :=
  StableHlo.forall_writes_sub_of_map rfl

/-- The first group's mask and weighted sum. -/
abbrev sliceOps : List (HloOp τ sig (Elt F)) :=
  [ StableHlo.unary main_v9 main_v97 ((extractStridedSlice S1x512 ![0, 0] · slices_S4x512_S1x512_0_0) : (⟨S4x512, .i1⟩ : BufTy).Contents (Elt F) → (⟨S1x512, .i1⟩ : BufTy).Contents (Elt F)),
    StableHlo.reshape main_v97 main_v98 (rfl : (.i1 : EltTy) = .i1) shapeCasts_S1x512_S512,
    StableHlo.unary main_v98 main_v99 (broadcastInDim S1x1x1x512 ![3] bcast_S512_S1x1x1x512_3 : (⟨S512, .i1⟩ : BufTy).Contents (Elt F) → (⟨S1x1x1x512, .i1⟩ : BufTy).Contents (Elt F)),
    StableHlo.unary main_v96 main_v100 ((extractStridedSlice S128x1x1x32x512 ![0, 0, 0, 0, 0] · slices_S128x1x4x32x512_S128x1x1x32x512_0_0_0_0_0) : (⟨S128x1x4x32x512, .f32⟩ : BufTy).Contents (Elt F) → (⟨S128x1x1x32x512, .f32⟩ : BufTy).Contents (Elt F)),
    StableHlo.reshape main_v100 main_v101 (rfl : (.f32 : EltTy) = .f32) shapeCasts_S128x1x1x32x512_S128x1x32x512,
    StableHlo.nullary main_cst_9 (constant S_ .f32 0x00000000#32) ]
/-- What these operations write. -/
abbrev sliceOps_W : List (Ref sig .tc) := [main_v97, main_v98, main_v99, main_v100, main_v101, main_cst_9]
theorem sliceOps_writes : (sliceOps : List (HloOp τ sig (Elt F))).Forall fun op => op.writes ⊆ (sliceOps_W.map (Proc.devRef (τ := τ) .tc)).toFinset :=
  StableHlo.forall_writes_sub_of_map rfl

/-- The program's list is these lists, one after the other. -/
theorem hostOps1_8_eq : (hostOps1_8 : List (HloOp τ sig (Elt F))) = maxOps ++ (expOps ++ (sumOps ++ (probOps ++ (mixOps ++ sliceOps)))) := rfl

end Cert.ReferenceIdeal.Own

end
-- ==== Proof.ReferenceIdeal.Stages.lean ====
/-
  WHAT EACH GROUP OF THE REFERENCE'S HOST OPERATIONS LEAVES, read at an index, over any contents of the buffers before it.
-/
module

public import proofs.«01_k».proof.Proof.ReferenceIdeal.Lists
public import proofs.«01_k».proof.Proof.Groups
public import Idealize.ShloMosaic.Lib.StableHlo.ReadAt

@[expose] public section

set_option maxRecDepth 16384

noncomputable section

namespace Cert.ReferenceIdeal.Own

open Idealize.ShloMosaic Idealize.ShloMosaic.TcCoe Idealize.SL.Sem
open Cert.ReferenceIdeal Cert.ReferenceIdeal.Gen Cert.Attn

variable (Z : Valuation τ sig (Elt Ideal))

/-! ## The groups -/

/-- After the operations that mask the query: the scale transposed, the mask of each group, the query under each mask. -/
abbrev afterMask : Valuation τ sig (Elt Ideal) := StableHlo.after (hostOps1_3 (F := Ideal)) (StableHlo.after (hostOps1_2 (F := Ideal)) (StableHlo.after (hostOps1_1 (F := Ideal)) (StableHlo.after (hostOps1 (F := Ideal)) Z)))
/-- After the operations that compute the scores. -/
abbrev afterScore : Valuation τ sig (Elt Ideal) := StableHlo.after (hostOps1_4 (F := Ideal)) Z
/-- After the operations that set the scores past the cache length to minus infinity. -/
abbrev afterVis : Valuation τ sig (Elt Ideal) := StableHlo.after (hostOps1_7 (F := Ideal)) (StableHlo.after (hostOps1_6 (F := Ideal)) (StableHlo.after (hostOps1_5 (F := Ideal)) Z))
/-- After the operations that put the groups' sums together. -/
abbrev afterJoin : Valuation τ sig (Elt Ideal) := StableHlo.after (hostOps1_16 (F := Ideal)) (StableHlo.after (hostOps1_15 (F := Ideal)) (StableHlo.after (hostOps1_14 (F := Ideal)) (StableHlo.after (hostOps1_13 (F := Ideal)) (StableHlo.after (hostOps1_12 (F := Ideal)) (StableHlo.after (hostOps1_11 (F := Ideal)) (StableHlo.after (hostOps1_10 (F := Ideal)) (StableHlo.after (hostOps1_9 (F := Ideal)) (StableHlo.after (sliceOps (F := Ideal)) Z))))))))

/-! ## The mask of a group -/

set_option maxRecDepth 65536 in
/-- The word the program computes for the mask of a group: `c / 128`, rounded down, equals `g`. -/
theorem mask_word (g : Fin 4) (c : Fin 512) :
    IntOp.cmpi CmpIPredicate.eq
      (Scalar.select
        (IntOp.andi
          (IntOp.cmpi (w := 32) CmpIPredicate.ne
            (if BitVec.ofNat 32 c.val = 0 then 0 else if (BitVec.ofNat 32 c.val).msb = true then -1 else 1)
            (if (128#32 : BitVec 32) = 0 then 0 else if BitVec.msb (128#32 : BitVec 32) = true then -1 else 1))
          (IntOp.cmpi CmpIPredicate.ne
            (IntOp.remsi ArithUnit.host (BitVec.ofNat 32 c.val) 128#32) 0#32))
        (IntOp.subi (IntOp.divsi ArithUnit.host (BitVec.ofNat 32 c.val) 128#32) 1#32)
        (IntOp.divsi ArithUnit.host (BitVec.ofNat 32 c.val) 128#32))
      (BitVec.ofNat 32 g.val) = inGroup g c := by
  revert g c
  decide +kernel

theorem mask_at (g : Fin 4) (c : Fin 512) :
    (afterMask Z (Proc.devRef .tc main_v9) : IVec S4x512 1) (ix2 g c) = inGroup g c := by
  after_reads_at
  exact mask_word g c

/-- The query with every channel outside group `g` set to zero. -/
theorem query_at (b : Fin 128) (g : Fin 4) (h : Fin 32) (c : Fin 512) (x : Fin 512 → EReal)
    (hx : ∀ c, (Z (Proc.devRef .tc main_arg0) : FVec Ideal S128x1x32x512 .bf16) (ix4 b 0 h c) = x c) :
    (afterMask Z (Proc.devRef .tc main_v12) : FVec Ideal S128x1x4x32x512 .bf16) (ix5 b 0 g h c) = Scalar.select (inGroup g c) (x c) 0 := by
  rw [← hx]
  after_reads_at
  rw [← mask_word g c]
  rfl

theorem scale_at (b : Fin 128) (g : Fin 4) (p : Fin 2048) :
    (afterMask Z (Proc.devRef .tc main_v1) : FVec Ideal S128x4x2048 .f32) (ix3 b g p)
      = (Z (Proc.devRef .tc main_arg5) : FVec Ideal S128x2048x4 .f32) (ix3 b p g) := by
  after_reads_at

/-! ## The scores -/

/-! ## The scores -/

/-- The score of a position, before the cache length is looked at. -/
theorem raw_at (b : Fin 128) (h : Fin 32) (p : Fin 2048) (q : Fin 4 → Fin 512 → EReal) (hq : ∀ g c, (Z (Proc.devRef .tc main_v12) : FVec Ideal S128x1x4x32x512 .bf16) (ix5 b 0 g h c) = q g c)
    (codes : Fin 2048 → Fin 512 → EReal) (hk : ∀ p c, (Z (Proc.devRef .tc main_v0) : FVec Ideal S128x2048x512 .bf16) (ix3 b p c) = codes p c)
    (scale : Fin 4 → Fin 2048 → EReal) (hs : ∀ g p, (Z (Proc.devRef .tc main_v1) : FVec Ideal S128x4x2048 .f32) (ix3 b g p) = scale g p)
    (qr : Fin 64 → EReal) (hqr : ∀ r, (Z (Proc.devRef .tc main_arg1) : FVec Ideal S128x1x32x64 .bf16) (ix4 b 0 h r) = qr r)
    (kr : Fin 64 → Fin 2048 → EReal) (hkr : ∀ r p, (Z (Proc.devRef .tc main_arg6) : FVec Ideal S128x2048x64 .bf16) (ix3 b p r) = kr r p) :
    (afterScore Z (Proc.devRef .tc main_v48) : FVec Ideal S128x1x32x2048 .f32) (ix4 b 0 h p)
      = ((∑ c, q 0 c * codes p c) * scale 0 p + (∑ c, q 1 c * codes p c) * scale 1 p + (∑ c, q 2 c * codes p c) * scale 2 p
          + (∑ c, q 3 c * codes p c) * scale 3 p + ∑ r, qr r * kr r p) * Ideal.ofBits .f32 0x3D93CD3A#32 := by
  simp only [← hq, ← hk, ← hs, ← hqr, ← hkr]
  after_reads_at

/-- The new token's score. -/
theorem rawNew_at (b : Fin 128) (h : Fin 32) (x : Fin 512 → EReal) (hx : ∀ c, (Z (Proc.devRef .tc main_arg0) : FVec Ideal S128x1x32x512 .bf16) (ix4 b 0 h c) = x c)
    (qr : Fin 64 → EReal) (hqr : ∀ r, (Z (Proc.devRef .tc main_arg1) : FVec Ideal S128x1x32x64 .bf16) (ix4 b 0 h r) = qr r)
    (kvn : Fin 512 → EReal) (hkn : ∀ c, (Z (Proc.devRef .tc main_arg2) : FVec Ideal S128x1x512 .bf16) (ix3 b 0 c) = kvn c)
    (krn : Fin 64 → EReal) (hrn : ∀ r, (Z (Proc.devRef .tc main_arg3) : FVec Ideal S128x1x64 .bf16) (ix3 b 0 r) = krn r) :
    (afterScore Z (Proc.devRef .tc main_v53) : FVec Ideal S128x1x32x1 .f32) (ix4 b 0 h 0)
      = (∑ c, x c * kvn c + ∑ r, qr r * krn r) * Ideal.ofBits .f32 0x3D93CD3A#32 := by
  simp only [← hx, ← hqr, ← hkn, ← hrn]
  after_reads_at

/-- Whether a position lies before the cache length. -/
theorem vis_at (b : Fin 128) (p : Fin 2048) :
    (afterScore Z (Proc.devRef .tc main_v60) : IVec S128x1x1x2048 1) (ix4 b 0 0 p)
      = IntOp.cmpi .slt (BitVec.ofNat 32 p.val) ((Z (Proc.devRef .tc main_arg7) : IVec S128 32) (ix1 b)) := by
  after_reads_at

theorem visNew_at : (afterScore Z (Proc.devRef .tc main_v66) : IVec S1x1x1x1 1) (ix4 0 0 0 0) = 1#1 := by
  after_reads_at
  decide +kernel

theorem low_at : (afterScore Z (Proc.devRef .tc main_cst_2) : FVec Ideal S_ .f32) ix0 = Ideal.ofBits .f32 0xFF800000#32 := by
  after_reads_at

/-- The score of a position, minus infinity from the cache length on. -/
theorem score_at (b : Fin 128) (h : Fin 32) (p : Fin 2048) :
    (afterVis Z (Proc.devRef .tc main_v67) : FVec Ideal S128x1x32x2048 .f32) (ix4 b 0 h p)
      = Scalar.select ((Z (Proc.devRef .tc main_v60) : IVec S128x1x1x2048 1) (ix4 b 0 0 p)) ((Z (Proc.devRef .tc main_v48) : FVec Ideal S128x1x32x2048 .f32) (ix4 b 0 h p))
        ((Z (Proc.devRef .tc main_cst_2) : FVec Ideal S_ .f32) ix0) := by
  after_reads_at
  rfl

theorem scoreNew_at (b : Fin 128) (h : Fin 32) :
    (afterVis Z (Proc.devRef .tc main_v68) : FVec Ideal S128x1x32x1 .f32) (ix4 b 0 h 0)
      = Scalar.select ((Z (Proc.devRef .tc main_v66) : IVec S1x1x1x1 1) (ix4 0 0 0 0)) ((Z (Proc.devRef .tc main_v53) : FVec Ideal S128x1x32x1 .f32) (ix4 b 0 h 0))
        (Ideal.ofBits .f32 0xFF800000#32) := by
  after_reads_at
  rfl

/-! ## The softmax -/

theorem max_row (b : Fin 128) (h : Fin 32) (x : FVec Ideal S128x1x32x2048 .f32) (v : FVec Ideal S_ .f32) :
    Host.reduce FloatOps.maximumf x v reducesTo_S128x1x32x2048_S128x1x32_d3 h_S_ (ix3 b 0 h)
      = Finset.univ.fold max (v (Shape.Idx.first h_S_)) fun p => x (ix4 b 0 h p) := by
  pointwise

theorem max_one (b : Fin 128) (h : Fin 32) (x : FVec Ideal S128x1x32x1 .f32) (v : FVec Ideal S_ .f32) :
    Host.reduce FloatOps.maximumf x v reducesTo_S128x1x32x1_S128x1x32_d3 h_S_ (ix3 b 0 h)
      = Finset.univ.fold max (v (Shape.Idx.first h_S_)) fun p => x (ix4 b 0 h p) := by
  pointwise

theorem column_at (b : Fin 128) (h : Fin 32) (x : FVec Ideal S128x1x32 .f32) :
    broadcastInDim S128x1x32x1 ![0, 1, 2] bcast_S128x1x32_S128x1x32x1_0_1_2 x (ix4 b 0 h 0) = x (ix3 b 0 h) := by
  pointwise

theorem maximumf_at (b : Fin 128) (h : Fin 32) (x y : FVec Ideal S128x1x32 .f32) :
    (maximumf x y : FVec Ideal S128x1x32 .f32) (ix3 b 0 h) = max (x (ix3 b 0 h)) (y (ix3 b 0 h)) := by
  pointwise

/-- The maximum of the scores. -/
theorem max_at (b : Fin 128) (h : Fin 32) (s : Fin 2048 → EReal) (hs : ∀ p, (Z (Proc.devRef .tc main_v67) : FVec Ideal S128x1x32x2048 .f32) (ix4 b 0 h p) = s p)
    (sn : EReal) (hn : (Z (Proc.devRef .tc main_v68) : FVec Ideal S128x1x32x1 .f32) (ix4 b 0 h 0) = sn) :
    (StableHlo.after (maxOps (F := Ideal)) Z (Proc.devRef .tc main_v72) : FVec Ideal S128x1x32x1 .f32) (ix4 b 0 h 0)
      = max (Finset.univ.fold max (Ideal.ofBits .f32 0xFF800000#32) s) (max sn (Ideal.ofBits .f32 0xFF800000#32)) := by
  after_reads_simp
  refine (column_at b h _).trans ?_
  rw [← hn, show s = fun p => _ from funext fun p => (hs p).symm]
  refine (maximumf_at b h _ _).trans ?_
  rw [max_row, max_one]
  refine congrArg₂ max rfl ?_
  rw [show (Finset.univ : Finset (Fin 1)) = {0} from rfl, Finset.fold_singleton]
  rfl

theorem exp_at (b : Fin 128) (h : Fin 32) (p : Fin 2048) (s : Fin 2048 → EReal) (hs : ∀ p, (Z (Proc.devRef .tc main_v67) : FVec Ideal S128x1x32x2048 .f32) (ix4 b 0 h p) = s p)
    (m : EReal) (hm : (Z (Proc.devRef .tc main_v72) : FVec Ideal S128x1x32x1 .f32) (ix4 b 0 h 0) = m) :
    (StableHlo.after (expOps (F := Ideal)) Z (Proc.devRef .tc main_v75) : FVec Ideal S128x1x32x2048 .f32) (ix4 b 0 h p) = Ideal.exp (s p - m) := by
  rw [← hs, ← hm]
  after_reads_at

theorem expNew_at (b : Fin 128) (h : Fin 32) (sn : EReal) (hn : (Z (Proc.devRef .tc main_v68) : FVec Ideal S128x1x32x1 .f32) (ix4 b 0 h 0) = sn)
    (m : EReal) (hm : (Z (Proc.devRef .tc main_v72) : FVec Ideal S128x1x32x1 .f32) (ix4 b 0 h 0) = m) :
    (StableHlo.after (expOps (F := Ideal)) Z (Proc.devRef .tc main_v77) : FVec Ideal S128x1x32x1 .f32) (ix4 b 0 h 0) = Ideal.exp (sn - m) := by
  rw [← hn, ← hm]
  after_reads_at

/-- The sum of the exponentials. -/
theorem sum_at (b : Fin 128) (h : Fin 32) (e : Fin 2048 → EReal) (he : ∀ p, (Z (Proc.devRef .tc main_v75) : FVec Ideal S128x1x32x2048 .f32) (ix4 b 0 h p) = e p)
    (en : EReal) (hen : (Z (Proc.devRef .tc main_v77) : FVec Ideal S128x1x32x1 .f32) (ix4 b 0 h 0) = en) :
    (StableHlo.after (sumOps (F := Ideal)) Z (Proc.devRef .tc main_v82) : FVec Ideal S128x1x32x1 .f32) (ix4 b 0 h 0) = ∑ p, e p + en := by
  rw [← hen]
  simp only [← he]
  after_reads_at
  rw [Fin.sum_univ_one]

/-- The probabilities. -/
theorem prob_at (b : Fin 128) (h : Fin 32) (p : Fin 2048) (e : Fin 2048 → EReal) (he : ∀ p, (Z (Proc.devRef .tc main_v75) : FVec Ideal S128x1x32x2048 .f32) (ix4 b 0 h p) = e p)
    (d : EReal) (hd : (Z (Proc.devRef .tc main_v82) : FVec Ideal S128x1x32x1 .f32) (ix4 b 0 h 0) = d) :
    (StableHlo.after (probOps (F := Ideal)) Z (Proc.devRef .tc main_v87) : FVec Ideal S128x1x32x2048 .bf16) (ix4 b 0 h p) = e p * Ideal.div 1 d := by
  rw [← he, ← hd]
  after_reads_at

theorem probNew_at (b : Fin 128) (h : Fin 32) (en : EReal) (hen : (Z (Proc.devRef .tc main_v77) : FVec Ideal S128x1x32x1 .f32) (ix4 b 0 h 0) = en)
    (d : EReal) (hd : (Z (Proc.devRef .tc main_v82) : FVec Ideal S128x1x32x1 .f32) (ix4 b 0 h 0) = d) :
    (StableHlo.after (probOps (F := Ideal)) Z (Proc.devRef .tc main_v89) : FVec Ideal S128x1x32x1 .bf16) (ix4 b 0 h 0) = en * Ideal.div 1 d := by
  rw [← hen, ← hd]
  after_reads_at

/-! ## The weighted sum -/

/-- The weighted sum of the codes with the scales of group `g`. -/
theorem mix_at (b : Fin 128) (g : Fin 4) (h : Fin 32) (c : Fin 512) (pr : Fin 2048 → EReal) (hp : ∀ p, (Z (Proc.devRef .tc main_v87) : FVec Ideal S128x1x32x2048 .bf16) (ix4 b 0 h p) = pr p)
    (scale : Fin 4 → Fin 2048 → EReal) (hs : ∀ g p, (Z (Proc.devRef .tc main_v1) : FVec Ideal S128x4x2048 .f32) (ix3 b g p) = scale g p)
    (codes : Fin 2048 → Fin 512 → EReal) (hk : ∀ p c, (Z (Proc.devRef .tc main_v0) : FVec Ideal S128x2048x512 .bf16) (ix3 b p c) = codes p c) :
    (StableHlo.after (mixOps (F := Ideal)) Z (Proc.devRef .tc main_v96) : FVec Ideal S128x1x4x32x512 .f32) (ix5 b 0 g h c)
      = ∑ p, pr p * scale g p * codes p c := by
  simp only [← hp, ← hs, ← hk]
  after_reads_at

/-- The result: each channel from the sum with its group's scales, and the new token's part. -/
theorem join_at (b : Fin 128) (h : Fin 32) (c : Fin 512) (mk : Fin 4 → BitVec 1) (hmk : ∀ g, (Z (Proc.devRef .tc main_v9) : IVec S4x512 1) (ix2 g c) = mk g)
    (o : Fin 4 → EReal) (ho : ∀ g, (Z (Proc.devRef .tc main_v96) : FVec Ideal S128x1x4x32x512 .f32) (ix5 b 0 g h c) = o g)
    (pn : EReal) (hpn : (Z (Proc.devRef .tc main_v89) : FVec Ideal S128x1x32x1 .bf16) (ix4 b 0 h 0) = pn)
    (v : EReal) (hv : (Z (Proc.devRef .tc main_arg2) : FVec Ideal S128x1x512 .bf16) (ix3 b 0 c) = v) :
    (afterJoin Z (Proc.devRef .tc main_v127) : FVec Ideal S128x32x512 .bf16) (ix3 b h c)
      = Scalar.select (mk 0) (o 0) 0 + Scalar.select (mk 1) (o 1) 0 + Scalar.select (mk 2) (o 2) 0 + Scalar.select (mk 3) (o 3) 0 + pn * v := by
  simp only [← hmk, ← ho]
  rw [← hpn, ← hv]
  after_reads_at
  rw [Fin.sum_univ_one]
  have hz : (id (constant (F := Ideal) S_ FTy.f32 0x00000000#32) ix0 : EReal) = 0 := by
    show Ideal.ofBits .f32 0x00000000#32 = 0
    pointwise
  simp only [hz]

end Cert.ReferenceIdeal.Own

end
-- ==== Proof.ReferenceIdeal.Chain.lean ====
/-
  THE REFERENCE'S RESULT AT AN INDEX: the groups of host operations one after the other, from the contents the kernel region leaves.
-/
module

public import proofs.«01_k».proof.Proof.ReferenceIdeal.Stages

@[expose] public section

set_option maxRecDepth 16384

noncomputable section

namespace Cert.ReferenceIdeal.Own

open Idealize.ShloMosaic Idealize.ShloMosaic.TcCoe Idealize.SL.Sem
open Cert.ReferenceIdeal Cert.ReferenceIdeal.Gen Cert.Attn

variable (Z : Valuation τ sig (Elt Ideal))

/-! ## What a group of operations does not write it keeps -/

theorem keep_mask (r : Ref sig .tc) (h0 : r ∉ hostOps1_W) (h1 : r ∉ hostOps1_1_W) (h2 : r ∉ hostOps1_2_W) (h3 : r ∉ hostOps1_3_W) :
    afterMask Z (Proc.devRef .tc r) = Z (Proc.devRef .tc r) := by
  rw [afterMask, StableHlo.after_of_writes_sub hostOps1_3 _ hostOps1_3_writes h3, StableHlo.after_of_writes_sub hostOps1_2 _ hostOps1_2_writes h2,
    StableHlo.after_of_writes_sub hostOps1_1 _ hostOps1_1_writes h1, StableHlo.after_of_writes_sub hostOps1 _ hostOps1_writes h0]

theorem keep_score (r : Ref sig .tc) (h : r ∉ hostOps1_4_W) : afterScore Z (Proc.devRef .tc r) = Z (Proc.devRef .tc r) :=
  StableHlo.after_of_writes_sub hostOps1_4 _ hostOps1_4_writes h

theorem keep_vis (r : Ref sig .tc) (h0 : r ∉ hostOps1_5_W) (h1 : r ∉ hostOps1_6_W) (h2 : r ∉ hostOps1_7_W) :
    afterVis Z (Proc.devRef .tc r) = Z (Proc.devRef .tc r) := by
  rw [afterVis, StableHlo.after_of_writes_sub hostOps1_7 _ hostOps1_7_writes h2, StableHlo.after_of_writes_sub hostOps1_6 _ hostOps1_6_writes h1,
    StableHlo.after_of_writes_sub hostOps1_5 _ hostOps1_5_writes h0]

theorem keep_max (r : Ref sig .tc) (h : r ∉ maxOps_W) :
    StableHlo.after (maxOps (F := Ideal)) Z (Proc.devRef .tc r) = Z (Proc.devRef .tc r) := StableHlo.after_of_writes_sub maxOps _ maxOps_writes h
theorem keep_exp (r : Ref sig .tc) (h : r ∉ expOps_W) :
    StableHlo.after (expOps (F := Ideal)) Z (Proc.devRef .tc r) = Z (Proc.devRef .tc r) := StableHlo.after_of_writes_sub expOps _ expOps_writes h
theorem keep_sum (r : Ref sig .tc) (h : r ∉ sumOps_W) :
    StableHlo.after (sumOps (F := Ideal)) Z (Proc.devRef .tc r) = Z (Proc.devRef .tc r) := StableHlo.after_of_writes_sub sumOps _ sumOps_writes h
theorem keep_prob (r : Ref sig .tc) (h : r ∉ probOps_W) :
    StableHlo.after (probOps (F := Ideal)) Z (Proc.devRef .tc r) = Z (Proc.devRef .tc r) := StableHlo.after_of_writes_sub probOps _ probOps_writes h
theorem keep_mix (r : Ref sig .tc) (h : r ∉ mixOps_W) :
    StableHlo.after (mixOps (F := Ideal)) Z (Proc.devRef .tc r) = Z (Proc.devRef .tc r) := StableHlo.after_of_writes_sub mixOps _ mixOps_writes h

/-! ## The softmax and the weighted sum, from the scores -/

/-- The buffers once the scores are masked: from there to the result. -/
def afterSoftmax : Valuation τ sig (Elt Ideal) :=
  StableHlo.after (probOps (F := Ideal)) (StableHlo.after (sumOps (F := Ideal)) (StableHlo.after (expOps (F := Ideal)) (StableHlo.after (maxOps (F := Ideal)) Z)))

theorem keep_softmax (r : Ref sig .tc) (h0 : r ∉ maxOps_W) (h1 : r ∉ expOps_W) (h2 : r ∉ sumOps_W) (h3 : r ∉ probOps_W) :
    afterSoftmax Z (Proc.devRef .tc r) = Z (Proc.devRef .tc r) := by
  rw [afterSoftmax, keep_prob _ r h3, keep_sum _ r h2, keep_exp _ r h1, keep_max _ r h0]

section Softmax

variable (b : Fin 128) (h : Fin 32) (s : Fin 2048 → EReal) (hs : ∀ p, (Z (Proc.devRef .tc main_v67) : FVec Ideal S128x1x32x2048 .f32) (ix4 b 0 h p) = s p)
    (sn : EReal) (hn : (Z (Proc.devRef .tc main_v68) : FVec Ideal S128x1x32x1 .f32) (ix4 b 0 h 0) = sn)

include hs hn

theorem top_eq : (StableHlo.after (maxOps (F := Ideal)) Z (Proc.devRef .tc main_v72) : FVec Ideal S128x1x32x1 .f32) (ix4 b 0 h 0)
    = max sn (Finset.univ.fold max ⊥ s) := by
  rw [max_at Z b h s hs sn hn, low_eq, max_bot_right, max_comm]

theorem exps_eq (p : Fin 2048) :
    (StableHlo.after (expOps (F := Ideal)) (StableHlo.after (maxOps (F := Ideal)) Z) (Proc.devRef .tc main_v75) : FVec Ideal S128x1x32x2048 .f32) (ix4 b 0 h p)
      = Ideal.exp (s p - max sn (Finset.univ.fold max ⊥ s)) :=
  exp_at _ b h p s (fun p => by rw [keep_max Z main_v67 (by decide +kernel)]; exact hs p) _ (top_eq Z b h s hs sn hn)

theorem expNew_eq :
    (StableHlo.after (expOps (F := Ideal)) (StableHlo.after (maxOps (F := Ideal)) Z) (Proc.devRef .tc main_v77) : FVec Ideal S128x1x32x1 .f32) (ix4 b 0 h 0)
      = Ideal.exp (sn - max sn (Finset.univ.fold max ⊥ s)) :=
  expNew_at _ b h sn (by rw [keep_max Z main_v68 (by decide +kernel)]; exact hn) _ (top_eq Z b h s hs sn hn)

theorem prob_eq (p : Fin 2048) :
    (afterSoftmax Z (Proc.devRef .tc main_v87) : FVec Ideal S128x1x32x2048 .bf16) (ix4 b 0 h p)
      = Ideal.exp (s p - max sn (Finset.univ.fold max ⊥ s))
        * Ideal.div 1 (∑ p, Ideal.exp (s p - max sn (Finset.univ.fold max ⊥ s)) + Ideal.exp (sn - max sn (Finset.univ.fold max ⊥ s))) :=
  prob_at _ b h p (fun p => Ideal.exp (s p - max sn (Finset.univ.fold max ⊥ s))) (fun p => by rw [keep_sum _ main_v75 (by decide +kernel)]; exact exps_eq Z b h s hs sn hn p) _
    (sum_at _ b h _ (exps_eq Z b h s hs sn hn) _ (expNew_eq Z b h s hs sn hn))

theorem probNew_eq :
    (afterSoftmax Z (Proc.devRef .tc main_v89) : FVec Ideal S128x1x32x1 .bf16) (ix4 b 0 h 0)
      = Ideal.exp (sn - max sn (Finset.univ.fold max ⊥ s))
        * Ideal.div 1 (∑ p, Ideal.exp (s p - max sn (Finset.univ.fold max ⊥ s)) + Ideal.exp (sn - max sn (Finset.univ.fold max ⊥ s))) :=
  probNew_at _ b h _ (by rw [keep_sum _ main_v77 (by decide +kernel)]; exact expNew_eq Z b h s hs sn hn) _
    (sum_at _ b h _ (exps_eq Z b h s hs sn hn) _ (expNew_eq Z b h s hs sn hn))

end Softmax

/-! ## The whole -/

/-- The buffers when the program ends, from the contents the kernel region leaves. -/
def afterAll : Valuation τ sig (Elt Ideal) :=
  afterJoin (StableHlo.after (mixOps (F := Ideal)) (afterSoftmax (afterVis (afterScore (afterMask Z)))))

section Whole

variable (b : Fin 128) (h : Fin 32)
    (x : Fin 512 → EReal) (hx : ∀ c, (Z (Proc.devRef .tc main_arg0) : FVec Ideal S128x1x32x512 .bf16) (ix4 b 0 h c) = x c)
    (qr : Fin 64 → EReal) (hqr : ∀ r, (Z (Proc.devRef .tc main_arg1) : FVec Ideal S128x1x32x64 .bf16) (ix4 b 0 h r) = qr r)
    (kvn : Fin 512 → EReal) (hkn : ∀ c, (Z (Proc.devRef .tc main_arg2) : FVec Ideal S128x1x512 .bf16) (ix3 b 0 c) = kvn c)
    (krn : Fin 64 → EReal) (hrn : ∀ r, (Z (Proc.devRef .tc main_arg3) : FVec Ideal S128x1x64 .bf16) (ix3 b 0 r) = krn r)
    (codes : Fin 2048 → Fin 512 → EReal) (hk : ∀ p c, (Z (Proc.devRef .tc main_v0) : FVec Ideal S128x2048x512 .bf16) (ix3 b p c) = codes p c)
    (scale : Fin 4 → Fin 2048 → EReal) (hs : ∀ g p, (Z (Proc.devRef .tc main_arg5) : FVec Ideal S128x2048x4 .f32) (ix3 b p g) = scale g p)
    (kr : Fin 64 → Fin 2048 → EReal) (hkr : ∀ r p, (Z (Proc.devRef .tc main_arg6) : FVec Ideal S128x2048x64 .bf16) (ix3 b p r) = kr r p)
    (w : BitVec 32) (hw : (Z (Proc.devRef .tc main_arg7) : IVec S128 32) (ix1 b) = w)

include hx hqr hk hs hkr hw in
theorem scores_eq (p : Fin 2048) :
    (afterVis (afterScore (afterMask Z)) (Proc.devRef .tc main_v67) : FVec Ideal S128x1x32x2048 .f32) (ix4 b 0 h p)
      = Attn.score x qr codes scale kr w.toInt p := by
  rw [score_at, low_at, low_eq, vis_at, keep_mask Z main_arg7 (by decide +kernel) (by decide +kernel) (by decide +kernel) (by decide +kernel), hw,
    select_vis p.val p.isLt]
  rw [raw_at (afterMask Z) b h p (fun g c => Scalar.select (inGroup g c) (x c) 0) (fun g c => query_at Z b g h c x hx) codes
    (fun p c => by rw [keep_mask Z main_v0 (by decide +kernel) (by decide +kernel) (by decide +kernel) (by decide +kernel)]; exact hk p c) scale
    (fun g p => (scale_at Z b g p).trans (hs g p)) qr
    (fun r => by rw [keep_mask Z main_arg1 (by decide +kernel) (by decide +kernel) (by decide +kernel) (by decide +kernel)]; exact hqr r) kr
    (fun r p => by rw [keep_mask Z main_arg6 (by decide +kernel) (by decide +kernel) (by decide +kernel) (by decide +kernel)]; exact hkr r p)]
  simp only [sum_group]
  rfl

include hx hqr hkn hrn in
theorem scoreNew_eq :
    (afterVis (afterScore (afterMask Z)) (Proc.devRef .tc main_v68) : FVec Ideal S128x1x32x1 .f32) (ix4 b 0 h 0)
      = Attn.scoreNew x qr kvn krn := by
  rw [scoreNew_at, visNew_at]
  rw [rawNew_at (afterMask Z) b h x
    (fun c => by rw [keep_mask Z main_arg0 (by decide +kernel) (by decide +kernel) (by decide +kernel) (by decide +kernel)]; exact hx c) qr
    (fun r => by rw [keep_mask Z main_arg1 (by decide +kernel) (by decide +kernel) (by decide +kernel) (by decide +kernel)]; exact hqr r) kvn
    (fun c => by rw [keep_mask Z main_arg2 (by decide +kernel) (by decide +kernel) (by decide +kernel) (by decide +kernel)]; exact hkn c) krn
    (fun r => by rw [keep_mask Z main_arg3 (by decide +kernel) (by decide +kernel) (by decide +kernel) (by decide +kernel)]; exact hrn r)]
  rfl

/-- What reaches the weighted sum as the operations before it found it. -/
theorem keep_to_mix (r : Ref sig .tc) (h0 : r ∉ maxOps_W) (h1 : r ∉ expOps_W) (h2 : r ∉ sumOps_W) (h3 : r ∉ probOps_W)
    (h4 : r ∉ hostOps1_5_W) (h5 : r ∉ hostOps1_6_W) (h6 : r ∉ hostOps1_7_W) (h7 : r ∉ hostOps1_4_W) :
    afterSoftmax (afterVis (afterScore Z)) (Proc.devRef .tc r) = Z (Proc.devRef .tc r) := by
  rw [keep_softmax _ r h0 h1 h2 h3, keep_vis _ r h4 h5 h6, keep_score _ r h7]

include hx hqr hkn hrn hk hs hkr hw

/-- The result at head `h` and channel `c` of sequence `b`. -/
theorem result_eq (c : Fin 512) :
    (afterAll Z (Proc.devRef .tc main_v127) : FVec Ideal S128x32x512 .bf16) (ix3 b h c)
      = Attn.out x qr kvn krn codes scale kr w.toInt (groupOf c) c := by
  have hsc := scores_eq Z b h x hx qr hqr codes hk scale hs kr hkr w hw
  have hsn := scoreNew_eq Z b h x hx qr hqr kvn hkn krn hrn
  have hpr : ∀ p, (afterSoftmax (afterVis (afterScore (afterMask Z))) (Proc.devRef .tc main_v87) : FVec Ideal S128x1x32x2048 .bf16) (ix4 b 0 h p)
      = Attn.ex x qr kvn krn codes scale kr w.toInt p * Attn.inv x qr kvn krn codes scale kr w.toInt := prob_eq _ b h _ hsc _ hsn
  have hpn : (afterSoftmax (afterVis (afterScore (afterMask Z))) (Proc.devRef .tc main_v89) : FVec Ideal S128x1x32x1 .bf16) (ix4 b 0 h 0)
      = Attn.exNew x qr kvn krn codes scale kr w.toInt * Attn.inv x qr kvn krn codes scale kr w.toInt := probNew_eq _ b h _ hsc _ hsn
  have hjoin := join_at (StableHlo.after (mixOps (F := Ideal)) (afterSoftmax (afterVis (afterScore (afterMask Z))))) b h c
    (fun g => inGroup g c)
    (fun g => by
      rw [keep_mix _ main_v9 (by decide +kernel), keep_to_mix _ main_v9 (by decide +kernel) (by decide +kernel) (by decide +kernel) (by decide +kernel)
        (by decide +kernel) (by decide +kernel) (by decide +kernel) (by decide +kernel)]
      exact mask_at Z g c)
    (fun g => ∑ p, Attn.ex x qr kvn krn codes scale kr w.toInt p * Attn.inv x qr kvn krn codes scale kr w.toInt * scale g p * codes p c)
    (fun g => mix_at _ b g h c _ hpr scale
      (fun g p => by
        rw [keep_to_mix _ main_v1 (by decide +kernel) (by decide +kernel) (by decide +kernel) (by decide +kernel)
          (by decide +kernel) (by decide +kernel) (by decide +kernel) (by decide +kernel)]
        exact (scale_at Z b g p).trans (hs g p)) codes
      (fun p c => by
        rw [keep_to_mix _ main_v0 (by decide +kernel) (by decide +kernel) (by decide +kernel) (by decide +kernel)
          (by decide +kernel) (by decide +kernel) (by decide +kernel) (by decide +kernel),
          keep_mask Z main_v0 (by decide +kernel) (by decide +kernel) (by decide +kernel) (by decide +kernel)]
        exact hk p c))
    (Attn.exNew x qr kvn krn codes scale kr w.toInt * Attn.inv x qr kvn krn codes scale kr w.toInt)
    (by
      rw [keep_mix _ main_v89 (by decide +kernel)]
      exact hpn)
    (kvn c)
    (by
      rw [keep_mix _ main_arg2 (by decide +kernel), keep_to_mix _ main_arg2 (by decide +kernel) (by decide +kernel) (by decide +kernel) (by decide +kernel)
        (by decide +kernel) (by decide +kernel) (by decide +kernel) (by decide +kernel),
        keep_mask Z main_arg2 (by decide +kernel) (by decide +kernel) (by decide +kernel) (by decide +kernel)]
      exact hkn c)
  have hpick : ∀ (o : Fin 4 → EReal) (u : EReal), Scalar.select (inGroup 0 c) (o 0) 0 + Scalar.select (inGroup 1 c) (o 1) 0
      + Scalar.select (inGroup 2 c) (o 2) 0 + Scalar.select (inGroup 3 c) (o 3) 0 + u = u + o (groupOf c) := fun o u => by
    rw [pick_group c o, add_comm]
  unfold Attn.out
  exact hjoin.trans (hpick (fun g => ∑ p, Attn.ex x qr kvn krn codes scale kr w.toInt p * Attn.inv x qr kvn krn codes scale kr w.toInt
    * scale g p * codes p c) _)

end Whole

end Cert.ReferenceIdeal.Own

end
-- ==== Proof.ReferenceIdeal.Value.lean ====
/-
  THE REFERENCE'S RESULT ARRAY, as the mathematics of each head over the program's arguments.
-/
module

public import proofs.«01_k».proof.Proof.ReferenceIdeal.Chain
public import Idealize.ShloMosaic.Lib.Pipeline.ValueKit

@[expose] public section

set_option maxRecDepth 16384

noncomputable section

namespace Cert.ReferenceIdeal.Own

open Idealize.ShloMosaic Idealize.ShloMosaic.TcCoe Idealize.SL.Sem
open Idealize.ShloMosaic.Pipeline (Dat)
open Cert.ReferenceIdeal Cert.ReferenceIdeal.Gen Cert.Attn

variable (m : (ℓ : Loc nD τ sig) → Buf (Elt Ideal) ℓ)

theorem idx : ∀ t : Fin cfg0.N, win0_0.index t = ![0, 0, 0] ∧ win0_1.index t = ![0, 0, 0] :=
  (by decide +kernel : ∀ t : Fin grid0.N, _)

/-- The kernel region leaves the codes, widened. -/
theorem widened (c : Dev nD) : (dats m 0 c).arrAt 1 (cfgs 0).N = k0_pay1 (F := Ideal) (m ((c : Thread nD τ).loc main_arg4)) := by
  refine (dats m 0 c).arrAt_eq_of_covers 1 _ (by decide +kernel) fun t _ y => ?_
  blk_simp
  rw [after0_1]; frame_out
  pointwise [k0_pay1]
  blk_point [iblk, V, idx t]

/-- The buffers as the kernel region leaves them. -/
def entry (c : Dev nD) : Valuation τ sig (Elt Ideal) :=
  Pipeline.withArrays (cfgs 0).spec c (V0 m c) fun w => (dats m 0 c).arrAt w (cfgs 0).N

theorem entry_keeps (c : Dev nD) (r : Ref sig .tc) (h : ∀ w, Pipeline.arrRef spec0 w ≠ r) :
    entry m c (Proc.devRef .tc r) = m ((c : Thread nD τ).loc r) :=
  Pipeline.withArrays_of_ne _ c (V0 m c) _ r h

theorem entry_codes (c : Dev nD) : entry m c (Proc.devRef .tc main_v0) = k0_pay1 (F := Ideal) (m ((c : Thread nD τ).loc main_arg4)) :=
  (Pipeline.withArrays_arr (cfgs 0).spec (fun w w' e => (by decide +kernel : ∀ w w', Pipeline.arrRef spec0 w = Pipeline.arrRef spec0 w' → w = w') w w' e) c (V0 m c) (fun w => (dats m 0 c).arrAt w (cfgs 0).N) 1).trans (widened m c)

/-- The last buffers are those after every group of host operations. -/
theorem tail_eq (c : Dev nD) (r : Ref sig .tc) :
    Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] c r
      = afterAll (entry m c) (Proc.devRef .tc r) := by
  unfold Pipeline.afterTail₀
  simp only [List.flatten_cons, List.flatten_nil, List.append_nil, StableHlo.after_append]
  rw [hostOps1_8_eq]
  simp only [StableHlo.after_append]
  rfl

/-- The result array. -/
theorem value (c : Dev nD) :
    Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] c main_v127
      = fun i : S128x32x512.Idx => Attn.result
        (fun b h k => (m ((c : Thread nD τ).loc main_arg0) : FVec Ideal S128x1x32x512 .bf16) (ix4 b 0 h k))
        (fun b h k => (m ((c : Thread nD τ).loc main_arg1) : FVec Ideal S128x1x32x64 .bf16) (ix4 b 0 h k))
        (fun b k => (m ((c : Thread nD τ).loc main_arg2) : FVec Ideal S128x1x512 .bf16) (ix3 b 0 k))
        (fun b k => (m ((c : Thread nD τ).loc main_arg3) : FVec Ideal S128x1x64 .bf16) (ix3 b 0 k))
        (fun b p k => (m ((c : Thread nD τ).loc main_arg4) : FVec Ideal S128x2048x512 .fp8e4m3) (ix3 b p k))
        (fun b p g => (m ((c : Thread nD τ).loc main_arg5) : FVec Ideal S128x2048x4 .f32) (ix3 b p g))
        (fun b p k => (m ((c : Thread nD τ).loc main_arg6) : FVec Ideal S128x2048x64 .bf16) (ix3 b p k))
        (fun b => (m ((c : Thread nD τ).loc main_arg7) : IVec S128 32) (ix1 b)) (i 0) (i 1) (i 2) := by
  rw [tail_eq]
  funext i
  obtain ⟨b, h, k, rfl⟩ : ∃ (b : Fin 128) (h : Fin 32) (k : Fin 512), i = ix3 b h k :=
    ⟨i 0, i 1, i 2, by funext a; fin_cases a <;> rfl⟩
  exact result_eq (entry m c) b h _ (fun k => by rw [entry_keeps m c main_arg0 (by decide)]; rfl) _ (fun r => by rw [entry_keeps m c main_arg1 (by decide)]; rfl)
    _ (fun k => by rw [entry_keeps m c main_arg2 (by decide)]; rfl) _ (fun r => by rw [entry_keeps m c main_arg3 (by decide)]; rfl)
    _ (fun p k => by rw [entry_codes m c]; rfl) _ (fun g p => by rw [entry_keeps m c main_arg5 (by decide)]; rfl)
    _ (fun r p => by rw [entry_keeps m c main_arg6 (by decide)]; rfl) _ (by rw [entry_keeps m c main_arg7 (by decide)]; rfl) k

end Cert.ReferenceIdeal.Own

end
-- ==== Proof.lean ====
/-
  The claims of the certificate, assembled: the kernel, at its words and over the extended reals, and the reference run to
  their ends and keep their arguments; over the extended reals the kernel's result is the reference's.
-/
module

public import proofs.«01_k».proof.Defs
public import proofs.«01_k».proof.Proof.Kernel.Frame
public import proofs.«01_k».proof.Proof.KernelIdeal.Value
public import proofs.«01_k».proof.Proof.ReferenceIdeal.Value
public import proofs.«01_k».proof.Proof.Gen.ReferenceIdeal.Frame
public import proofs.«01_k».proof.Proof.Gen.Pre_cache_fits
public import Idealize.ShloMosaic.Lib.StableHlo.Predicate

@[expose] public section

noncomputable section

namespace Cert.Proof

open Idealize.ShloMosaic Idealize.ShloMosaic.TcCoe Idealize.SL.Sem

/-- A signed comparison that answers yes. -/
theorem sle_of (a b : BitVec 32) (h : IntOp.cmpi .sle a b = 1#1) : a.toInt ≤ b.toInt := by
  have hb : a.sle b = true := by
    cases hc : a.sle b with
    | true => rfl
    | false => exact absurd (show BitVec.ofBool (a.sle b) = 1#1 from h) (by rw [hc]; decide)
  simpa [BitVec.sle] using hb

/-- The precondition read at one sequence. -/
theorem fits_Kernel (m : (ℓ : Loc Cert.Kernel.nD Cert.Kernel.τ Cert.Kernel.sig) → Buf (Elt Bits) ℓ) (h : Cert.Pre_Kernel m) :
    Cert.Kernel.Own.Fits m := Cert.Kernel.Own.fits_of m fun x => by
  have e := congrFun (h 0) x
  exact sle_of _ 2048#32 e

theorem fits_KernelIdeal (m : (ℓ : Loc Cert.KernelIdeal.nD Cert.KernelIdeal.τ Cert.KernelIdeal.sig) → Buf (Elt Ideal) ℓ) (h : Cert.Pre_KernelIdeal m) :
    Cert.KernelIdeal.Own.Fits m := Cert.KernelIdeal.Own.fits_of m fun x => by
  have e := congrFun (h 0) x
  exact sle_of _ 2048#32 e

/-- Over the extended reals the kernel's result and the reference's are the same function of the arguments. -/
theorem algebraic : Cert.algebraic_KernelIdeal_ReferenceIdeal (hKernelIdeal := Cert.KernelIdeal.Gen.facts)
    (hReferenceIdeal := Cert.ReferenceIdeal.Gen.facts) (hPre_cache_fits := Cert.Pre_cache_fits.Gen.facts) := by
  intro m g m' g' hpre hagree
  have hfit := fits_KernelIdeal m hpre
  refine ⟨fun c => Cert.KernelIdeal.Own.resultOf m c, ?_, ?_⟩
  · refine θ_run_mono (Cert.KernelIdeal.Own.run_main m g hfit) fun r h c => ?_
    exact ⟨((h.1 c).1 7).trans (Cert.KernelIdeal.Own.value m hfit c), Cert.KernelIdeal.Own.args_kept m h.1 c⟩
  · refine θ_run_mono (θ_run_and (Cert.ReferenceIdeal.Gen.run_main m' g') (Cert.ReferenceIdeal.Gen.unchanged m' g')) fun r h c => ?_
    refine ⟨((h.1 c).2 Cert.ReferenceIdeal.main_v127 (Pipeline.mem_restRefs_of Cert.ReferenceIdeal.main_v127 (by decide)
      (by exact (by decide : ∀ w, (Cert.ReferenceIdeal.spec0 w).arr.view.ref ≠ Cert.ReferenceIdeal.main_v127)))).trans
        ((Cert.ReferenceIdeal.Own.value m' c).trans ?_), h.2 c⟩
    obtain ⟨h0, h1, h2, h3, h4, h5, h6, h7⟩ := hagree c
    rw [h0, h1, h2, h3, h4, h5, h6, h7]
    rfl

theorem claim : Cert.Claim :=
  ⟨Cert.Kernel.Gen.facts, Cert.KernelIdeal.Gen.facts, Cert.ReferenceIdeal.Gen.facts, Cert.Pre_cache_fits.Gen.facts,
    fun m g h => Cert.Kernel.Own.quiet m g (fits_Kernel m h),
    fun m g h => Cert.KernelIdeal.Own.quiet m g (fits_KernelIdeal m h),
    fun m g _ => Cert.ReferenceIdeal.Gen.frame m g,
    fun m g _ => Cert.ReferenceIdeal.Gen.frame m g,
    trivial,
    algebraic⟩

end Cert.Proof

end
